-- ==== Defs.lean ====
def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_in_domain [hPre_in_domain : Cert.Pre_in_domain.Facts] (m : (ℓ : Loc Cert.LnIdeal.nD Cert.LnIdeal.τ Cert.LnIdeal.sig) → Buf (Elt Ideal) ℓ) : Prop :=
  ∀ c : Dev Cert.LnIdeal.nD,
    (Cert.Pre_in_domain.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_in_domain [hPre_in_domain : Cert.Pre_in_domain.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_in_domain.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_whole_in_domain [hPre_whole_in_domain : Cert.Pre_whole_in_domain.Facts] (m : (ℓ : Loc Cert.WholeIdeal.nD Cert.WholeIdeal.τ Cert.WholeIdeal.sig) → Buf (Elt Ideal) ℓ) : Prop :=
  ∀ c : Dev Cert.WholeIdeal.nD,
    (Cert.Pre_whole_in_domain.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_whole_in_domain [hPre_whole_in_domain : Cert.Pre_whole_in_domain.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_whole_in_domain.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5)) (m ((c.tc : Thread Cert.WholeReferenceIdeal.nD Cert.WholeReferenceIdeal.τ).loc Cert.WholeReferenceIdeal.main_arg6))) = (fun _ => 1#1)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1)
      ∧ r.2.mem ((c.tc : Thread Cert.Mm.nD Cert.Mm.τ).loc Cert.Mm.main_arg2) = m ((c.tc : Thread Cert.Mm.nD Cert.Mm.τ).loc Cert.Mm.main_arg2)
      ∧ r.2.mem ((c.tc : Thread Cert.Mm.nD Cert.Mm.τ).loc Cert.Mm.main_arg3) = m ((c.tc : Thread Cert.Mm.nD Cert.Mm.τ).loc Cert.Mm.main_arg3))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
      ∧ r.2.mem ((c.tc : Thread Cert.MmIdeal.nD Cert.MmIdeal.τ).loc Cert.MmIdeal.main_arg2) = m ((c.tc : Thread Cert.MmIdeal.nD Cert.MmIdeal.τ).loc Cert.MmIdeal.main_arg2)
      ∧ r.2.mem ((c.tc : Thread Cert.MmIdeal.nD Cert.MmIdeal.τ).loc Cert.MmIdeal.main_arg3) = m ((c.tc : Thread Cert.MmIdeal.nD Cert.MmIdeal.τ).loc Cert.MmIdeal.main_arg3))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1)
      ∧ r.2.mem ((c.tc : Thread Cert.MmReferenceIdeal.nD Cert.MmReferenceIdeal.τ).loc Cert.MmReferenceIdeal.main_arg2) = m ((c.tc : Thread Cert.MmReferenceIdeal.nD Cert.MmReferenceIdeal.τ).loc Cert.MmReferenceIdeal.main_arg2)
      ∧ r.2.mem ((c.tc : Thread Cert.MmReferenceIdeal.nD Cert.MmReferenceIdeal.τ).loc Cert.MmReferenceIdeal.main_arg3) = m ((c.tc : Thread Cert.MmReferenceIdeal.nD Cert.MmReferenceIdeal.τ).loc Cert.MmReferenceIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnIdeal_pre_in_domain [hLnIdeal : Cert.LnIdeal.Facts] [hPre_in_domain : Cert.Pre_in_domain.Facts] : Prop :=
  ∀ (m : (ℓ : Loc Cert.LnIdeal.nD Cert.LnIdeal.τ Cert.LnIdeal.sig) → Buf (Elt Ideal) ℓ) (g : Dev Cert.LnIdeal.nD → PrngReg), Pre_LnIdeal_in_domain m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_LnReferenceIdeal_pre_in_domain [hLnReferenceIdeal : Cert.LnReferenceIdeal.Facts] [hPre_in_domain : Cert.Pre_in_domain.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_in_domain m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeIdeal_pre_whole_in_domain [hWholeIdeal : Cert.WholeIdeal.Facts] [hPre_whole_in_domain : Cert.Pre_whole_in_domain.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_whole_in_domain m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def quiescent_WholeReferenceIdeal_pre_whole_in_domain [hWholeReferenceIdeal : Cert.WholeReferenceIdeal.Facts] [hPre_whole_in_domain : Cert.Pre_whole_in_domain.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_whole_in_domain m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def preserves_Mm_MmIdeal : Prop :=
  True

def algebraic_MmIdeal_MmReferenceIdeal [hMmIdeal : Cert.MmIdeal.Facts] [hMmReferenceIdeal : Cert.MmReferenceIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmIdeal m →
    (∀ c : Dev Cert.MmIdeal.nD,
      m' ((c.tc : Thread Cert.MmReferenceIdeal.nD Cert.MmReferenceIdeal.τ).loc Cert.MmReferenceIdeal.main_arg0) = m ((c.tc : Thread Cert.MmIdeal.nD Cert.MmIdeal.τ).loc Cert.MmIdeal.main_arg0)
      ∧ m' ((c.tc : Thread Cert.MmReferenceIdeal.nD Cert.MmReferenceIdeal.τ).loc Cert.MmReferenceIdeal.main_arg1) = m ((c.tc : Thread Cert.MmIdeal.nD Cert.MmIdeal.τ).loc Cert.MmIdeal.main_arg1)
      ∧ m' ((c.tc : Thread Cert.MmReferenceIdeal.nD Cert.MmReferenceIdeal.τ).loc Cert.MmReferenceIdeal.main_arg2) = m ((c.tc : Thread Cert.MmIdeal.nD Cert.MmIdeal.τ).loc Cert.MmIdeal.main_arg2)
      ∧ m' ((c.tc : Thread Cert.MmReferenceIdeal.nD Cert.MmReferenceIdeal.τ).loc Cert.MmReferenceIdeal.main_arg3) = m ((c.tc : Thread Cert.MmIdeal.nD Cert.MmIdeal.τ).loc Cert.MmIdeal.main_arg3)) →
    ∃ (v0 : (c : Dev Cert.MmIdeal.nD) → Buf (Elt Ideal) ((c.tc : Thread Cert.MmIdeal.nD Cert.MmIdeal.τ).loc Cert.MmIdeal.main_v3)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v3) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
          ∧ r.2.mem ((c.tc : Thread Cert.MmIdeal.nD Cert.MmIdeal.τ).loc Cert.MmIdeal.main_arg2) = m ((c.tc : Thread Cert.MmIdeal.nD Cert.MmIdeal.τ).loc Cert.MmIdeal.main_arg2)
          ∧ r.2.mem ((c.tc : Thread Cert.MmIdeal.nD Cert.MmIdeal.τ).loc Cert.MmIdeal.main_arg3) = m ((c.tc : Thread Cert.MmIdeal.nD Cert.MmIdeal.τ).loc Cert.MmIdeal.main_arg3))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v3) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1)
          ∧ r.2.mem ((c.tc : Thread Cert.MmReferenceIdeal.nD Cert.MmReferenceIdeal.τ).loc Cert.MmReferenceIdeal.main_arg2) = m' ((c.tc : Thread Cert.MmReferenceIdeal.nD Cert.MmReferenceIdeal.τ).loc Cert.MmReferenceIdeal.main_arg2)
          ∧ r.2.mem ((c.tc : Thread Cert.MmReferenceIdeal.nD Cert.MmReferenceIdeal.τ).loc Cert.MmReferenceIdeal.main_arg3) = m' ((c.tc : Thread Cert.MmReferenceIdeal.nD Cert.MmReferenceIdeal.τ).loc Cert.MmReferenceIdeal.main_arg3))

def preserves_Ln_LnIdeal : Prop :=
  True

def algebraic_LnIdeal_LnReferenceIdeal_pre_in_domain [hLnIdeal : Cert.LnIdeal.Facts] [hLnReferenceIdeal : Cert.LnReferenceIdeal.Facts] [hPre_in_domain : Cert.Pre_in_domain.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnIdeal_in_domain m →
    (∀ c : Dev Cert.LnIdeal.nD,
      m' ((c.tc : Thread Cert.LnReferenceIdeal.nD Cert.LnReferenceIdeal.τ).loc Cert.LnReferenceIdeal.main_arg0) = m ((c.tc : Thread Cert.LnIdeal.nD Cert.LnIdeal.τ).loc Cert.LnIdeal.main_arg0)
      ∧ m' ((c.tc : Thread Cert.LnReferenceIdeal.nD Cert.LnReferenceIdeal.τ).loc Cert.LnReferenceIdeal.main_arg1) = m ((c.tc : Thread Cert.LnIdeal.nD Cert.LnIdeal.τ).loc Cert.LnIdeal.main_arg1)
      ∧ m' ((c.tc : Thread Cert.LnReferenceIdeal.nD Cert.LnReferenceIdeal.τ).loc Cert.LnReferenceIdeal.main_arg2) = m ((c.tc : Thread Cert.LnIdeal.nD Cert.LnIdeal.τ).loc Cert.LnIdeal.main_arg2)
      ∧ m' ((c.tc : Thread Cert.LnReferenceIdeal.nD Cert.LnReferenceIdeal.τ).loc Cert.LnReferenceIdeal.main_arg3) = m ((c.tc : Thread Cert.LnIdeal.nD Cert.LnIdeal.τ).loc Cert.LnIdeal.main_arg3)
      ∧ m' ((c.tc : Thread Cert.LnReferenceIdeal.nD Cert.LnReferenceIdeal.τ).loc Cert.LnReferenceIdeal.main_arg4) = m ((c.tc : Thread Cert.LnIdeal.nD Cert.LnIdeal.τ).loc Cert.LnIdeal.main_arg4)) →
    ∃ (v0 : (c : Dev Cert.LnIdeal.nD) → Buf (Elt Ideal) ((c.tc : Thread Cert.LnIdeal.nD Cert.LnIdeal.τ).loc Cert.LnIdeal.main_v3_0)) (v1 : (c : Dev Cert.LnIdeal.nD) → Buf (Elt Ideal) ((c.tc : Thread Cert.LnIdeal.nD Cert.LnIdeal.τ).loc Cert.LnIdeal.main_v3_1)) (v2 : (c : Dev Cert.LnIdeal.nD) → Buf (Elt Ideal) ((c.tc : Thread Cert.LnIdeal.nD Cert.LnIdeal.τ).loc Cert.LnIdeal.main_v3_2)) (v3 : (c : Dev Cert.LnIdeal.nD) → Buf (Elt Ideal) ((c.tc : Thread Cert.LnIdeal.nD Cert.LnIdeal.τ).loc Cert.LnIdeal.main_v3_3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v3_0) = v0 c
          ∧ r.2.mem ((c.tc : Thread Cert.LnIdeal.nD Cert.LnIdeal.τ).loc Cert.LnIdeal.main_v3_1) = v1 c
          ∧ r.2.mem ((c.tc : Thread Cert.LnIdeal.nD Cert.LnIdeal.τ).loc Cert.LnIdeal.main_v3_2) = v2 c
          ∧ r.2.mem ((c.tc : Thread Cert.LnIdeal.nD Cert.LnIdeal.τ).loc Cert.LnIdeal.main_v3_3) = v3 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v106) = v0 c
          ∧ r.2.mem ((c.tc : Thread Cert.LnReferenceIdeal.nD Cert.LnReferenceIdeal.τ).loc Cert.LnReferenceIdeal.main_v102) = v1 c
          ∧ r.2.mem ((c.tc : Thread Cert.LnReferenceIdeal.nD Cert.LnReferenceIdeal.τ).loc Cert.LnReferenceIdeal.main_v77) = v2 c
          ∧ r.2.mem ((c.tc : Thread Cert.LnReferenceIdeal.nD Cert.LnReferenceIdeal.τ).loc Cert.LnReferenceIdeal.main_v79) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3)
          ∧ r.2.mem ((c.tc : Thread Cert.LnReferenceIdeal.nD Cert.LnReferenceIdeal.τ).loc Cert.LnReferenceIdeal.main_arg4) = m' ((c.tc : Thread Cert.LnReferenceIdeal.nD Cert.LnReferenceIdeal.τ).loc Cert.LnReferenceIdeal.main_arg4))

def preserves_Whole_WholeIdeal : Prop :=
  True

def algebraic_WholeIdeal_WholeReferenceIdeal_pre_whole_in_domain [hWholeIdeal : Cert.WholeIdeal.Facts] [hWholeReferenceIdeal : Cert.WholeReferenceIdeal.Facts] [hPre_whole_in_domain : Cert.Pre_whole_in_domain.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_whole_in_domain m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)) →
    ∃ (v0 : (c : Dev Cert.WholeIdeal.nD) → Buf (Elt Ideal) ((c.tc : Thread Cert.WholeIdeal.nD Cert.WholeIdeal.τ).loc Cert.WholeIdeal.main_v7)) (v1 : (c : Dev Cert.WholeIdeal.nD) → Buf (Elt Ideal) ((c.tc : Thread Cert.WholeIdeal.nD Cert.WholeIdeal.τ).loc Cert.WholeIdeal.main_v3_0)) (v2 : (c : Dev Cert.WholeIdeal.nD) → Buf (Elt Ideal) ((c.tc : Thread Cert.WholeIdeal.nD Cert.WholeIdeal.τ).loc Cert.WholeIdeal.main_v3_1)) (v3 : (c : Dev Cert.WholeIdeal.nD) → Buf (Elt Ideal) ((c.tc : Thread Cert.WholeIdeal.nD Cert.WholeIdeal.τ).loc Cert.WholeIdeal.main_v3_2)) (v4 : (c : Dev Cert.WholeIdeal.nD) → Buf (Elt Ideal) ((c.tc : Thread Cert.WholeIdeal.nD Cert.WholeIdeal.τ).loc Cert.WholeIdeal.main_v3_3)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v7) = v0 c
          ∧ r.2.mem ((c.tc : Thread Cert.WholeIdeal.nD Cert.WholeIdeal.τ).loc Cert.WholeIdeal.main_v3_0) = v1 c
          ∧ r.2.mem ((c.tc : Thread Cert.WholeIdeal.nD Cert.WholeIdeal.τ).loc Cert.WholeIdeal.main_v3_1) = v2 c
          ∧ r.2.mem ((c.tc : Thread Cert.WholeIdeal.nD Cert.WholeIdeal.τ).loc Cert.WholeIdeal.main_v3_2) = v3 c
          ∧ r.2.mem ((c.tc : Thread Cert.WholeIdeal.nD Cert.WholeIdeal.τ).loc Cert.WholeIdeal.main_v3_3) = v4 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v109_1) = v0 c
          ∧ r.2.mem ((c.tc : Thread Cert.WholeReferenceIdeal.nD Cert.WholeReferenceIdeal.τ).loc Cert.WholeReferenceIdeal.main_v110) = v1 c
          ∧ r.2.mem ((c.tc : Thread Cert.WholeReferenceIdeal.nD Cert.WholeReferenceIdeal.τ).loc Cert.WholeReferenceIdeal.main_v102) = v2 c
          ∧ r.2.mem ((c.tc : Thread Cert.WholeReferenceIdeal.nD Cert.WholeReferenceIdeal.τ).loc Cert.WholeReferenceIdeal.main_v77) = v3 c
          ∧ r.2.mem ((c.tc : Thread Cert.WholeReferenceIdeal.nD Cert.WholeReferenceIdeal.τ).loc Cert.WholeReferenceIdeal.main_v79) = v4 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6))

def Claim : Prop :=
  ∃ (hMm : Cert.Mm.Facts) (hMmIdeal : Cert.MmIdeal.Facts) (hMmReferenceIdeal : Cert.MmReferenceIdeal.Facts) (hLn : Cert.Ln.Facts) (hLnIdeal : Cert.LnIdeal.Facts) (hLnReferenceIdeal : Cert.LnReferenceIdeal.Facts) (hWhole : Cert.Whole.Facts) (hWholeIdeal : Cert.WholeIdeal.Facts) (hWholeReferenceIdeal : Cert.WholeReferenceIdeal.Facts) (hPre_in_domain : Cert.Pre_in_domain.Facts) (hPre_whole_in_domain : Cert.Pre_whole_in_domain.Facts),
    quiescent_Mm (hMm := hMm)
    ∧ quiescent_MmIdeal (hMmIdeal := hMmIdeal)
    ∧ quiescent_MmReferenceIdeal (hMmReferenceIdeal := hMmReferenceIdeal)
    ∧ quiescent_Ln (hLn := hLn)
    ∧ quiescent_LnIdeal (hLnIdeal := hLnIdeal)
    ∧ quiescent_LnIdeal_pre_in_domain (hLnIdeal := hLnIdeal) (hPre_in_domain := hPre_in_domain)
    ∧ quiescent_LnReferenceIdeal (hLnReferenceIdeal := hLnReferenceIdeal)
    ∧ quiescent_LnReferenceIdeal_pre_in_domain (hLnReferenceIdeal := hLnReferenceIdeal) (hPre_in_domain := hPre_in_domain)
    ∧ quiescent_Whole (hWhole := hWhole)
    ∧ quiescent_WholeIdeal (hWholeIdeal := hWholeIdeal)
    ∧ quiescent_WholeIdeal_pre_whole_in_domain (hWholeIdeal := hWholeIdeal) (hPre_whole_in_domain := hPre_whole_in_domain)
    ∧ quiescent_WholeReferenceIdeal (hWholeReferenceIdeal := hWholeReferenceIdeal)
    ∧ quiescent_WholeReferenceIdeal_pre_whole_in_domain (hWholeReferenceIdeal := hWholeReferenceIdeal) (hPre_whole_in_domain := hPre_whole_in_domain)
    ∧ preserves_Mm_MmIdeal
    ∧ algebraic_MmIdeal_MmReferenceIdeal (hMmIdeal := hMmIdeal) (hMmReferenceIdeal := hMmReferenceIdeal)
    ∧ preserves_Ln_LnIdeal
    ∧ algebraic_LnIdeal_LnReferenceIdeal_pre_in_domain (hLnIdeal := hLnIdeal) (hLnReferenceIdeal := hLnReferenceIdeal) (hPre_in_domain := hPre_in_domain)
    ∧ preserves_Whole_WholeIdeal
    ∧ algebraic_WholeIdeal_WholeReferenceIdeal_pre_whole_in_domain (hWholeIdeal := hWholeIdeal) (hWholeReferenceIdeal := hWholeReferenceIdeal) (hPre_whole_in_domain := hPre_whole_in_domain)
-- ==== Pre_in_domain.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S_ : Shape := ⟨0, ![]⟩
abbrev S7x256 : Shape := ⟨2, ![7, 256]⟩
abbrev S7x256x1 : Shape := ⟨3, ![7, 256, 1]⟩
abbrev S1x1x2048 : Shape := ⟨3, ![1, 1, 2048]⟩
abbrev S256 : Shape := ⟨1, ![256]⟩
abbrev S1x256 : Shape := ⟨2, ![1, 256]⟩
abbrev S7x1 : Shape := ⟨2, ![7, 1]⟩
abbrev S7x1x2048 : Shape := ⟨3, ![7, 1, 2048]⟩

class Facts : Prop where
  bitsLt_bf16_f32 : FTy.bits .bf16 < FTy.bits .f32
  reducesTo_S7x256x2048_S7x256_d2 : S7x256x2048.ReducesTo [2] S7x256
  h_S_ : 0 < S_.numel
  bcast_S7x256_S7x256x1_0_1 : S7x256.BroadcastsInDim S7x256x1 (![0, 1] : Fin 2 → Fin S7x256x1.rank)
  bcast_S_S7x256x1 : S_.BroadcastsInDim S7x256x1 (![] : Fin 0 → Fin S7x256x1.rank)
  bcast_S7x256x1_S7x256x2048_0_1_2 : S7x256x1.BroadcastsInDim S7x256x2048 (![0, 1, 2] : Fin 3 → Fin S7x256x2048.rank)
  bcast_S2048_S1x1x2048_2 : S2048.BroadcastsInDim S1x1x2048 (![2] : Fin 1 → Fin S1x1x2048.rank)
  bcast_S1x1x2048_S7x256x2048_0_1_2 : S1x1x2048.BroadcastsInDim S7x256x2048 (![0, 1, 2] : Fin 3 → Fin S7x256x2048.rank)
  bcast_S256_S1x256_1 : S256.BroadcastsInDim S1x256 (![1] : Fin 1 → Fin S1x256.rank)
  bcast_S7_S7x1_0 : S7.BroadcastsInDim S7x1 (![0] : Fin 1 → Fin S7x1.rank)
  bcast_S1x256_S7x256_0_1 : S1x256.BroadcastsInDim S7x256 (![0, 1] : Fin 2 → Fin S7x256.rank)
  bcast_S7x1_S7x256_0_1 : S7x1.BroadcastsInDim S7x256 (![0, 1] : Fin 2 → Fin S7x256.rank)
  bcast_S7x1_S7x2048_0_1 : S7x1.BroadcastsInDim S7x2048 (![0, 1] : Fin 2 → Fin S7x2048.rank)
  reducesTo_S7x2048_S7_d1 : S7x2048.ReducesTo [1] S7
  bcast_S7x2048_S7x1x2048_0_2 : S7x2048.BroadcastsInDim S7x1x2048 (![0, 2] : Fin 2 → Fin S7x1x2048.rank)
  bcast_S7x1x2048_S7x256x2048_0_1_2 : S7x1x2048.BroadcastsInDim S7x256x2048 (![0, 1, 2] : Fin 3 → Fin S7x256x2048.rank)
  bcast_S_S7x256x2048 : S_.BroadcastsInDim S7x256x2048 (![] : Fin 0 → Fin S7x256x2048.rank)
  reducesTo_S7x256x2048_S_d0_1_2 : S7x256x2048.ReducesTo [0, 1, 2] S_
  bcast_S_S2048 : S_.BroadcastsInDim S2048 (![] : Fin 0 → Fin S2048.rank)
  reducesTo_S2048_S_d0 : S2048.ReducesTo [0] S_
  bcast_S_S7x2048 : S_.BroadcastsInDim S7x2048 (![] : Fin 0 → Fin S7x2048.rank)
  reducesTo_S7x2048_S_d0_1 : S7x2048.ReducesTo [0, 1] S_
  bcast_S_S7 : S_.BroadcastsInDim S7 (![] : Fin 0 → Fin S7.rank)
  reducesTo_S7_S_d0 : S7.ReducesTo [0] S_
  bcast_S_S7x1 : S_.BroadcastsInDim S7x1 (![] : Fin 0 → Fin S7x1.rank)
  reducesTo_S7x1_S_d0_1 : S7x1.ReducesTo [0, 1] S_
  dot_S7x256_S7x256x2048_S7x2048_1_1_n_2_0_0_wf : DotDims.WF S7x256 S7x256x2048 S7x2048 [1] [1] [] [2] [0] [0]

variable [Facts]

def dot_S7x256_S7x256x2048_S7x2048_1_1_n_2_0_0 : DotDims S7x256 S7x256x2048 S7x2048 where
  lhsContracting := [1]
  rhsContracting := [1]
  lhsNonContracting := []
  rhsNonContracting := [2]
  lhsBatch := [0]
  rhsBatch := [0]
  wf := dot_S7x256_S7x256x2048_S7x2048_1_1_n_2_0_0_wf
def fn_part5 {F : FTy → Type} [FloatOps F] (main_v38 : FVec F S7x1 .f32) (main_v74 : FVec F S7x256x2048 .f32) (main_v98 : IVec S_ 1) : IVec S_ 1 :=
  let main_cst_19 : FVec F S_ .f32 := constant S_ .f32 0x00000000#32
  let main_v99 : FVec F S7x1 .f32 := broadcastInDim S7x1 ![] bcast_S_S7x1 main_cst_19
  let main_v100 : IVec S7x1 1 := cmpf .ogt main_v38 main_v99
  let main_c_20 : IVec S_ 1 := constantI S_ 1 1#1
  let main_v101 : IVec S_ 1 := (fun x v => Host.reduce IntOp.andi x v reducesTo_S7x1_S_d0_1 h_S_) main_v100 main_c_20
  let main_v102 : FVec F S7x256x2048 .f32 := Host.absf main_v74
  let main_cst_21 : FVec F S_ .f32 := constant S_ .f32 0x7F7FFFFF#32
  let main_v103 : FVec F S7x256x2048 .f32 := broadcastInDim S7x256x2048 ![] bcast_S_S7x256x2048 main_cst_21
  let main_v104 : IVec S7x256x2048 1 := cmpf .ole main_v102 main_v103
  let main_c_22 : IVec S_ 1 := constantI S_ 1 1#1
  let main_v105 : IVec S_ 1 := (fun x v => Host.reduce IntOp.andi x v reducesTo_S7x256x2048_S_d0_1_2 h_S_) main_v104 main_c_22
  let main_v106 : IVec S_ 1 := andi main_v101 main_v105
  let main_v107 : IVec S_ 1 := andi main_v98 main_v106
  main_v107

def fn_part4 {F : FTy → Type} [FloatOps F] (main_arg2 : FVec F S2048 .f32) (main_arg3 : IVec S7 32) (main_arg4 : FVec F S7x2048 .f32) (main_v38 : FVec F S7x1 .f32) (main_v74 : FVec F S7x256x2048 .f32) (main_v79 : IVec S_ 1) (main_v80 : FVec F S2048 .f32) (main_v81 : FVec F S2048 .f32) : IVec S_ 1 :=
  let main_v82 : IVec S2048 1 := cmpf .olt main_v80 main_v81
  let main_c_12 : IVec S_ 1 := constantI S_ 1 1#1
  let main_v83 : IVec S_ 1 := (fun x v => Host.reduce IntOp.andi x v reducesTo_S2048_S_d0 h_S_) main_v82 main_c_12
  let main_v84 : IVec S_ 1 := andi main_v79 main_v83
  let main_v85 : FVec F S2048 .f32 := Host.absf main_arg2
  let main_cst_13 : FVec F S_ .f32 := constant S_ .f32 0x7F800000#32
  let main_v86 : FVec F S2048 .f32 := broadcastInDim S2048 ![] bcast_S_S2048 main_cst_13
  let main_v87 : IVec S2048 1 := cmpf .olt main_v85 main_v86
  let main_c_14 : IVec S_ 1 := constantI S_ 1 1#1
  let main_v88 : IVec S_ 1 := (fun x v => Host.reduce IntOp.andi x v reducesTo_S2048_S_d0 h_S_) main_v87 main_c_14
  let main_v89 : IVec S_ 1 := andi main_v84 main_v88
  let main_v90 : FVec F S7x2048 .f32 := Host.absf main_arg4
  let main_cst_15 : FVec F S_ .f32 := constant S_ .f32 0x7F800000#32
  let main_v91 : FVec F S7x2048 .f32 := broadcastInDim S7x2048 ![] bcast_S_S7x2048 main_cst_15
  let main_v92 : IVec S7x2048 1 := cmpf .olt main_v90 main_v91
  let main_c_16 : IVec S_ 1 := constantI S_ 1 1#1
  let main_v93 : IVec S_ 1 := (fun x v => Host.reduce IntOp.andi x v reducesTo_S7x2048_S_d0_1 h_S_) main_v92 main_c_16
  let main_v94 : IVec S_ 1 := andi main_v89 main_v93
  let main_c_17 : IVec S_ 32 := constantI S_ 32 1#32
  let main_v95 : IVec S7 32 := broadcastInDim S7 ![] bcast_S_S7 main_c_17
  let main_v96 : IVec S7 1 := cmpi .sge main_arg3 main_v95
  let main_c_18 : IVec S_ 1 := constantI S_ 1 1#1
  let main_v97 : IVec S_ 1 := (fun x v => Host.reduce IntOp.andi x v reducesTo_S7_S_d0 h_S_) main_v96 main_c_18
  let main_v98 : IVec S_ 1 := andi main_v94 main_v97
  fn_part5 (F := F) main_v38 main_v74 main_v98

def fn_part3 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v38 : FVec F S7x1 .f32) (main_v58 : FVec F S7x256x2048 .f32) (main_v62 : FVec F S7x256x1 .f32) : IVec S_ 1 :=
  let main_v63 : FVec F S7x256x2048 .f32 := broadcastInDim S7x256x2048 ![0, 1, 2] bcast_S7x256x1_S7x256x2048_0_1_2 main_v62
  let main_v64 : FVec F S7x256x2048 .f32 := subf main_v58 main_v63
  let main_v65 : FVec F S7x256x2048 .f32 := mulf main_v58 main_v16
  let main_cst_8 : FVec F S_ .f32 := constant S_ .f32 0x00000000#32
  let main_v66 : FVec F S7x256 .f32 := (fun x v => Host.reduceAdd x v reducesTo_S7x256x2048_S7x256_d2 h_S_) main_v65 main_cst_8
  let main_v67 : FVec F S7x256x1 .f32 := broadcastInDim S7x256x1 ![0, 1] bcast_S7x256_S7x256x1_0_1 main_v66
  let main_cst_9 : FVec F S_ .f32 := constant S_ .f32 0x45000000#32
  let main_v68 : FVec F S7x256x1 .f32 := broadcastInDim S7x256x1 ![] bcast_S_S7x256x1 main_cst_9
  let main_v69 : FVec F S7x256x1 .f32 := Host.divf main_v67 main_v68
  let main_v70 : FVec F S7x256x2048 .f32 := broadcastInDim S7x256x2048 ![0, 1, 2] bcast_S7x256x1_S7x256x2048_0_1_2 main_v69
  let main_v71 : FVec F S7x256x2048 .f32 := mulf main_v16 main_v70
  let main_v72 : FVec F S7x256x2048 .f32 := subf main_v64 main_v71
  let main_v73 : FVec F S7x256x2048 .f32 := broadcastInDim S7x256x2048 ![0, 1, 2] bcast_S7x256x1_S7x256x2048_0_1_2 main_v14
  let main_v74 : FVec F S7x256x2048 .f32 := mulf main_v73 main_v72
  let main_v75 : FVec F S7x256x2048 .f32 := (extf .f32 · bitsLt_bf16_f32) main_arg0
  let main_v76 : FVec F S7x256x2048 .f32 := Host.absf main_v75
  let main_cst_10 : FVec F S_ .f32 := constant S_ .f32 0x7F800000#32
  let main_v77 : FVec F S7x256x2048 .f32 := broadcastInDim S7x256x2048 ![] bcast_S_S7x256x2048 main_cst_10
  let main_v78 : IVec S7x256x2048 1 := cmpf .olt main_v76 main_v77
  let main_c : IVec S_ 1 := constantI S_ 1 1#1
  let main_v79 : IVec S_ 1 := (fun x v => Host.reduce IntOp.andi x v reducesTo_S7x256x2048_S_d0_1_2 h_S_) main_v78 main_c
  let main_v80 : FVec F S2048 .f32 := Host.absf main_arg1
  let main_cst_11 : FVec F S_ .f32 := constant S_ .f32 0x7F800000#32
  let main_v81 : FVec F S2048 .f32 := broadcastInDim S2048 ![] bcast_S_S2048 main_cst_11
  fn_part4 (F := F) main_arg2 main_arg3 main_arg4 main_v38 main_v74 main_v79 main_v80 main_v81

def fn_part2 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v29 : FVec F S7x256 .f32) (main_v31 : FVec F S7x1 .f32) (main_v38 : FVec F S7x1 .f32) (main_v40 : FVec F S7x2048 .f32) (main_v41 : FVec F S7x2048 .f32) : IVec S_ 1 :=
  let main_cst_5 : FVec F S_ .f32 := constant S_ .f32 0x00000000#32
  let main_v42 : FVec F S7 .f32 := (fun x v => Host.reduceAdd x v reducesTo_S7x2048_S7_d1 h_S_) main_v41 main_cst_5
  let main_v43 : FVec F S7x1 .f32 := broadcastInDim S7x1 ![0] bcast_S7_S7x1_0 main_v42
  let main_v44 : FVec F S7x2048 .f32 := broadcastInDim S7x2048 ![0, 1] bcast_S7x1_S7x2048_0_1 main_v43
  let main_v45 : FVec F S7x2048 .f32 := mulf main_v40 main_v44
  let main_v46 : FVec F S7x2048 .f32 := subf main_arg4 main_v45
  let main_v47 : FVec F S7x2048 .f32 := broadcastInDim S7x2048 ![0, 1] bcast_S7x1_S7x2048_0_1 main_v38
  let main_v48 : FVec F S7x2048 .f32 := Host.divf main_v46 main_v47
  let main_v49 : FVec F S7x256x1 .f32 := broadcastInDim S7x256x1 ![0, 1] bcast_S7x256_S7x256x1_0_1 main_v29
  let main_v50 : FVec F S7x2048 .f32 := broadcastInDim S7x2048 ![0, 1] bcast_S7x1_S7x2048_0_1 main_v31
  let main_v51 : FVec F S7x2048 .f32 := Host.divf main_v48 main_v50
  let main_v52 : FVec F S7x1x2048 .f32 := broadcastInDim S7x1x2048 ![0, 2] bcast_S7x2048_S7x1x2048_0_2 main_v51
  let main_v53 : FVec F S7x256x2048 .f32 := broadcastInDim S7x256x2048 ![0, 1, 2] bcast_S7x256x1_S7x256x2048_0_1_2 main_v49
  let main_v54 : FVec F S7x256x2048 .f32 := broadcastInDim S7x256x2048 ![0, 1, 2] bcast_S7x1x2048_S7x256x2048_0_1_2 main_v52
  let main_v55 : FVec F S7x256x2048 .f32 := mulf main_v53 main_v54
  let main_v56 : FVec F S1x1x2048 .f32 := broadcastInDim S1x1x2048 ![2] bcast_S2048_S1x1x2048_2 main_arg1
  let main_v57 : FVec F S7x256x2048 .f32 := broadcastInDim S7x256x2048 ![0, 1, 2] bcast_S1x1x2048_S7x256x2048_0_1_2 main_v56
  let main_v58 : FVec F S7x256x2048 .f32 := mulf main_v55 main_v57
  let main_cst_6 : FVec F S_ .f32 := constant S_ .f32 0x00000000#32
  let main_v59 : FVec F S7x256 .f32 := (fun x v => Host.reduceAdd x v reducesTo_S7x256x2048_S7x256_d2 h_S_) main_v58 main_cst_6
  let main_v60 : FVec F S7x256x1 .f32 := broadcastInDim S7x256x1 ![0, 1] bcast_S7x256_S7x256x1_0_1 main_v59
  let main_cst_7 : FVec F S_ .f32 := constant S_ .f32 0x45000000#32
  let main_v61 : FVec F S7x256x1 .f32 := broadcastInDim S7x256x1 ![] bcast_S_S7x256x1 main_cst_7
  let main_v62 : FVec F S7x256x1 .f32 := Host.divf main_v60 main_v61
  fn_part3 (F := F) main_arg0 main_arg1 main_arg2 main_arg3 main_arg4 main_v14 main_v16 main_v38 main_v58 main_v62

def fn_part1 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v18 : FVec F S7x256x2048 .f32) : IVec S_ 1 :=
  let main_v19 : FVec F S7x256x2048 .f32 := mulf main_v16 main_v18
  let main_v20 : FVec F S1x1x2048 .f32 := broadcastInDim S1x1x2048 ![2] bcast_S2048_S1x1x2048_2 main_arg2
  let main_v21 : FVec F S7x256x2048 .f32 := broadcastInDim S7x256x2048 ![0, 1, 2] bcast_S1x1x2048_S7x256x2048_0_1_2 main_v20
  let main_v22 : FVec F S7x256x2048 .f32 := addf main_v19 main_v21
  let main_v23 : IVec S256 32 := iotaInDim S256 32 0
  let main_v24 : IVec S1x256 32 := broadcastInDim S1x256 ![1] bcast_S256_S1x256_1 main_v23
  let main_v25 : IVec S7x1 32 := broadcastInDim S7x1 ![0] bcast_S7_S7x1_0 main_arg3
  let main_v26 : IVec S7x256 32 := broadcastInDim S7x256 ![0, 1] bcast_S1x256_S7x256_0_1 main_v24
  let main_v27 : IVec S7x256 32 := broadcastInDim S7x256 ![0, 1] bcast_S7x1_S7x256_0_1 main_v25
  let main_v28 : IVec S7x256 1 := cmpi .slt main_v26 main_v27
  let main_v29 : FVec F S7x256 .f32 := uitofp .f32 main_v28
  let main_v30 : FVec F S7 .f32 := sitofp .f32 main_arg3
  let main_v31 : FVec F S7x1 .f32 := broadcastInDim S7x1 ![0] bcast_S7_S7x1_0 main_v30
  let main_v32 : FVec F S7x2048 .f32 := (fun l r => Host.dotGeneral dot_S7x256_S7x256x2048_S7x2048_1_1_n_2_0_0 (some .fp32) l r) main_v29 main_v22
  let main_v33 : FVec F S7x2048 .f32 := broadcastInDim S7x2048 ![0, 1] bcast_S7x1_S7x2048_0_1 main_v31
  let main_v34 : FVec F S7x2048 .f32 := Host.divf main_v32 main_v33
  let main_v35 : FVec F S7x2048 .f32 := mulf main_v34 main_v34
  let main_cst_4 : FVec F S_ .f32 := constant S_ .f32 0x00000000#32
  let main_v36 : FVec F S7 .f32 := (fun x v => Host.reduceAdd x v reducesTo_S7x2048_S7_d1 h_S_) main_v35 main_cst_4
  let main_v37 : FVec F S7x1 .f32 := broadcastInDim S7x1 ![0] bcast_S7_S7x1_0 main_v36
  let main_v38 : FVec F S7x1 .f32 := Host.sqrt main_v37
  let main_v39 : FVec F S7x2048 .f32 := broadcastInDim S7x2048 ![0, 1] bcast_S7x1_S7x2048_0_1 main_v38
  let main_v40 : FVec F S7x2048 .f32 := Host.divf main_v34 main_v39
  let main_v41 : FVec F S7x2048 .f32 := mulf main_v40 main_arg4
  fn_part2 (F := F) main_arg0 main_arg1 main_arg2 main_arg3 main_arg4 main_v14 main_v16 main_v29 main_v31 main_v38 main_v40 main_v41

def fn {F : FTy → Type} [FloatOps F] (main_arg0 : FVec F S7x256x2048 .bf16) (main_arg1 : FVec F S2048 .f32) (main_arg2 : FVec F S2048 .f32) (main_arg3 : IVec S7 32) (main_arg4 : FVec F S7x2048 .f32) : IVec S_ 1 :=
  let main_v0 : FVec F S7x256x2048 .f32 := (extf .f32 · bitsLt_bf16_f32) main_arg0
  let main_cst : FVec F S_ .f32 := constant S_ .f32 0x00000000#32
  let main_v1 : FVec F S7x256 .f32 := (fun x v => Host.reduceAdd x v reducesTo_S7x256x2048_S7x256_d2 h_S_) main_v0 main_cst
  let main_v2 : FVec F S7x256x1 .f32 := broadcastInDim S7x256x1 ![0, 1] bcast_S7x256_S7x256x1_0_1 main_v1
  let main_cst_0 : FVec F S_ .f32 := constant S_ .f32 0x45000000#32
  let main_v3 : FVec F S7x256x1 .f32 := broadcastInDim S7x256x1 ![] bcast_S_S7x256x1 main_cst_0
  let main_v4 : FVec F S7x256x1 .f32 := Host.divf main_v2 main_v3
  let main_v5 : FVec F S7x256x2048 .f32 := broadcastInDim S7x256x2048 ![0, 1, 2] bcast_S7x256x1_S7x256x2048_0_1_2 main_v4
  let main_v6 : FVec F S7x256x2048 .f32 := subf main_v0 main_v5
  let main_v7 : FVec F S7x256x2048 .f32 := mulf main_v6 main_v6
  let main_cst_1 : FVec F S_ .f32 := constant S_ .f32 0x00000000#32
  let main_v8 : FVec F S7x256 .f32 := (fun x v => Host.reduceAdd x v reducesTo_S7x256x2048_S7x256_d2 h_S_) main_v7 main_cst_1
  let main_v9 : FVec F S7x256x1 .f32 := broadcastInDim S7x256x1 ![0, 1] bcast_S7x256_S7x256x1_0_1 main_v8
  let main_cst_2 : FVec F S_ .f32 := constant S_ .f32 0x45000000#32
  let main_v10 : FVec F S7x256x1 .f32 := broadcastInDim S7x256x1 ![] bcast_S_S7x256x1 main_cst_2
  let main_v11 : FVec F S7x256x1 .f32 := Host.divf main_v9 main_v10
  let main_cst_3 : FVec F S_ .f32 := constant S_ .f32 0x3727C5AC#32
  let main_v12 : FVec F S7x256x1 .f32 := broadcastInDim S7x256x1 ![] bcast_S_S7x256x1 main_cst_3
  let main_v13 : FVec F S7x256x1 .f32 := addf main_v11 main_v12
  let main_v14 : FVec F S7x256x1 .f32 := Host.rsqrt main_v13
  let main_v15 : FVec F S7x256x2048 .f32 := broadcastInDim S7x256x2048 ![0, 1, 2] bcast_S7x256x1_S7x256x2048_0_1_2 main_v14
  let main_v16 : FVec F S7x256x2048 .f32 := mulf main_v6 main_v15
  let main_v17 : FVec F S1x1x2048 .f32 := broadcastInDim S1x1x2048 ![2] bcast_S2048_S1x1x2048_2 main_arg1
  let main_v18 : FVec F S7x256x2048 .f32 := broadcastInDim S7x256x2048 ![0, 1, 2] bcast_S1x1x2048_S7x256x2048_0_1_2 main_v17
  fn_part1 (F := F) main_arg0 main_arg1 main_arg2 main_arg3 main_arg4 main_v14 main_v16 main_v18
-- ==== Pre_whole_in_domain.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S5632x2048 : Shape := ⟨2, ![5632, 2048]⟩
abbrev S5632 : Shape := ⟨1, ![5632]⟩
abbrev S_ : Shape := ⟨0, ![]⟩
abbrev S7x256 : Shape := ⟨2, ![7, 256]⟩
abbrev S7x256x1 : Shape := ⟨3, ![7, 256, 1]⟩
abbrev S1x1x2048 : Shape := ⟨3, ![1, 1, 2048]⟩
abbrev S256 : Shape := ⟨1, ![256]⟩
abbrev S1x256 : Shape := ⟨2, ![1, 256]⟩
abbrev S7x1 : Shape := ⟨2, ![7, 1]⟩
abbrev S7x1x2048 : Shape := ⟨3, ![7, 1, 2048]⟩

class Facts : Prop where
  bitsLt_bf16_f32 : FTy.bits .bf16 < FTy.bits .f32
  reducesTo_S7x256x2048_S7x256_d2 : S7x256x2048.ReducesTo [2] S7x256
  h_S_ : 0 < S_.numel
  bcast_S7x256_S7x256x1_0_1 : S7x256.BroadcastsInDim S7x256x1 (![0, 1] : Fin 2 → Fin S7x256x1.rank)
  bcast_S_S7x256x1 : S_.BroadcastsInDim S7x256x1 (![] : Fin 0 → Fin S7x256x1.rank)
  bcast_S7x256x1_S7x256x2048_0_1_2 : S7x256x1.BroadcastsInDim S7x256x2048 (![0, 1, 2] : Fin 3 → Fin S7x256x2048.rank)
  bcast_S2048_S1x1x2048_2 : S2048.BroadcastsInDim S1x1x2048 (![2] : Fin 1 → Fin S1x1x2048.rank)
  bcast_S1x1x2048_S7x256x2048_0_1_2 : S1x1x2048.BroadcastsInDim S7x256x2048 (![0, 1, 2] : Fin 3 → Fin S7x256x2048.rank)
  bcast_S256_S1x256_1 : S256.BroadcastsInDim S1x256 (![1] : Fin 1 → Fin S1x256.rank)
  bcast_S7_S7x1_0 : S7.BroadcastsInDim S7x1 (![0] : Fin 1 → Fin S7x1.rank)
  bcast_S1x256_S7x256_0_1 : S1x256.BroadcastsInDim S7x256 (![0, 1] : Fin 2 → Fin S7x256.rank)
  bcast_S7x1_S7x256_0_1 : S7x1.BroadcastsInDim S7x256 (![0, 1] : Fin 2 → Fin S7x256.rank)
  bcast_S7x1_S7x2048_0_1 : S7x1.BroadcastsInDim S7x2048 (![0, 1] : Fin 2 → Fin S7x2048.rank)
  reducesTo_S7x2048_S7_d1 : S7x2048.ReducesTo [1] S7
  bcast_S7x2048_S7x1x2048_0_2 : S7x2048.BroadcastsInDim S7x1x2048 (![0, 2] : Fin 2 → Fin S7x1x2048.rank)
  bcast_S7x1x2048_S7x256x2048_0_1_2 : S7x1x2048.BroadcastsInDim S7x256x2048 (![0, 1, 2] : Fin 3 → Fin S7x256x2048.rank)
  bcast_S_S7x256x2048 : S_.BroadcastsInDim S7x256x2048 (![] : Fin 0 → Fin S7x256x2048.rank)
  reducesTo_S7x256x2048_S_d0_1_2 : S7x256x2048.ReducesTo [0, 1, 2] S_
  bcast_S_S2048 : S_.BroadcastsInDim S2048 (![] : Fin 0 → Fin S2048.rank)
  reducesTo_S2048_S_d0 : S2048.ReducesTo [0] S_
  bcast_S_S7x2048 : S_.BroadcastsInDim S7x2048 (![] : Fin 0 → Fin S7x2048.rank)
  reducesTo_S7x2048_S_d0_1 : S7x2048.ReducesTo [0, 1] S_
  bcast_S_S7 : S_.BroadcastsInDim S7 (![] : Fin 0 → Fin S7.rank)
  reducesTo_S7_S_d0 : S7.ReducesTo [0] S_
  bcast_S_S7x1 : S_.BroadcastsInDim S7x1 (![] : Fin 0 → Fin S7x1.rank)
  reducesTo_S7x1_S_d0_1 : S7x1.ReducesTo [0, 1] S_
  dot_S7x256_S7x256x2048_S7x2048_1_1_n_2_0_0_wf : DotDims.WF S7x256 S7x256x2048 S7x2048 [1] [1] [] [2] [0] [0]

variable [Facts]

def dot_S7x256_S7x256x2048_S7x2048_1_1_n_2_0_0 : DotDims S7x256 S7x256x2048 S7x2048 where
  lhsContracting := [1]
  rhsContracting := [1]
  lhsNonContracting := []
  rhsNonContracting := [2]
  lhsBatch := [0]
  rhsBatch := [0]
  wf := dot_S7x256_S7x256x2048_S7x2048_1_1_n_2_0_0_wf
def fn_part5 {F : FTy → Type} [FloatOps F] (main_v38 : FVec F S7x1 .f32) (main_v74 : FVec F S7x256x2048 .f32) (main_v98 : IVec S_ 1) : IVec S_ 1 :=
  let main_cst_19 : FVec F S_ .f32 := constant S_ .f32 0x00000000#32
  let main_v99 : FVec F S7x1 .f32 := broadcastInDim S7x1 ![] bcast_S_S7x1 main_cst_19
  let main_v100 : IVec S7x1 1 := cmpf .ogt main_v38 main_v99
  let main_c_20 : IVec S_ 1 := constantI S_ 1 1#1
  let main_v101 : IVec S_ 1 := (fun x v => Host.reduce IntOp.andi x v reducesTo_S7x1_S_d0_1 h_S_) main_v100 main_c_20
  let main_v102 : FVec F S7x256x2048 .f32 := Host.absf main_v74
  let main_cst_21 : FVec F S_ .f32 := constant S_ .f32 0x7F7FFFFF#32
  let main_v103 : FVec F S7x256x2048 .f32 := broadcastInDim S7x256x2048 ![] bcast_S_S7x256x2048 main_cst_21
  let main_v104 : IVec S7x256x2048 1 := cmpf .ole main_v102 main_v103
  let main_c_22 : IVec S_ 1 := constantI S_ 1 1#1
  let main_v105 : IVec S_ 1 := (fun x v => Host.reduce IntOp.andi x v reducesTo_S7x256x2048_S_d0_1_2 h_S_) main_v104 main_c_22
  let main_v106 : IVec S_ 1 := andi main_v101 main_v105
  let main_v107 : IVec S_ 1 := andi main_v98 main_v106
  main_v107

def fn_part4 {F : FTy → Type} [FloatOps F] (main_arg2 : FVec F S2048 .f32) (main_arg3 : IVec S7 32) (main_arg4 : FVec F S7x2048 .f32) (main_v38 : FVec F S7x1 .f32) (main_v74 : FVec F S7x256x2048 .f32) (main_v79 : IVec S_ 1) (main_v80 : FVec F S2048 .f32) (main_v81 : FVec F S2048 .f32) : IVec S_ 1 :=
  let main_v82 : IVec S2048 1 := cmpf .olt main_v80 main_v81
  let main_c_12 : IVec S_ 1 := constantI S_ 1 1#1
  let main_v83 : IVec S_ 1 := (fun x v => Host.reduce IntOp.andi x v reducesTo_S2048_S_d0 h_S_) main_v82 main_c_12
  let main_v84 : IVec S_ 1 := andi main_v79 main_v83
  let main_v85 : FVec F S2048 .f32 := Host.absf main_arg2
  let main_cst_13 : FVec F S_ .f32 := constant S_ .f32 0x7F800000#32
  let main_v86 : FVec F S2048 .f32 := broadcastInDim S2048 ![] bcast_S_S2048 main_cst_13
  let main_v87 : IVec S2048 1 := cmpf .olt main_v85 main_v86
  let main_c_14 : IVec S_ 1 := constantI S_ 1 1#1
  let main_v88 : IVec S_ 1 := (fun x v => Host.reduce IntOp.andi x v reducesTo_S2048_S_d0 h_S_) main_v87 main_c_14
  let main_v89 : IVec S_ 1 := andi main_v84 main_v88
  let main_v90 : FVec F S7x2048 .f32 := Host.absf main_arg4
  let main_cst_15 : FVec F S_ .f32 := constant S_ .f32 0x7F800000#32
  let main_v91 : FVec F S7x2048 .f32 := broadcastInDim S7x2048 ![] bcast_S_S7x2048 main_cst_15
  let main_v92 : IVec S7x2048 1 := cmpf .olt main_v90 main_v91
  let main_c_16 : IVec S_ 1 := constantI S_ 1 1#1
  let main_v93 : IVec S_ 1 := (fun x v => Host.reduce IntOp.andi x v reducesTo_S7x2048_S_d0_1 h_S_) main_v92 main_c_16
  let main_v94 : IVec S_ 1 := andi main_v89 main_v93
  let main_c_17 : IVec S_ 32 := constantI S_ 32 1#32
  let main_v95 : IVec S7 32 := broadcastInDim S7 ![] bcast_S_S7 main_c_17
  let main_v96 : IVec S7 1 := cmpi .sge main_arg3 main_v95
  let main_c_18 : IVec S_ 1 := constantI S_ 1 1#1
  let main_v97 : IVec S_ 1 := (fun x v => Host.reduce IntOp.andi x v reducesTo_S7_S_d0 h_S_) main_v96 main_c_18
  let main_v98 : IVec S_ 1 := andi main_v94 main_v97
  fn_part5 (F := F) main_v38 main_v74 main_v98

def fn_part3 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v38 : FVec F S7x1 .f32) (main_v58 : FVec F S7x256x2048 .f32) (main_v62 : FVec F S7x256x1 .f32) : IVec S_ 1 :=
  let main_v63 : FVec F S7x256x2048 .f32 := broadcastInDim S7x256x2048 ![0, 1, 2] bcast_S7x256x1_S7x256x2048_0_1_2 main_v62
  let main_v64 : FVec F S7x256x2048 .f32 := subf main_v58 main_v63
  let main_v65 : FVec F S7x256x2048 .f32 := mulf main_v58 main_v16
  let main_cst_8 : FVec F S_ .f32 := constant S_ .f32 0x00000000#32
  let main_v66 : FVec F S7x256 .f32 := (fun x v => Host.reduceAdd x v reducesTo_S7x256x2048_S7x256_d2 h_S_) main_v65 main_cst_8
  let main_v67 : FVec F S7x256x1 .f32 := broadcastInDim S7x256x1 ![0, 1] bcast_S7x256_S7x256x1_0_1 main_v66
  let main_cst_9 : FVec F S_ .f32 := constant S_ .f32 0x45000000#32
  let main_v68 : FVec F S7x256x1 .f32 := broadcastInDim S7x256x1 ![] bcast_S_S7x256x1 main_cst_9
  let main_v69 : FVec F S7x256x1 .f32 := Host.divf main_v67 main_v68
  let main_v70 : FVec F S7x256x2048 .f32 := broadcastInDim S7x256x2048 ![0, 1, 2] bcast_S7x256x1_S7x256x2048_0_1_2 main_v69
  let main_v71 : FVec F S7x256x2048 .f32 := mulf main_v16 main_v70
  let main_v72 : FVec F S7x256x2048 .f32 := subf main_v64 main_v71
  let main_v73 : FVec F S7x256x2048 .f32 := broadcastInDim S7x256x2048 ![0, 1, 2] bcast_S7x256x1_S7x256x2048_0_1_2 main_v14
  let main_v74 : FVec F S7x256x2048 .f32 := mulf main_v73 main_v72
  let main_v75 : FVec F S7x256x2048 .f32 := (extf .f32 · bitsLt_bf16_f32) main_arg0
  let main_v76 : FVec F S7x256x2048 .f32 := Host.absf main_v75
  let main_cst_10 : FVec F S_ .f32 := constant S_ .f32 0x7F800000#32
  let main_v77 : FVec F S7x256x2048 .f32 := broadcastInDim S7x256x2048 ![] bcast_S_S7x256x2048 main_cst_10
  let main_v78 : IVec S7x256x2048 1 := cmpf .olt main_v76 main_v77
  let main_c : IVec S_ 1 := constantI S_ 1 1#1
  let main_v79 : IVec S_ 1 := (fun x v => Host.reduce IntOp.andi x v reducesTo_S7x256x2048_S_d0_1_2 h_S_) main_v78 main_c
  let main_v80 : FVec F S2048 .f32 := Host.absf main_arg1
  let main_cst_11 : FVec F S_ .f32 := constant S_ .f32 0x7F800000#32
  let main_v81 : FVec F S2048 .f32 := broadcastInDim S2048 ![] bcast_S_S2048 main_cst_11
  fn_part4 (F := F) main_arg2 main_arg3 main_arg4 main_v38 main_v74 main_v79 main_v80 main_v81

def fn_part2 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v29 : FVec F S7x256 .f32) (main_v31 : FVec F S7x1 .f32) (main_v38 : FVec F S7x1 .f32) (main_v40 : FVec F S7x2048 .f32) (main_v41 : FVec F S7x2048 .f32) : IVec S_ 1 :=
  let main_cst_5 : FVec F S_ .f32 := constant S_ .f32 0x00000000#32
  let main_v42 : FVec F S7 .f32 := (fun x v => Host.reduceAdd x v reducesTo_S7x2048_S7_d1 h_S_) main_v41 main_cst_5
  let main_v43 : FVec F S7x1 .f32 := broadcastInDim S7x1 ![0] bcast_S7_S7x1_0 main_v42
  let main_v44 : FVec F S7x2048 .f32 := broadcastInDim S7x2048 ![0, 1] bcast_S7x1_S7x2048_0_1 main_v43
  let main_v45 : FVec F S7x2048 .f32 := mulf main_v40 main_v44
  let main_v46 : FVec F S7x2048 .f32 := subf main_arg4 main_v45
  let main_v47 : FVec F S7x2048 .f32 := broadcastInDim S7x2048 ![0, 1] bcast_S7x1_S7x2048_0_1 main_v38
  let main_v48 : FVec F S7x2048 .f32 := Host.divf main_v46 main_v47
  let main_v49 : FVec F S7x256x1 .f32 := broadcastInDim S7x256x1 ![0, 1] bcast_S7x256_S7x256x1_0_1 main_v29
  let main_v50 : FVec F S7x2048 .f32 := broadcastInDim S7x2048 ![0, 1] bcast_S7x1_S7x2048_0_1 main_v31
  let main_v51 : FVec F S7x2048 .f32 := Host.divf main_v48 main_v50
  let main_v52 : FVec F S7x1x2048 .f32 := broadcastInDim S7x1x2048 ![0, 2] bcast_S7x2048_S7x1x2048_0_2 main_v51
  let main_v53 : FVec F S7x256x2048 .f32 := broadcastInDim S7x256x2048 ![0, 1, 2] bcast_S7x256x1_S7x256x2048_0_1_2 main_v49
  let main_v54 : FVec F S7x256x2048 .f32 := broadcastInDim S7x256x2048 ![0, 1, 2] bcast_S7x1x2048_S7x256x2048_0_1_2 main_v52
  let main_v55 : FVec F S7x256x2048 .f32 := mulf main_v53 main_v54
  let main_v56 : FVec F S1x1x2048 .f32 := broadcastInDim S1x1x2048 ![2] bcast_S2048_S1x1x2048_2 main_arg1
  let main_v57 : FVec F S7x256x2048 .f32 := broadcastInDim S7x256x2048 ![0, 1, 2] bcast_S1x1x2048_S7x256x2048_0_1_2 main_v56
  let main_v58 : FVec F S7x256x2048 .f32 := mulf main_v55 main_v57
  let main_cst_6 : FVec F S_ .f32 := constant S_ .f32 0x00000000#32
  let main_v59 : FVec F S7x256 .f32 := (fun x v => Host.reduceAdd x v reducesTo_S7x256x2048_S7x256_d2 h_S_) main_v58 main_cst_6
  let main_v60 : FVec F S7x256x1 .f32 := broadcastInDim S7x256x1 ![0, 1] bcast_S7x256_S7x256x1_0_1 main_v59
  let main_cst_7 : FVec F S_ .f32 := constant S_ .f32 0x45000000#32
  let main_v61 : FVec F S7x256x1 .f32 := broadcastInDim S7x256x1 ![] bcast_S_S7x256x1 main_cst_7
  let main_v62 : FVec F S7x256x1 .f32 := Host.divf main_v60 main_v61
  fn_part3 (F := F) main_arg0 main_arg1 main_arg2 main_arg3 main_arg4 main_v14 main_v16 main_v38 main_v58 main_v62

def fn_part1 {F : FTy → Type} [FloatOps F] (main_arg0 : FVec F S7x256x2048 .bf16) (main_arg1 : FVec F S2048 .f32) (main_arg2 : FVec F S2048 .f32) (main_arg3 : IVec S7 32) (main_arg4 : FVec F S7x2048 .f32) (main_v14 : FVec F S7x256x1 .f32) (main_v16 : FVec F S7x256x2048 .f32) (main_v18 : FVec F S7x256x2048 .f32) : IVec S_ 1 :=
  let main_v19 : FVec F S7x256x2048 .f32 := mulf main_v16 main_v18
  let main_v20 : FVec F S1x1x2048 .f32 := broadcastInDim S1x1x2048 ![2] bcast_S2048_S1x1x2048_2 main_arg2
  let main_v21 : FVec F S7x256x2048 .f32 := broadcastInDim S7x256x2048 ![0, 1, 2] bcast_S1x1x2048_S7x256x2048_0_1_2 main_v20
  let main_v22 : FVec F S7x256x2048 .f32 := addf main_v19 main_v21
  let main_v23 : IVec S256 32 := iotaInDim S256 32 0
  let main_v24 : IVec S1x256 32 := broadcastInDim S1x256 ![1] bcast_S256_S1x256_1 main_v23
  let main_v25 : IVec S7x1 32 := broadcastInDim S7x1 ![0] bcast_S7_S7x1_0 main_arg3
  let main_v26 : IVec S7x256 32 := broadcastInDim S7x256 ![0, 1] bcast_S1x256_S7x256_0_1 main_v24
  let main_v27 : IVec S7x256 32 := broadcastInDim S7x256 ![0, 1] bcast_S7x1_S7x256_0_1 main_v25
  let main_v28 : IVec S7x256 1 := cmpi .slt main_v26 main_v27
  let main_v29 : FVec F S7x256 .f32 := uitofp .f32 main_v28
  let main_v30 : FVec F S7 .f32 := sitofp .f32 main_arg3
  let main_v31 : FVec F S7x1 .f32 := broadcastInDim S7x1 ![0] bcast_S7_S7x1_0 main_v30
  let main_v32 : FVec F S7x2048 .f32 := (fun l r => Host.dotGeneral dot_S7x256_S7x256x2048_S7x2048_1_1_n_2_0_0 (some .fp32) l r) main_v29 main_v22
  let main_v33 : FVec F S7x2048 .f32 := broadcastInDim S7x2048 ![0, 1] bcast_S7x1_S7x2048_0_1 main_v31
  let main_v34 : FVec F S7x2048 .f32 := Host.divf main_v32 main_v33
  let main_v35 : FVec F S7x2048 .f32 := mulf main_v34 main_v34
  let main_cst_4 : FVec F S_ .f32 := constant S_ .f32 0x00000000#32
  let main_v36 : FVec F S7 .f32 := (fun x v => Host.reduceAdd x v reducesTo_S7x2048_S7_d1 h_S_) main_v35 main_cst_4
  let main_v37 : FVec F S7x1 .f32 := broadcastInDim S7x1 ![0] bcast_S7_S7x1_0 main_v36
  let main_v38 : FVec F S7x1 .f32 := Host.sqrt main_v37
  let main_v39 : FVec F S7x2048 .f32 := broadcastInDim S7x2048 ![0, 1] bcast_S7x1_S7x2048_0_1 main_v38
  let main_v40 : FVec F S7x2048 .f32 := Host.divf main_v34 main_v39
  let main_v41 : FVec F S7x2048 .f32 := mulf main_v40 main_arg4
  fn_part2 (F := F) main_arg0 main_arg1 main_arg2 main_arg3 main_arg4 main_v14 main_v16 main_v29 main_v31 main_v38 main_v40 main_v41

def fn {F : FTy → Type} [FloatOps F] (main_arg0 : FVec F S7x256x2048 .bf16) (main_arg1 : FVec F S2048 .f32) (main_arg2 : FVec F S2048 .f32) (main_arg3 : IVec S7 32) (main_arg4 : FVec F S7x2048 .f32) (main_arg5 : FVec F S5632x2048 .fp8e4m3) (main_arg6 : FVec F S5632 .f32) : IVec S_ 1 :=
  let main_v0 : FVec F S7x256x2048 .f32 := (extf .f32 · bitsLt_bf16_f32) main_arg0
  let main_cst : FVec F S_ .f32 := constant S_ .f32 0x00000000#32
  let main_v1 : FVec F S7x256 .f32 := (fun x v => Host.reduceAdd x v reducesTo_S7x256x2048_S7x256_d2 h_S_) main_v0 main_cst
  let main_v2 : FVec F S7x256x1 .f32 := broadcastInDim S7x256x1 ![0, 1] bcast_S7x256_S7x256x1_0_1 main_v1
  let main_cst_0 : FVec F S_ .f32 := constant S_ .f32 0x45000000#32
  let main_v3 : FVec F S7x256x1 .f32 := broadcastInDim S7x256x1 ![] bcast_S_S7x256x1 main_cst_0
  let main_v4 : FVec F S7x256x1 .f32 := Host.divf main_v2 main_v3
  let main_v5 : FVec F S7x256x2048 .f32 := broadcastInDim S7x256x2048 ![0, 1, 2] bcast_S7x256x1_S7x256x2048_0_1_2 main_v4
  let main_v6 : FVec F S7x256x2048 .f32 := subf main_v0 main_v5
  let main_v7 : FVec F S7x256x2048 .f32 := mulf main_v6 main_v6
  let main_cst_1 : FVec F S_ .f32 := constant S_ .f32 0x00000000#32
  let main_v8 : FVec F S7x256 .f32 := (fun x v => Host.reduceAdd x v reducesTo_S7x256x2048_S7x256_d2 h_S_) main_v7 main_cst_1
  let main_v9 : FVec F S7x256x1 .f32 := broadcastInDim S7x256x1 ![0, 1] bcast_S7x256_S7x256x1_0_1 main_v8
  let main_cst_2 : FVec F S_ .f32 := constant S_ .f32 0x45000000#32
  let main_v10 : FVec F S7x256x1 .f32 := broadcastInDim S7x256x1 ![] bcast_S_S7x256x1 main_cst_2
  let main_v11 : FVec F S7x256x1 .f32 := Host.divf main_v9 main_v10
  let main_cst_3 : FVec F S_ .f32 := constant S_ .f32 0x3727C5AC#32
  let main_v12 : FVec F S7x256x1 .f32 := broadcastInDim S7x256x1 ![] bcast_S_S7x256x1 main_cst_3
  let main_v13 : FVec F S7x256x1 .f32 := addf main_v11 main_v12
  let main_v14 : FVec F S7x256x1 .f32 := Host.rsqrt main_v13
  let main_v15 : FVec F S7x256x2048 .f32 := broadcastInDim S7x256x2048 ![0, 1, 2] bcast_S7x256x1_S7x256x2048_0_1_2 main_v14
  let main_v16 : FVec F S7x256x2048 .f32 := mulf main_v6 main_v15
  let main_v17 : FVec F S1x1x2048 .f32 := broadcastInDim S1x1x2048 ![2] bcast_S2048_S1x1x2048_2 main_arg1
  let main_v18 : FVec F S7x256x2048 .f32 := broadcastInDim S7x256x2048 ![0, 1, 2] bcast_S1x1x2048_S7x256x2048_0_1_2 main_v17
  fn_part1 (F := F) main_arg0 main_arg1 main_arg2 main_arg3 main_arg4 main_v14 main_v16 main_v18
-- ==== Mm.lean ====
abbrev S7x256x2048 : Shape := ⟨3, ![7, 256, 2048]⟩
abbrev S7x256x1 : Shape := ⟨3, ![7, 256, 1]⟩
abbrev S5632x2048 : Shape := ⟨2, ![5632, 2048]⟩
abbrev S5632 : Shape := ⟨1, ![5632]⟩
abbrev S1792x2048 : Shape := ⟨2, ![1792, 2048]⟩
abbrev S1792x1 : Shape := ⟨2, ![1792, 1]⟩
abbrev S1x5632 : Shape := ⟨2, ![1, 5632]⟩
abbrev S1792x5632 : Shape := ⟨2, ![1792, 5632]⟩
abbrev S512x2048 : Shape := ⟨2, ![512, 2048]⟩
abbrev S1x512 : Shape := ⟨2, ![1, 512]⟩
abbrev S1792x512 : Shape := ⟨2, ![1792, 512]⟩

abbrev nBuf : Space → Nat
  | .hbm => 8
  | .vmem => 8
  | .smem => 0
  | _ => 0

abbrev bufTy : (tb : Table) → Fin (tcTables nBuf tb) → BufTy
  | .hbm, ⟨0, _⟩ => ⟨S7x256x2048, .fp8e5m2⟩
  | .hbm, ⟨1, _⟩ => ⟨S7x256x1, .f32⟩
  | .hbm, ⟨2, _⟩ => ⟨S5632x2048, .fp8e4m3⟩
  | .hbm, ⟨3, _⟩ => ⟨S5632, .f32⟩
  | .hbm, ⟨4, _⟩ => ⟨S1792x2048, .fp8e5m2⟩
  | .hbm, ⟨5, _⟩ => ⟨S1792x1, .f32⟩
  | .hbm, ⟨6, _⟩ => ⟨S1x5632, .f32⟩
  | .hbm, ⟨7, _⟩ => ⟨S1792x5632, .bf16⟩
  | .local _ .vmem, ⟨0, _⟩ => ⟨S1792x2048, .fp8e5m2⟩
  | .local _ .vmem, ⟨1, _⟩ => ⟨S512x2048, .fp8e4m3⟩
  | .local _ .vmem, ⟨2, _⟩ => ⟨S512x2048, .fp8e4m3⟩
  | .local _ .vmem, ⟨3, _⟩ => ⟨S1792x1, .f32⟩
  | .local _ .vmem, ⟨4, _⟩ => ⟨S1x512, .f32⟩
  | .local _ .vmem, ⟨5, _⟩ => ⟨S1x512, .f32⟩
  | .local _ .vmem, ⟨6, _⟩ => ⟨S1792x512, .bf16⟩
  | .local _ .vmem, ⟨7, _⟩ => ⟨S1792x512, .bf16⟩
  | _, _ => ⟨S7x256x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MmReferenceIdeal.lean ====
abbrev S7x256x2048 : Shape := ⟨3, ![7, 256, 2048]⟩
abbrev S7x256x1 : Shape := ⟨3, ![7, 256, 1]⟩
abbrev S5632x2048 : Shape := ⟨2, ![5632, 2048]⟩
abbrev S5632 : Shape := ⟨1, ![5632]⟩
abbrev S1792x2048 : Shape := ⟨2, ![1792, 2048]⟩
abbrev S1792x1 : Shape := ⟨2, ![1792, 1]⟩
abbrev S1x5632 : Shape := ⟨2, ![1, 5632]⟩
abbrev S1792x5632 : Shape := ⟨2, ![1792, 5632]⟩

abbrev nBuf : Space → Nat
  | .hbm => 8
  | .vmem => 5
  | .smem => 0
  | _ => 0

abbrev bufTy : (tb : Table) → Fin (tcTables nBuf tb) → BufTy
  | .hbm, ⟨0, _⟩ => ⟨S7x256x2048, .fp8e5m2⟩
  | .hbm, ⟨1, _⟩ => ⟨S7x256x1, .f32⟩
  | .hbm, ⟨2, _⟩ => ⟨S5632x2048, .fp8e4m3⟩
  | .hbm, ⟨3, _⟩ => ⟨S5632, .f32⟩
  | .hbm, ⟨4, _⟩ => ⟨S1792x2048, .fp8e5m2⟩
  | .hbm, ⟨5, _⟩ => ⟨S1792x1, .f32⟩
  | .hbm, ⟨6, _⟩ => ⟨S1x5632, .f32⟩
  | .hbm, ⟨7, _⟩ => ⟨S1792x5632, .bf16⟩
  | .local _ .vmem, ⟨0, _⟩ => ⟨S1792x2048, .fp8e5m2⟩
  | .local _ .vmem, ⟨1, _⟩ => ⟨S5632x2048, .fp8e4m3⟩
  | .local _ .vmem, ⟨2, _⟩ => ⟨S1792x1, .f32⟩
  | .local _ .vmem, ⟨3, _⟩ => ⟨S1x5632, .f32⟩
  | .local _ .vmem, ⟨4, _⟩ => ⟨S1792x5632, .bf16⟩
  | _, _ => ⟨S7x256x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Ln.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S1x2048 : Shape := ⟨2, ![1, 2048]⟩
abbrev S7x1x2048 : Shape := ⟨3, ![7, 1, 2048]⟩
abbrev S7x256x1 : Shape := ⟨3, ![7, 256, 1]⟩
abbrev S1x256x2048 : Shape := ⟨3, ![1, 256, 2048]⟩
abbrev S1x1x2048 : Shape := ⟨3, ![1, 1, 2048]⟩
abbrev S1x256x1 : Shape := ⟨3, ![1, 256, 1]⟩
abbrev S1 : Shape := ⟨1, ![1]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩
abbrev S256x256 : Shape := ⟨2, ![256, 256]⟩

abbrev nBuf : Space → Nat
  | .hbm => 11
  | .vmem => 12
  | .smem => 1
  | _ => 0

abbrev bufTy : (tb : Table) → Fin (tcTables nBuf tb) → BufTy
  | .hbm, ⟨0, _⟩ => ⟨S7x256x2048, .bf16⟩
  | .hbm, ⟨1, _⟩ => ⟨S2048, .f32⟩
  | .hbm, ⟨2, _⟩ => ⟨S2048, .f32⟩
  | .hbm, ⟨3, _⟩ => ⟨S7x2048, .f32⟩
  | .hbm, ⟨4, _⟩ => ⟨S1x2048, .f32⟩
  | .hbm, ⟨5, _⟩ => ⟨S1x2048, .f32⟩
  | .hbm, ⟨6, _⟩ => ⟨S7x1x2048, .f32⟩
  | .hbm, ⟨7, _⟩ => ⟨S7x256x2048, .fp8e5m2⟩
  | .hbm, ⟨8, _⟩ => ⟨S7x256x1, .f32⟩
  | .hbm, ⟨9, _⟩ => ⟨S1x2048, .f32⟩
  | .hbm, ⟨10, _⟩ => ⟨S1x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .fp8e5m2⟩
  | .local _ .vmem, ⟨7, _⟩ => ⟨S1x256x2048, .fp8e5m2⟩
  | .local _ .vmem, ⟨8, _⟩ => ⟨S1x256x1, .f32⟩
  | .local _ .vmem, ⟨9, _⟩ => ⟨S1x256x1, .f32⟩
  | .local _ .vmem, ⟨10, _⟩ => ⟨S1x2048, .f32⟩
  | .local _ .vmem, ⟨11, _⟩ => ⟨S1x2048, .f32⟩
  | .local _ .smem, ⟨0, _⟩ => ⟨S7, .i32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnReferenceIdeal.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S_ : Shape := ⟨0, ![]⟩
abbrev S7x256 : Shape := ⟨2, ![7, 256]⟩
abbrev S7x256x1 : Shape := ⟨3, ![7, 256, 1]⟩
abbrev S1x1x2048 : Shape := ⟨3, ![1, 1, 2048]⟩
abbrev S256 : Shape := ⟨1, ![256]⟩
abbrev S1x256 : Shape := ⟨2, ![1, 256]⟩
abbrev S7x1 : Shape := ⟨2, ![7, 1]⟩
abbrev S7x1x2048 : Shape := ⟨3, ![7, 1, 2048]⟩
abbrev S1x2048 : Shape := ⟨2, ![1, 2048]⟩
abbrev S254 : Shape := ⟨1, ![254]⟩
abbrev S1x1x254 : Shape := ⟨3, ![1, 1, 254]⟩
abbrev S7x256x254 : Shape := ⟨3, ![7, 256, 254]⟩
abbrev S1 : Shape := ⟨1, ![1]⟩

abbrev nBuf : Space → Nat
  | .hbm => 144
  | .vmem => 2
  | .smem => 0
  | _ => 0

abbrev hbmTy0_0 (i : Nat) : BufTy := match i % 128 with
  | 0 => ⟨S7x256x2048, .bf16⟩
  | 1 => ⟨S2048, .f32⟩
  | 2 => ⟨S2048, .f32⟩
  | 3 => ⟨S7, .i32⟩
  | 4 => ⟨S7x2048, .f32⟩
  | 5 => ⟨S7x256x2048, .f32⟩
  | 6 => ⟨S_, .f32⟩
  | 7 => ⟨S7x256, .f32⟩
  | 8 => ⟨S7x256x1, .f32⟩
  | 9 => ⟨S_, .f32⟩
  | 10 => ⟨S7x256x1, .f32⟩
  | 11 => ⟨S7x256x1, .f32⟩
  | 12 => ⟨S7x256x2048, .f32⟩
  | 13 => ⟨S7x256x2048, .f32⟩
  | 14 => ⟨S7x256x2048, .f32⟩
  | 15 => ⟨S_, .f32⟩
  | 16 => ⟨S7x256, .f32⟩
  | 17 => ⟨S7x256x1, .f32⟩
  | 18 => ⟨S_, .f32⟩
  | 19 => ⟨S7x256x1, .f32⟩
  | 20 => ⟨S7x256x1, .f32⟩
  | 21 => ⟨S_, .f32⟩
  | 22 => ⟨S7x256x1, .f32⟩
  | 23 => ⟨S7x256x1, .f32⟩
  | 24 => ⟨S7x256x1, .f32⟩
  | 25 => ⟨S7x256x2048, .f32⟩
  | 26 => ⟨S7x256x2048, .f32⟩
  | 27 => ⟨S1x1x2048, .f32⟩
  | 28 => ⟨S7x256x2048, .f32⟩
  | 29 => ⟨S7x256x2048, .f32⟩
  | 30 => ⟨S1x1x2048, .f32⟩
  | 31 => ⟨S7x256x2048, .f32⟩
  | 32 => ⟨S7x256x2048, .f32⟩
  | 33 => ⟨S256, .i32⟩
  | 34 => ⟨S1x256, .i32⟩
  | 35 => ⟨S7x1, .i32⟩
  | 36 => ⟨S7x256, .i32⟩
  | 37 => ⟨S7x256, .i32⟩
  | 38 => ⟨S7x256, .i1⟩
  | 39 => ⟨S7x256, .f32⟩
  | 40 => ⟨S7, .f32⟩
  | 41 => ⟨S7x1, .f32⟩
  | 42 => ⟨S7x2048, .f32⟩
  | 43 => ⟨S7x2048, .f32⟩
  | 44 => ⟨S7x2048, .f32⟩
  | 45 => ⟨S7x2048, .f32⟩
  | 46 => ⟨S_, .f32⟩
  | 47 => ⟨S7, .f32⟩
  | 48 => ⟨S7x1, .f32⟩
  | 49 => ⟨S7x1, .f32⟩
  | 50 => ⟨S7x2048, .f32⟩
  | 51 => ⟨S7x2048, .f32⟩
  | 52 => ⟨S7x2048, .f32⟩
  | 53 => ⟨S_, .f32⟩
  | 54 => ⟨S7, .f32⟩
  | 55 => ⟨S7x1, .f32⟩
  | 56 => ⟨S7x2048, .f32⟩
  | 57 => ⟨S7x2048, .f32⟩
  | 58 => ⟨S7x2048, .f32⟩
  | 59 => ⟨S7x2048, .f32⟩
  | 60 => ⟨S7x2048, .f32⟩
  | 61 => ⟨S7x256x1, .f32⟩
  | 62 => ⟨S7x2048, .f32⟩
  | 63 => ⟨S7x2048, .f32⟩
  | 64 => ⟨S7x1x2048, .f32⟩
  | 65 => ⟨S7x256x2048, .f32⟩
  | 66 => ⟨S7x256x2048, .f32⟩
  | 67 => ⟨S7x256x2048, .f32⟩
  | 68 => ⟨S1x1x2048, .f32⟩
  | 69 => ⟨S7x256x2048, .f32⟩
  | 70 => ⟨S7x256x2048, .f32⟩
  | 71 => ⟨S_, .f32⟩
  | 72 => ⟨S7x256, .f32⟩
  | 73 => ⟨S7x256x1, .f32⟩
  | 74 => ⟨S_, .f32⟩
  | 75 => ⟨S7x256x1, .f32⟩
  | 76 => ⟨S7x256x1, .f32⟩
  | 77 => ⟨S7x256x2048, .f32⟩
  | 78 => ⟨S7x256x2048, .f32⟩
  | 79 => ⟨S7x256x2048, .f32⟩
  | 80 => ⟨S_, .f32⟩
  | 81 => ⟨S7x256, .f32⟩
  | 82 => ⟨S7x256x1, .f32⟩
  | 83 => ⟨S_, .f32⟩
  | 84 => ⟨S7x256x1, .f32⟩
  | 85 => ⟨S7x256x1, .f32⟩
  | 86 => ⟨S7x256x2048, .f32⟩
  | 87 => ⟨S7x256x2048, .f32⟩
  | 88 => ⟨S7x256x2048, .f32⟩
  | 89 => ⟨S7x256x2048, .f32⟩
  | 90 => ⟨S7x256x2048, .f32⟩
  | 91 => ⟨S7x256x2048, .f32⟩
  | 92 => ⟨S_, .f32⟩
  | 93 => ⟨S2048, .f32⟩
  | 94 => ⟨S1x2048, .f32⟩
  | 95 => ⟨S_, .f32⟩
  | 96 => ⟨S2048, .f32⟩
  | 97 => ⟨S1x2048, .f32⟩
  | 98 => ⟨S7x256x2048, .f32⟩
  | 99 => ⟨S_, .f32⟩
  | 100 => ⟨S7x256, .f32⟩
  | 101 => ⟨S7x256x1, .f32⟩
  | 102 => ⟨S_, .f32⟩
  | 103 => ⟨S7x256x1, .f32⟩
  | 104 => ⟨S7x256x1, .f32⟩
  | 105 => ⟨S_, .f32⟩
  | 106 => ⟨S254, .f32⟩
  | 107 => ⟨S254, .i32⟩
  | 108 => ⟨S_, .i32⟩
  | 109 => ⟨S254, .i32⟩
  | 110 => ⟨S254, .i32⟩
  | 111 => ⟨S254, .f32⟩
  | 112 => ⟨S254, .f32⟩
  | 113 => ⟨S1x1x254, .f32⟩
  | 114 => ⟨S7x256x254, .f32⟩
  | 115 => ⟨S7x256x254, .f32⟩
  | 116 => ⟨S7x256x254, .i1⟩
  | 117 => ⟨S_, .f32⟩
  | 118 => ⟨S_, .f32⟩
  | 119 => ⟨S7x256x254, .f32⟩
  | 120 => ⟨S7x256x254, .f32⟩
  | 121 => ⟨S7x256x254, .f32⟩
  | 122 => ⟨S_, .f32⟩
  | 123 => ⟨S7x256, .f32⟩
  | 124 => ⟨S7x256x1, .f32⟩
  | 125 => ⟨S1, .f32⟩
  | 126 => ⟨S_, .f32⟩
  | 127 => ⟨S7x256x1, .f32⟩
  | _ => ⟨S7x256x2048, .bf16⟩

abbrev hbmTy0_1 (i : Nat) : BufTy := match i % 128 with
  | 0 => ⟨S7x256x1, .i1⟩
  | 1 => ⟨S_, .f32⟩
  | 2 => ⟨S_, .f32⟩
  | 3 => ⟨S7x256x1, .f32⟩
  | 4 => ⟨S7x256x1, .f32⟩
  | 5 => ⟨S7x256x2048, .f32⟩
  | 6 => ⟨S7x256x2048, .f32⟩
  | 7 => ⟨S_, .f32⟩
  | 8 => ⟨S_, .f32⟩
  | 9 => ⟨S_, .f32⟩
  | 10 => ⟨S7x256x2048, .f32⟩
  | 11 => ⟨S7x256x2048, .f32⟩
  | 12 => ⟨S_, .f32⟩
  | 13 => ⟨S7x256x2048, .f32⟩
  | 14 => ⟨S7x256x2048, .f32⟩
  | 15 => ⟨S7x256x2048, .fp8e5m2⟩
  | _ => ⟨S7x256x2048, .bf16⟩

abbrev hbmTy (i : Nat) : BufTy := match i / 128 with
  | 0 => hbmTy0_0 i
  | 1 => hbmTy0_1 i
  | _ => ⟨S7x256x2048, .bf16⟩

abbrev bufTy : (tb : Table) → Fin (tcTables nBuf tb) → BufTy
  | .hbm, ⟨i, _⟩ => hbmTy i
  | .local _ .vmem, ⟨0, _⟩ => ⟨S7x256x2048, .f32⟩
  | .local _ .vmem, ⟨1, _⟩ => ⟨S7x256x2048, .fp8e5m2⟩
  | _, _ => ⟨S7x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_cst_14 : Ref sig .tc := ⟨.hbm, 105, rfl⟩
abbrev main_v85 : Ref sig .tc := ⟨.hbm, 106, rfl⟩
abbrev main_v86 : Ref sig .tc := ⟨.hbm, 107, rfl⟩
abbrev main_c : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v95 : Ref sig .tc := ⟨.hbm, 121, rfl⟩
abbrev main_cst_16 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_call1_v0 : Ref sig .tc := ⟨.hbm, 130, rfl⟩
abbrev main_call1_v1 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_18 : Ref sig .tc := ⟨.hbm, 135, rfl⟩
abbrev main_cst_19 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v105 : Ref sig .tc := ⟨.hbm, 142, rfl⟩
abbrev main_v106 : Ref sig .tc := ⟨.hbm, 143, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Whole.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S5632x2048 : Shape := ⟨2, ![5632, 2048]⟩
abbrev S5632 : Shape := ⟨1, ![5632]⟩
abbrev S1x2048 : Shape := ⟨2, ![1, 2048]⟩
abbrev S7x1x2048 : Shape := ⟨3, ![7, 1, 2048]⟩
abbrev S7x256x1 : Shape := ⟨3, ![7, 256, 1]⟩
abbrev S1x256x2048 : Shape := ⟨3, ![1, 256, 2048]⟩
abbrev S1x1x2048 : Shape := ⟨3, ![1, 1, 2048]⟩
abbrev S1x256x1 : Shape := ⟨3, ![1, 256, 1]⟩
abbrev S1 : Shape := ⟨1, ![1]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩
abbrev S256x256 : Shape := ⟨2, ![256, 256]⟩
abbrev S1792x2048 : Shape := ⟨2, ![1792, 2048]⟩
abbrev S1792x1 : Shape := ⟨2, ![1792, 1]⟩
abbrev S1x5632 : Shape := ⟨2, ![1, 5632]⟩
abbrev S1792x5632 : Shape := ⟨2, ![1792, 5632]⟩
abbrev S512x2048 : Shape := ⟨2, ![512, 2048]⟩
abbrev S1x512 : Shape := ⟨2, ![1, 512]⟩
abbrev S1792x512 : Shape := ⟨2, ![1792, 512]⟩

abbrev nBuf : Space → Nat
  | .hbm => 17
  | .vmem => 20
  | .smem => 1
  | _ => 0

abbrev bufTy : (tb : Table) → Fin (tcTables nBuf tb) → BufTy
  | .hbm, ⟨0, _⟩ => ⟨S7x256x2048, .bf16⟩
  | .hbm, ⟨1, _⟩ => ⟨S2048, .f32⟩
  | .hbm, ⟨2, _⟩ => ⟨S2048, .f32⟩
  | .hbm, ⟨3, _⟩ => ⟨S7x2048, .f32⟩
  | .hbm, ⟨4, _⟩ => ⟨S5632x2048, .fp8e4m3⟩
  | .hbm, ⟨5, _⟩ => ⟨S5632, .f32⟩
  | .hbm, ⟨6, _⟩ => ⟨S1x2048, .f32⟩
  | .hbm, ⟨7, _⟩ => ⟨S1x2048, .f32⟩
  | .hbm, ⟨8, _⟩ => ⟨S7x1x2048, .f32⟩
  | .hbm, ⟨9, _⟩ => ⟨S7x256x2048, .fp8e5m2⟩
  | .hbm, ⟨10, _⟩ => ⟨S7x256x1, .f32⟩
  | .hbm, ⟨11, _⟩ => ⟨S1x2048, .f32⟩
  | .hbm, ⟨12, _⟩ => ⟨S1x2048, .f32⟩
  | .hbm, ⟨13, _⟩ => ⟨S1792x2048, .fp8e5m2⟩
  | .hbm, ⟨14, _⟩ => ⟨S1792x1, .f32⟩
  | .hbm, ⟨15, _⟩ => ⟨S1x5632, .f32⟩
  | .hbm, ⟨16, _⟩ => ⟨S1792x5632, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .fp8e5m2⟩
  | .local _ .vmem, ⟨7, _⟩ => ⟨S1x256x2048, .fp8e5m2⟩
  | .local _ .vmem, ⟨8, _⟩ => ⟨S1x256x1, .f32⟩
  | .local _ .vmem, ⟨9, _⟩ => ⟨S1x256x1, .f32⟩
  | .local _ .vmem, ⟨10, _⟩ => ⟨S1x2048, .f32⟩
  | .local _ .vmem, ⟨11, _⟩ => ⟨S1x2048, .f32⟩
  | .local _ .vmem, ⟨12, _⟩ => ⟨S1792x2048, .fp8e5m2⟩
  | .local _ .vmem, ⟨13, _⟩ => ⟨S512x2048, .fp8e4m3⟩
  | .local _ .vmem, ⟨14, _⟩ => ⟨S512x2048, .fp8e4m3⟩
  | .local _ .vmem, ⟨15, _⟩ => ⟨S1792x1, .f32⟩
  | .local _ .vmem, ⟨16, _⟩ => ⟨S1x512, .f32⟩
  | .local _ .vmem, ⟨17, _⟩ => ⟨S1x512, .f32⟩
  | .local _ .vmem, ⟨18, _⟩ => ⟨S1792x512, .bf16⟩
  | .local _ .vmem, ⟨19, _⟩ => ⟨S1792x512, .bf16⟩
  | .local _ .smem, ⟨0, _⟩ => ⟨S7, .i32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1792x2048 .fp8e5m2 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1792x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1792x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== WholeReferenceIdeal.lean ====
abbrev S7x256x2048 : Shape := ⟨3, ![7, 256, 2048]⟩
abbrev S2048 : Shape := ⟨1, ![2048]⟩
abbrev S7 : Shape := ⟨1, ![7]⟩
abbrev S7x2048 : Shape := ⟨2, ![7, 2048]⟩
abbrev S5632x2048 : Shape := ⟨2, ![5632, 2048]⟩
abbrev S5632 : Shape := ⟨1, ![5632]⟩
abbrev S_ : Shape := ⟨0, ![]⟩
abbrev S7x256 : Shape := ⟨2, ![7, 256]⟩
abbrev S7x256x1 : Shape := ⟨3, ![7, 256, 1]⟩
abbrev S1x1x2048 : Shape := ⟨3, ![1, 1, 2048]⟩
abbrev S256 : Shape := ⟨1, ![256]⟩
abbrev S1x256 : Shape := ⟨2, ![1, 256]⟩
abbrev S7x1 : Shape := ⟨2, ![7, 1]⟩
abbrev S7x1x2048 : Shape := ⟨3, ![7, 1, 2048]⟩
abbrev S1x2048 : Shape := ⟨2, ![1, 2048]⟩
abbrev S254 : Shape := ⟨1, ![254]⟩
abbrev S1x1x254 : Shape := ⟨3, ![1, 1, 254]⟩
abbrev S7x256x254 : Shape := ⟨3, ![7, 256, 254]⟩
abbrev S1 : Shape := ⟨1, ![1]⟩
abbrev S1792x2048 : Shape := ⟨2, ![1792, 2048]⟩
abbrev S1792x1 : Shape := ⟨2, ![1792, 1]⟩
abbrev S1x5632 : Shape := ⟨2, ![1, 5632]⟩
abbrev S1792x5632 : Shape := ⟨2, ![1792, 5632]⟩

abbrev nBuf : Space → Nat
  | .hbm => 151
  | .vmem => 6
  | .smem => 0
  | _ => 0

abbrev hbmTy0_0 (i : Nat) : BufTy := match i % 128 with
  | 0 => ⟨S7x256x2048, .bf16⟩
  | 1 => ⟨S2048, .f32⟩
  | 2 => ⟨S2048, .f32⟩
  | 3 => ⟨S7, .i32⟩
  | 4 => ⟨S7x2048, .f32⟩
  | 5 => ⟨S5632x2048, .fp8e4m3⟩
  | 6 => ⟨S5632, .f32⟩
  | 7 => ⟨S7x256x2048, .f32⟩
  | 8 => ⟨S_, .f32⟩
  | 9 => ⟨S7x256, .f32⟩
  | 10 => ⟨S7x256x1, .f32⟩
  | 11 => ⟨S_, .f32⟩
  | 12 => ⟨S7x256x1, .f32⟩
  | 13 => ⟨S7x256x1, .f32⟩
  | 14 => ⟨S7x256x2048, .f32⟩
  | 15 => ⟨S7x256x2048, .f32⟩
  | 16 => ⟨S7x256x2048, .f32⟩
  | 17 => ⟨S_, .f32⟩
  | 18 => ⟨S7x256, .f32⟩
  | 19 => ⟨S7x256x1, .f32⟩
  | 20 => ⟨S_, .f32⟩
  | 21 => ⟨S7x256x1, .f32⟩
  | 22 => ⟨S7x256x1, .f32⟩
  | 23 => ⟨S_, .f32⟩
  | 24 => ⟨S7x256x1, .f32⟩
  | 25 => ⟨S7x256x1, .f32⟩
  | 26 => ⟨S7x256x1, .f32⟩
  | 27 => ⟨S7x256x2048, .f32⟩
  | 28 => ⟨S7x256x2048, .f32⟩
  | 29 => ⟨S1x1x2048, .f32⟩
  | 30 => ⟨S7x256x2048, .f32⟩
  | 31 => ⟨S7x256x2048, .f32⟩
  | 32 => ⟨S1x1x2048, .f32⟩
  | 33 => ⟨S7x256x2048, .f32⟩
  | 34 => ⟨S7x256x2048, .f32⟩
  | 35 => ⟨S256, .i32⟩
  | 36 => ⟨S1x256, .i32⟩
  | 37 => ⟨S7x1, .i32⟩
  | 38 => ⟨S7x256, .i32⟩
  | 39 => ⟨S7x256, .i32⟩
  | 40 => ⟨S7x256, .i1⟩
  | 41 => ⟨S7x256, .f32⟩
  | 42 => ⟨S7, .f32⟩
  | 43 => ⟨S7x1, .f32⟩
  | 44 => ⟨S7x2048, .f32⟩
  | 45 => ⟨S7x2048, .f32⟩
  | 46 => ⟨S7x2048, .f32⟩
  | 47 => ⟨S7x2048, .f32⟩
  | 48 => ⟨S_, .f32⟩
  | 49 => ⟨S7, .f32⟩
  | 50 => ⟨S7x1, .f32⟩
  | 51 => ⟨S7x1, .f32⟩
  | 52 => ⟨S7x2048, .f32⟩
  | 53 => ⟨S7x2048, .f32⟩
  | 54 => ⟨S7x2048, .f32⟩
  | 55 => ⟨S_, .f32⟩
  | 56 => ⟨S7, .f32⟩
  | 57 => ⟨S7x1, .f32⟩
  | 58 => ⟨S7x2048, .f32⟩
  | 59 => ⟨S7x2048, .f32⟩
  | 60 => ⟨S7x2048, .f32⟩
  | 61 => ⟨S7x2048, .f32⟩
  | 62 => ⟨S7x2048, .f32⟩
  | 63 => ⟨S7x256x1, .f32⟩
  | 64 => ⟨S7x2048, .f32⟩
  | 65 => ⟨S7x2048, .f32⟩
  | 66 => ⟨S7x1x2048, .f32⟩
  | 67 => ⟨S7x256x2048, .f32⟩
  | 68 => ⟨S7x256x2048, .f32⟩
  | 69 => ⟨S7x256x2048, .f32⟩
  | 70 => ⟨S1x1x2048, .f32⟩
  | 71 => ⟨S7x256x2048, .f32⟩
  | 72 => ⟨S7x256x2048, .f32⟩
  | 73 => ⟨S_, .f32⟩
  | 74 => ⟨S7x256, .f32⟩
  | 75 => ⟨S7x256x1, .f32⟩
  | 76 => ⟨S_, .f32⟩
  | 77 => ⟨S7x256x1, .f32⟩
  | 78 => ⟨S7x256x1, .f32⟩
  | 79 => ⟨S7x256x2048, .f32⟩
  | 80 => ⟨S7x256x2048, .f32⟩
  | 81 => ⟨S7x256x2048, .f32⟩
  | 82 => ⟨S_, .f32⟩
  | 83 => ⟨S7x256, .f32⟩
  | 84 => ⟨S7x256x1, .f32⟩
  | 85 => ⟨S_, .f32⟩
  | 86 => ⟨S7x256x1, .f32⟩
  | 87 => ⟨S7x256x1, .f32⟩
  | 88 => ⟨S7x256x2048, .f32⟩
  | 89 => ⟨S7x256x2048, .f32⟩
  | 90 => ⟨S7x256x2048, .f32⟩
  | 91 => ⟨S7x256x2048, .f32⟩
  | 92 => ⟨S7x256x2048, .f32⟩
  | 93 => ⟨S7x256x2048, .f32⟩
  | 94 => ⟨S_, .f32⟩
  | 95 => ⟨S2048, .f32⟩
  | 96 => ⟨S1x2048, .f32⟩
  | 97 => ⟨S_, .f32⟩
  | 98 => ⟨S2048, .f32⟩
  | 99 => ⟨S1x2048, .f32⟩
  | 100 => ⟨S7x256x2048, .f32⟩
  | 101 => ⟨S_, .f32⟩
  | 102 => ⟨S7x256, .f32⟩
  | 103 => ⟨S7x256x1, .f32⟩
  | 104 => ⟨S_, .f32⟩
  | 105 => ⟨S7x256x1, .f32⟩
  | 106 => ⟨S7x256x1, .f32⟩
  | 107 => ⟨S_, .f32⟩
  | 108 => ⟨S254, .f32⟩
  | 109 => ⟨S254, .i32⟩
  | 110 => ⟨S_, .i32⟩
  | 111 => ⟨S254, .i32⟩
  | 112 => ⟨S254, .i32⟩
  | 113 => ⟨S254, .f32⟩
  | 114 => ⟨S254, .f32⟩
  | 115 => ⟨S1x1x254, .f32⟩
  | 116 => ⟨S7x256x254, .f32⟩
  | 117 => ⟨S7x256x254, .f32⟩
  | 118 => ⟨S7x256x254, .i1⟩
  | 119 => ⟨S_, .f32⟩
  | 120 => ⟨S_, .f32⟩
  | 121 => ⟨S7x256x254, .f32⟩
  | 122 => ⟨S7x256x254, .f32⟩
  | 123 => ⟨S7x256x254, .f32⟩
  | 124 => ⟨S_, .f32⟩
  | 125 => ⟨S7x256, .f32⟩
  | 126 => ⟨S7x256x1, .f32⟩
  | 127 => ⟨S1, .f32⟩
  | _ => ⟨S7x256x2048, .bf16⟩

abbrev hbmTy0_1 (i : Nat) : BufTy := match i % 128 with
  | 0 => ⟨S_, .f32⟩
  | 1 => ⟨S7x256x1, .f32⟩
  | 2 => ⟨S7x256x1, .i1⟩
  | 3 => ⟨S_, .f32⟩
  | 4 => ⟨S_, .f32⟩
  | 5 => ⟨S7x256x1, .f32⟩
  | 6 => ⟨S7x256x1, .f32⟩
  | 7 => ⟨S7x256x2048, .f32⟩
  | 8 => ⟨S7x256x2048, .f32⟩
  | 9 => ⟨S_, .f32⟩
  | 10 => ⟨S_, .f32⟩
  | 11 => ⟨S_, .f32⟩
  | 12 => ⟨S7x256x2048, .f32⟩
  | 13 => ⟨S7x256x2048, .f32⟩
  | 14 => ⟨S_, .f32⟩
  | 15 => ⟨S7x256x2048, .f32⟩
  | 16 => ⟨S7x256x2048, .f32⟩
  | 17 => ⟨S1792x2048, .f32⟩
  | 18 => ⟨S1792x1, .f32⟩
  | 19 => ⟨S1x5632, .f32⟩
  | 20 => ⟨S1792x2048, .fp8e5m2⟩
  | 21 => ⟨S1792x5632, .bf16⟩
  | 22 => ⟨S7x256x2048, .fp8e5m2⟩
  | _ => ⟨S7x256x2048, .bf16⟩

abbrev hbmTy (i : Nat) : BufTy := match i / 128 with
  | 0 => hbmTy0_0 i
  | 1 => hbmTy0_1 i
  | _ => ⟨S7x256x2048, .bf16⟩

abbrev bufTy : (tb : Table) → Fin (tcTables nBuf tb) → BufTy
  | .hbm, ⟨i, _⟩ => hbmTy i
  | .local _ .vmem, ⟨0, _⟩ => ⟨S1792x2048, .f32⟩
  | .local _ .vmem, ⟨1, _⟩ => ⟨S5632x2048, .fp8e4m3⟩
  | .local _ .vmem, ⟨2, _⟩ => ⟨S1792x1, .f32⟩
  | .local _ .vmem, ⟨3, _⟩ => ⟨S1x5632, .f32⟩
  | .local _ .vmem, ⟨4, _⟩ => ⟨S1792x2048, .fp8e5m2⟩
  | .local _ .vmem, ⟨5, _⟩ => ⟨S1792x5632, .bf16⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_10 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_cst_14 : Ref sig .tc := ⟨.hbm, 107, rfl⟩
abbrev main_v85 : Ref sig .tc := ⟨.hbm, 108, rfl⟩
abbrev main_v86 : Ref sig .tc := ⟨.hbm, 109, rfl⟩
abbrev main_c : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_15 : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_v95 : Ref sig .tc := ⟨.hbm, 123, rfl⟩
abbrev main_cst_16 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_17 : Ref sig .tc := ⟨.hbm, 131, rfl⟩
abbrev main_call1_v0 : Ref sig .tc := ⟨.hbm, 132, rfl⟩
abbrev main_call1_v1 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_18 : Ref sig .tc := ⟨.hbm, 137, rfl⟩
abbrev main_cst_19 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109_0 : Ref sig .tc := ⟨.hbm, 148, rfl⟩
abbrev main_v109_1 : Ref sig .tc := ⟨.hbm, 149, rfl⟩
abbrev main_v110 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1792x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.WholeRun0.lean ====
module

public import proofs.«01_k».proof.Proof.Gen.Whole.Launch
public import proofs.«01_k».proof.Proof.Gen.Whole.Skeleton
public import proofs.«01_k».proof.Proof.Gen.Whole.Points
public import proofs.«01_k».proof.Proof.Gen.Whole.Regions
public import Idealize.ShloMosaic.Lib.Pipeline.FrameBody
public import Idealize.ShloMosaic.Lib.Ring
public import Idealize.ShloMosaic.Lib.Tactic
public import Idealize.ShloMosaic.Lib.WordCmp

@[expose] public section

/-! The first call inside the whole kernel: where its windows move, and one run of its body in each of its two cases (the first point and the others). The lengths table is held whole throughout. -/

set_option maxRecDepth 16384

noncomputable section

namespace Cert.Whole.R0

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true ↔ t.val % 7 = 0 :=
  (fun t => Pipeline.Window.fetchOf_const cc0_transform_1 (fun _ _ => rfl) (n := 7) (by decide) t : ∀ t : Fin grid0.N, Pipeline.Window.fetchOf grid0 false cc0_transform_1 t = true ↔ t.val % 7 = 0)
theorem fetch0_2 (a : (pcfg0 (F := F)).Adm) : ∀ t : Fin (cfg0 a).N, ((cfg0 a).win 2).fetch t = true ↔ t.val % 7 = 0 :=
  (fun t => Pipeline.Window.fetchOf_const cc0_transform_2 (fun _ _ => rfl) (n := 7) (by decide) t : ∀ t : Fin grid0.N, Pipeline.Window.fetchOf grid0 false cc0_transform_2 t = true ↔ t.val % 7 = 0)
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
theorem flush0_6 (a : (pcfg0 (F := F)).Adm) : ∀ t : Fin (cfg0 a).N, ((cfg0 a).win 6).flush t = true ↔ t.val % 7 = 6 :=
  (fun t => Pipeline.Window.flushOf_const cc0_transform_6 (fun _ _ => rfl) (n := 7) (by decide) rfl t : ∀ t : Fin grid0.N, Pipeline.Window.flushOf grid0 true cc0_transform_6 t = true ↔ t.val % 7 = 6)
theorem flush0_7 (a : (pcfg0 (F := F)).Adm) : ∀ t : Fin (cfg0 a).N, ((cfg0 a).win 7).flush t = true ↔ t.val % 7 = 6 :=
  (fun t => Pipeline.Window.flushOf_const cc0_transform_7 (fun _ _ => rfl) (n := 7) (by decide) rfl t : ∀ t : Fin grid0.N, Pipeline.Window.flushOf grid0 true cc0_transform_7 t = true ↔ t.val % 7 = 6)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

abbrev bodyAt0 (a : (pcfg0 (F := F)).Adm) (t : Fin (cfg0 a).N) : Prog (TpuEff nD τ sig (Elt F) Λ₀ .tc) PUnit :=
  cc0__ln_kernel (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

abbrev V (c : Dev nD) (b : Ref sig .tc) : Buf (Elt F) ((c : Thread nD τ).loc b) := StableHlo.after hostOps0 (fun b => m (c, b)) b

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S7 .i32 := Memref.whole main_arg3
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare} f

abbrev heldT (tb : pre0.Contents (Elt F)) (c : Dev nD) : sProp (MT nD τ sig Unit (Elt F) ℕ (UR sig nD τ) ℕ) := Pipeline.prefHeld pre0 c (fun _ => fullShare) tb
theorem PhiT0_eq (c : Dev nD) : (heldT (tbl m) c : sProp (MT nD τ sig Unit (Elt F) ℕ (UR sig nD τ) ℕ)) = iprop(tbPt0 c tbM0_0 (tbl m 0)) := by
  unfold heldT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

abbrev VO0_4 : View sig .tc .vmem S1x256x2048 .fp8e5m2 := (Memref.whole cc0_stg4_0 : Memref sig .tc .vmem S1x256x2048 .fp8e5m2).view
abbrev VO0_5 : View sig .tc .vmem S1x256x1 .f32 := (Memref.whole cc0_stg5_0 : Memref sig .tc .vmem S1x256x1 .f32).view
abbrev VO0_6 : View sig .tc .vmem S1x2048 .f32 := (Memref.whole cc0_stg6_0 : Memref sig .tc .vmem S1x2048 .f32).view
abbrev VO0_7 : View sig .tc .vmem S1x2048 .f32 := (Memref.whole cc0_stg7_0 : Memref sig .tc .vmem S1x2048 .f32).view
abbrev ms0_0 (hO : Ok m) (t : Fin (cfgM m hO).N) : Memref sig .tc .vmem S1x256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x2048 .fp8e5m2 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2048 .f32 := spec0_7.stage ((cfgM m hO).slots t 7)
abbrev hs0_7 (hO : Ok m) (t : Fin (cfgM m hO).N) : (ms0_7 m hO t).IsWhole := hstage0_7 (((cfgM m hO).slots t 7).cast nbuf0_7)

set_option maxHeartbeats 1000000 in
noncomputable def kernelRun0_A (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) :
    Σ' (L4 : List (View.Piece (Elt F) S1x256x2048 .fp8e5m2)), Σ' (L5 : List (View.Piece (Elt F) S1x256x1 .f32)), Σ' (L6 : List (View.Piece (Elt F) S1x2048 .f32)), { L7 : List (View.Piece (Elt F) S1x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ tbPt0 c tbM0_0 xt0) -∗ K ⟨⟩))
          ⊢ wp frame (wpE (defs₀ (F := F)) Variants.none c none) E (cc0__ln_kernel i tbM0_0 htbM0_0 arg2 harg2 arg3 harg3 arg4 harg4 arg5 harg5 arg6 harg6 arg7 harg7 arg8 harg8 arg9 harg9) K } := by
  refine ⟨?_, ?_, ?_, ?_, fun E K => ?run⟩
  case run =>
    simp only [cc0__ln_kernel_eq_skeleton]; unfold cc0__ln_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, HT0, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexact HT0

set_option maxHeartbeats 1000000 in
noncomputable def kernelRun0_B (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) :
    Σ' (L4 : List (View.Piece (Elt F) S1x256x2048 .fp8e5m2)), Σ' (L5 : List (View.Piece (Elt F) S1x256x1 .f32)), Σ' (L6 : List (View.Piece (Elt F) S1x2048 .f32)), { L7 : List (View.Piece (Elt F) S1x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xo7 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ tbPt0 c tbM0_0 xt0) -∗ K ⟨⟩))
          ⊢ wp frame (wpE (defs₀ (F := F)) Variants.none c none) E (cc0__ln_kernel i tbM0_0 htbM0_0 arg2 harg2 arg3 harg3 arg4 harg4 arg5 harg5 arg6 harg6 arg7 harg7 arg8 harg8 arg9 harg9) K } := by
  refine ⟨?_, ?_, ?_, ?_, fun E K => ?run⟩
  case run =>
    simp only [cc0__ln_kernel_eq_skeleton]; unfold cc0__ln_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, HT0, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexact HT0

end Cert.Whole.R0

end
-- ==== Proof.WholeBody0.lean ====
module

public import proofs.«01_k».proof.Proof.WholeRun0
public import Idealize.ShloMosaic.Lib.Claim

@[expose] public section

/-! The first call inside the whole kernel: what its body leaves at each point, and the obligation the pipeline asks of it. -/

set_option maxRecDepth 16384

noncomputable section

namespace Cert.Whole.R0

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
theorem cover0_A_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x256x2048.Idx) :
    ∃ pc ∈ (kernelRun0_A c i arg2 harg2 arg3 harg3 arg4 harg4 arg5 harg5 arg6 harg6 arg7 harg7 arg8 harg8 arg9 harg9 hc0 x0 x1 x2 x3 xt0).1, y ∈ pc.1.set :=
  View.cover_of_tiledL (kernelRun0_A c i arg2 harg2 arg3 harg3 arg4 harg4 arg5 harg5 arg6 harg6 arg7 harg7 arg8 harg8 arg9 harg9 hc0 x0 x1 x2 x3 xt0).1 S1x256x2048.size (by sl_kernel_rfl) y

def out0_A_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x256x2048 .fp8e5m2 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3 xt0).1)

theorem cover0_A_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x256x1.Idx) :
    ∃ pc ∈ (kernelRun0_A c i arg2 harg2 arg3 harg3 arg4 harg4 arg5 harg5 arg6 harg6 arg7 harg7 arg8 harg8 arg9 harg9 hc0 x0 x1 x2 x3 xt0).2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.1 S1x256x1.size (by sl_kernel_rfl) y

def out0_A_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x256x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 xt0).2.1)

theorem cover0_A_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x2048.Idx) :
    ∃ pc ∈ (kernelRun0_A c i arg2 harg2 arg3 harg3 arg4 harg4 arg5 harg5 arg6 harg6 arg7 harg7 arg8 harg8 arg9 harg9 hc0 x0 x1 x2 x3 xt0).2.2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.2.1 S1x2048.size (by sl_kernel_rfl) y

def out0_A_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x2048 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 xt0).2.2.1)

theorem cover0_A_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x2048.Idx) :
    ∃ pc ∈ (kernelRun0_A c i arg2 harg2 arg3 harg3 arg4 harg4 arg5 harg5 arg6 harg6 arg7 harg7 arg8 harg8 arg9 harg9 hc0 x0 x1 x2 x3 xt0).2.2.2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.2.2.1 S1x2048.size (by sl_kernel_rfl) y

def out0_A_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x2048 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 xt0).2.2.2.1)

theorem cover0_B_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x256x2048.Idx) :
    ∃ pc ∈ (kernelRun0_B c i arg2 harg2 arg3 harg3 arg4 harg4 arg5 harg5 arg6 harg6 arg7 harg7 arg8 harg8 arg9 harg9 hc0 x0 x1 x2 x3 xt0 xo6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).1 S1x256x2048.size (by sl_kernel_rfl) y

def out0_B_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x256x2048 .fp8e5m2 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xt0 xo6 xo7).1)

theorem cover0_B_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x256x1.Idx) :
    ∃ pc ∈ (kernelRun0_B c i arg2 harg2 arg3 harg3 arg4 harg4 arg5 harg5 arg6 harg6 arg7 harg7 arg8 harg8 arg9 harg9 hc0 x0 x1 x2 x3 xt0 xo6 xo7).2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.1 S1x256x1.size (by sl_kernel_rfl) y

def out0_B_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 xt0 xo6 xo7).2.1)

theorem cover0_B_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x2048.Idx) :
    ∃ pc ∈ (kernelRun0_B c i arg2 harg2 arg3 harg3 arg4 harg4 arg5 harg5 arg6 harg6 arg7 harg7 arg8 harg8 arg9 harg9 hc0 x0 x1 x2 x3 xt0 xo6 xo7).2.2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.2.1 S1x2048.size (by sl_kernel_rfl) y

def out0_B_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x2048 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 xt0 xo6 xo7).2.2.1)

theorem cover0_B_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x2048.Idx) :
    ∃ pc ∈ (kernelRun0_B c i arg2 harg2 arg3 harg3 arg4 harg4 arg5 harg5 arg6 harg6 arg7 harg7 arg8 harg8 arg9 harg9 hc0 x0 x1 x2 x3 xt0 xo6 xo7).2.2.2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.2.2.1 S1x2048.size (by sl_kernel_rfl) y

def out0_B_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x2048 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 xt0 xo6 xo7).2.2.2.1)

def outsAt0 (hO : Ok m) (c : Dev nD) : (n : ℕ) → n < (cfgM m hO).N → Vec F S1x256x2048 .fp8e5m2 × Vec F S1x256x1 .f32 × Vec F S1x2048 .f32 × Vec F S1x2048 .f32
  | 0, hn => (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0))
  | n + 1, hn =>
    if h0 : (n + 1) % 7 = 0 then
      (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0))
    else
      (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2)

theorem outsAt0_A (hO : Ok m) (c : Dev nD) (t : Fin (cfgM m hO).N) (h0 : t.val % 7 = 0) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0)) := by
  obtain ⟨n, hn⟩ := t
  cases n with
  | zero => exact rfl
  | succ n => exact (dif_pos h0).trans rfl

theorem outsAt0_B (hO : Ok m) (c : Dev nD) (t : Fin (cfgM m hO).N) (h0 : ¬t.val % 7 = 0) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2.1
    | ⟨6, _⟩ => (outsAt0 m hO c t.val t.isLt).2.2.1
    | ⟨7, _⟩ => (outsAt0 m hO c t.val t.isLt).2.2.2
  Φ _ := iprop(Pipeline.ΦA spec0 c ∗ heldT (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2.1 := by dsimp only [dats]; try rfl
theorem after0_6 (hO : Ok m) (c : Dev nD) (t : Fin (cfgM m hO).N) : (dats m hO 0 c).after 6 t = (outsAt0 m hO c t.val t.isLt).2.2.1 := by dsimp only [dats]; try rfl
theorem after0_7 (hO : Ok m) (c : Dev nD) (t : Fin (cfgM m hO).N) : (dats m hO 0 c).after 7 t = (outsAt0 m hO c t.val t.isLt).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_6_B (hO : Ok m) (c : Dev nD) (t : Fin (cfgM m hO).N) (h0 : ¬t.val % 7 = 0) (d) :
    (dats m hO 0 c).before 6 t d = (outsAt0 m hO c (t.val - 1) (Nat.lt_of_le_of_lt (Nat.sub_le _ _) t.isLt)).2.2.1 := by
  have hN : t.val < 7 := lt_of_lt_of_eq t.isLt (show (cfgM m hO).N = 7 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl
theorem before0_7_B (hO : Ok m) (c : Dev nD) (t : Fin (cfgM m hO).N) (h0 : ¬t.val % 7 = 0) (d) :
    (dats m hO 0 c).before 7 t d = (outsAt0 m hO c (t.val - 1) (Nat.lt_of_le_of_lt (Nat.sub_le _ _) t.isLt)).2.2.2 := by
  have hN : t.val < 7 := lt_of_lt_of_eq t.isLt (show (cfgM m hO).N = 7 from N_0)
  rw [Dat.before_out_kept _ 7 rfl t (by omega) (Bool.eq_false_iff.mpr fun h => by have := (flush0_7 (adm m hO) _).mp h; dsimp only at this; omega)
    (fun _ => rfl) (fun _ _ => rfl)]
  dsimp only [dats]
  try rfl

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ heldT (tbl m) c) from rfl, PhiT0_eq]
  have hN : t.val < 7 := lt_of_lt_of_eq t.isLt (show (cfgM m hO).N = 7 from N_0)
  by_cases h0 : t.val % 7 = 0
  · rw [outsAt0_A m hO c t h0]
    unfold out0_A_4 out0_A_5 out0_A_6 out0_A_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (tbl m 0)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HT0]; · iexact HT0
    iintro ⟨H0, H1, H2, H3, ⟨%e4, H4⟩, ⟨%e5, H5⟩, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _)
  · rw [outsAt0_B m hO c t h0]
    simp only [before0_6_B m hO c t h0, before0_7_B m hO c t h0]
    unfold out0_B_4 out0_B_5 out0_B_6 out0_B_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m hO c 0 t) (iblk m hO c 1 t) (iblk m hO c 2 t) (iblk m hO c 3 t) (tbl m 0) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HT0]; · iexact HT0
    iintro ⟨H0, H1, H2, H3, ⟨%e4, H4⟩, ⟨%e5, H5⟩, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.Whole.R0

end
-- ==== Proof.WholeBody1.lean ====
module

public import proofs.«01_k».proof.Proof.Gen.Whole.Launch
public import proofs.«01_k».proof.Proof.Gen.Whole.Skeleton
public import proofs.«01_k».proof.Proof.Gen.Whole.Points
public import proofs.«01_k».proof.Proof.Gen.Whole.Regions
public import Idealize.ShloMosaic.Lib.Pipeline.FrameBody
public import Idealize.ShloMosaic.Lib.Ring
public import Idealize.ShloMosaic.Lib.Tactic
public import Idealize.ShloMosaic.Lib.WordCmp

@[expose] public section

/-! The second call inside the whole kernel, entered with any contents `m` of the buffers: what its body leaves at each point, and the obligation the pipeline asks of it. -/

set_option maxRecDepth 16384

noncomputable section

namespace Cert.Whole.R1

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : Dev nD → Valuation τ sig (Elt F))

abbrev V (c : Dev nD) (b : Ref sig .tc) : Buf (Elt F) ((c : Thread nD τ).loc b) := m c b

def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S1792x2048 := Rect.unit (s := S1792x2048) ![0, 0] S1792x2048.size inb_S1792x2048_S1792x2048_0_0
abbrev r0_1 : Rect S512x2048 := Rect.unit (s := S512x2048) ![0, 0] S512x2048.size inb_S512x2048_S512x2048_0_0
abbrev r0_2 : Rect S1792x1 := Rect.unit (s := S1792x1) ![0, 0] S1792x1.size inb_S1792x1_S1792x1_0_0
abbrev r0_3 : Rect S1x512 := Rect.unit (s := S1x512) ![0, 0] S1x512.size inb_S1x512_S1x512_0_0
abbrev r0_4 : Rect S1792x512 := Rect.unit (s := S1792x512) ![0, 0] S1792x512.size inb_S1792x512_S1792x512_0_0

def out0_4 (x0 : Vec F S1792x2048 .fp8e5m2) (x1 : Vec F S512x2048 .fp8e4m3) (x2 : Vec F S1792x1 .f32) (x3 : Vec F S1x512 .f32) : Vec F S1792x512 .bf16 :=
  View.canon [⟨r0_4, k1_pay1 (View.ld x0 r0_0) (View.ld x1 r0_1) (View.ld x2 r0_2) (View.ld x3 r0_3)⟩]

theorem cover0_4 (p0 : Vec F S1792x512 .bf16) (y : S1792x512.Idx) :
    ∃ pc ∈ ([⟨r0_4, p0⟩] : List (View.Piece (Elt F) S1792x512 .bf16)), y ∈ pc.1.set :=
  View.cover_of_tiled [⟨r0_4, p0⟩] S1792x512.size (by rfl) y

set_option maxHeartbeats 1000000 in
theorem sound_kernel (c : Dev nD) (E : Set ℕ) (i : grid1.Coords) (arg1 : Memref sig .tc .vmem S1792x2048 .fp8e5m2) (harg1 : arg1.IsWhole) (arg2 : Memref sig .tc .vmem S512x2048 .fp8e4m3) (harg2 : arg2.IsWhole) (arg3 : Memref sig .tc .vmem S1792x1 .f32) (harg3 : arg3.IsWhole) (arg4 : Memref sig .tc .vmem S1x512 .f32) (harg4 : arg4.IsWhole) (arg5 : Memref sig .tc .vmem S1792x512 .bf16) (harg5 : arg5.IsWhole)
    (x0 : Vec F S1792x2048 .fp8e5m2) (x1 : Vec F S512x2048 .fp8e4m3) (x2 : Vec F S1792x1 .f32) (x3 : Vec F S1x512 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec1 c
  q _ := fullShare
  owed _ := 0

theorem A_eq (c : Dev nD) (w : Fin cfg1.W) : (dats m 0 c).A w = V m c (Pipeline.arrRef spec1 w) := by
  dsimp only [dats]

theorem after0_0 (c : Dev nD) (t : Fin cfg1.N) : (dats m 0 c).after 0 t = iblk m c 0 t := by dsimp only [dats]
theorem after0_1 (c : Dev nD) (t : Fin cfg1.N) : (dats m 0 c).after 1 t = iblk m c 1 t := by dsimp only [dats]
theorem after0_2 (c : Dev nD) (t : Fin cfg1.N) : (dats m 0 c).after 2 t = iblk m c 2 t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = out0_4 (iblk m c 0 t) (iblk m c 1 t) (iblk m c 2 t) (iblk m c 3 t) := by dsimp only [dats]

theorem before0_0 (c : Dev nD) (t : Fin cfg1.N) (d) : (dats m 0 c).before 0 t d = iblk m c 0 t :=
  before0_0_of m (dats m 0 c) (A_eq m c 0) (after0_0 m c) t d
theorem before0_1 (c : Dev nD) (t : Fin cfg1.N) (d) : (dats m 0 c).before 1 t d = iblk m c 1 t :=
  before0_1_of m (dats m 0 c) (A_eq m c 1) (after0_1 m c) t d
theorem before0_2 (c : Dev nD) (t : Fin cfg1.N) (d) : (dats m 0 c).before 2 t d = iblk m c 2 t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d

def bodyPre (c : Dev nD) (t : Fin cfg1.N) : sProp (MT nD τ sig Unit (Elt F) ℕ (UR sig nD τ) ℕ) :=
  iprop((dats m 0 c).Φ t.castSucc ∗ (dats m 0 c).owesAt () t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d))
    ∗ (∃ d, owns (c : Thread nD τ) (st1_3 t) fullShare ((dats m 0 c).before 3 t d))
    ∗ (∃ d, owns (c : Thread nD τ) (st1_4 t) fullShare ((dats m 0 c).before 4 t d)))

def bodyPost (c : Dev nD) (t : Fin cfg1.N) : sProp (MT nD τ sig Unit (Elt F) ℕ (UR sig nD τ) ℕ) :=
  iprop((dats m 0 c).Φ t.succ ∗ (dats m 0 c).owesAt () t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t)
    ∗ owns (c : Thread nD τ) (st1_3 t) fullShare ((dats m 0 c).after 3 t)
    ∗ owns (c : Thread nD τ) (st1_4 t) fullShare ((dats m 0 c).after 4 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

end Cert.Whole.R1

end
-- ==== Proof.WholeRun.lean ====
module

public import proofs.«01_k».proof.Proof.WholeBody0
public import proofs.«01_k».proof.Proof.WholeBody1
public import Idealize.ShloMosaic.Lib.Pipeline.RegionArraysTS

@[expose] public section

/-! The whole kernel's run: the host's reshapes, the first call, the reshapes between the calls and the second call, one after the other.
    `X1` to `X4` are the buffers' contents after each of them. -/

set_option maxRecDepth 16384

noncomputable section

namespace Cert.Whole.Run

open Cert.Whole Cert.Whole.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The assertions' model. -/
abbrev MM (F : FTy → Type) : Type := MT nD τ sig Unit (Elt F) ℕ (UR sig nD τ) ℕ

variable (m : (ℓ : Loc nD τ sig) → Buf (Elt F) ℓ) (ρ : Dev nD → PrngReg)

/-- No window of the first call is placed by the table's words. -/
theorem ok : R0.Ok m := trivial

/-- The buffers after the reshapes before the first call, after that call, after the reshapes between the calls and after the second call. -/
def X1 (c : Dev nD) : Valuation τ sig (Elt F) := StableHlo.after hostOps0 (V0 m c)
def X2 (c : Dev nD) : Valuation τ sig (Elt F) := Pipeline.afterRegion (R0.dats m (ok m) 0 c) (X1 m c)
def X3 (c : Dev nD) : Valuation τ sig (Elt F) := StableHlo.after hostOps1 (X2 m c)
def X4 (c : Dev nD) : Valuation τ sig (Elt F) := Pipeline.afterRegion (R1.dats (X3 m) 0 c) (X3 m c)

/-- Each call's table contents: the first call's are the lengths, the second has none. -/
def adms : (p : Fin 2) → (pcfgs (F := F) p).Adm
  | ⟨0, _⟩ => R0.adm m (ok m)
  | ⟨1, _⟩ => cfg1.toPCfg_adm
  | ⟨_ + 2, h⟩ => absurd h (Nat.not_lt.2 (Nat.le_add_left _ _))

/-- Each call's proof data. -/
def pdats : (p : Fin 2) → (c : Dev nD) → Dat τ (Elt F) Unit ℕ (UR sig nD τ) ℕ (Pipeline.pin (pcfgs (F := F)) (adms m) p) c
  | ⟨0, _⟩ => fun c => R0.dats m (ok m) 0 c
  | ⟨1, _⟩ => fun c => R1.dats (X3 m) 0 c
  | ⟨_ + 2, h⟩ => absurd h (Nat.not_lt.2 (Nat.le_add_left _ _))

/-- One wait index on every core's own semaphores, at one level. -/
def LL : GSem nD τ sig → Finset Unit := fun g => if g.1.2 = .tc then {()} else ∅
def lv : GSem nD τ sig → Unit → ℕ := fun _ _ => 0

theorem hcut (p : Fin 2) : Pipeline.LevelCut (pcfgs (F := F)) (adms m) () LL lv p (fun _ => 0) (fun _ => 0) where
  hι c w s := by
    show () ∈ (if (Proc.tc : Proc τ) = .tc then ({()} : Finset Unit) else ∅)
    rw [if_pos rfl]; exact Finset.mem_singleton_self _
  hιb _ _ _ := le_refl _
  hD _ g i h := absurd h (lt_irrefl _)

/-- What rides beside the buffers: nothing owed, and the random-number register. -/
abbrev rest (c : Dev nD) : sProp (MM F) :=
  iprop((∃ Wd, owes (c.tc : Thread nD τ) (0 : CellTallies nD τ sig Unit) Wd) ∗ (∃ r, prngReg c r) ∗ emp)

def hseg0 : HostSeg (Ix := Unit) (Name := ℕ) (U := UR sig nD τ) (Lvl := ℕ) (pcfgs (F := F)) defs₀ Variants.none LL lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

def hseg1 : HostSeg (Ix := Unit) (Name := ℕ) (U := UR sig nD τ) (Lvl := ℕ) (pcfgs (F := F)) defs₀ Variants.none LL lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X2 m) rest

set_option backward.isDefEq.respectTransparency.types false in
/-- The first call's region. -/
def reg0 : RegionSeg (pcfgs (F := F)) (adms m) (pdats m) () defs₀ Variants.none LL lv 0 :=
  Pipeline.RegionSeg.ofHeldInT (pcfgs (F := F)) (adms m) (pdats m) () defs₀ Variants.none LL lv 0 (fun _ => 0)
    (Pipeline.ucRefs τ sig) (fun c => iprop(∃ r, prngReg c r)) (fun c => iprop(∃ r, prngReg c r)) launch0
    (fun c => (R0.body_obligation m (ok m) c).loose) (fun _ _ => rfl) (fun _ => rfl) (fun c => (R0.dats m (ok m) 0 c).share_full fun _ => rfl)
    (fun _ => .rfl) (fun _ => .rfl) (fun _ => 0) (hcut m 0) (fun _ => iprop(emp)) (X1 m)
    (fun c w => R0.A_eq m (ok m) c w) (fun c k => (R0.V_pre m c k).symm)

set_option backward.isDefEq.respectTransparency.types false in
/-- The second call's region. -/
def reg1 : RegionSeg (pcfgs (F := F)) (adms m) (pdats m) () defs₀ Variants.none LL lv 1 :=
  Pipeline.RegionSeg.ofHeldIn (pcfgs (F := F)) (adms m) (pdats m) () defs₀ Variants.none LL lv 1 (fun _ => 0)
    (Pipeline.ucRefs τ sig) (fun c => iprop(∃ r, prngReg c r)) (fun c => iprop(∃ r, prngReg c r)) launch1 rfl
    (fun c => (R1.body_obligation (X3 m) c).loose) (fun _ _ => rfl) (fun _ => rfl) (fun c => (R1.dats (X3 m) 0 c).share_full fun _ => rfl)
    (fun _ => .rfl) (fun _ => .rfl) (fun _ => 0) (hcut m 1) (fun _ => iprop(emp)) (X3 m)
    (fun c w => R1.A_eq (X3 m) c w)

abbrev segs (c : Dev nD) : List (Seg (pcfgs (F := F)) (adms m) (pdats m) () defs₀ Variants.none LL lv) :=
  [.host (hseg0 m), .region (reg0 m), .host (hseg1 m), .region (reg1 m)]

theorem sub0 : Pipeline.arrRefs (τ := τ) (pcfgs (F := F) 0).spec ⊆ Pipeline.ucRefs τ sig := Pipeline.arrRefs_sub_ucRefs spec0 (by decide)
theorem sub0t : Pipeline.tblRefs (τ := τ) (pcfgs (F := F) 0).pre ⊆ Pipeline.ucRefs τ sig := Pipeline.tblRefs_sub_ucRefs pre0 (by decide)
theorem sub1 : Pipeline.arrRefs (τ := τ) (pcfgs (F := F) 1).spec ⊆ Pipeline.ucRefs τ sig := Pipeline.arrRefs_sub_ucRefs spec1 (by decide)

theorem X2_eq (c : Dev nD) : X2 m c = Pipeline.afterRegion (pdats m 0 c) (X1 m c) := rfl
theorem X4_eq (c : Dev nD) : X4 m c = Pipeline.afterRegion (pdats m 1 c) (X3 m c) := rfl

theorem pre0E (c : Dev nD) : iprop(StableHlo.held (c.tc : Thread nD τ) (Pipeline.ucRefs τ sig) (X1 m c) ∗ rest c) ⊢ (reg0 m).pre c := by
  unfold reg0
  refine BI.Entails.trans ?_ (Pipeline.RegionSeg.ofHeldInT_pre (pcs := pcfgs (F := F)) (a := adms m) (pdats := pdats m) (p := 0) sub0 sub0t c)
  exact BI.Entails.refl _
theorem post0E (c : Dev nD) : (reg0 m).post c ⊢ iprop(StableHlo.held (c.tc : Thread nD τ) (Pipeline.ucRefs τ sig) (X2 m c) ∗ rest c) := by
  rw [X2_eq]
  unfold reg0
  exact Pipeline.RegionSeg.ofHeldInT_post (pcs := pcfgs (F := F)) (a := adms m) (pdats := pdats m) (p := 0) sub0 sub0t c
theorem pre1E (c : Dev nD) : iprop(StableHlo.held (c.tc : Thread nD τ) (Pipeline.ucRefs τ sig) (X3 m c) ∗ rest c) ⊢ (reg1 m).pre c := by
  unfold reg1
  refine BI.Entails.trans ?_ (Pipeline.RegionSeg.ofHeldIn_pre (pcs := pcfgs (F := F)) (a := adms m) (pdats := pdats m) (p := 1) sub1 c)
  exact BI.Entails.refl _
theorem post1E (c : Dev nD) : (reg1 m).post c ⊢ iprop(StableHlo.held (c.tc : Thread nD τ) (Pipeline.ucRefs τ sig) (X4 m c) ∗ rest c) := by
  rw [X4_eq]
  unfold reg1
  exact Pipeline.RegionSeg.ofHeldIn_post (pcs := pcfgs (F := F)) (a := adms m) (pdats := pdats m) (p := 1) sub1 c

set_option backward.isDefEq.respectTransparency.types false in
/-- Every execution ends, with every buffer at `X4` and every semaphore counter at zero. -/
theorem run : θ_run defs (onTc (τ := τ) (main (F := F))) ⟨m, fun _ => 0, ρ⟩ (fun r =>
    (∀ c : Dev nD, ∀ b ∈ Pipeline.ucRefs τ sig, r.2.mem ((c.tc : Thread nD τ).1, b) = X4 m c b) ∧ r.2.sem = fun _ => 0) := by
  refine Pipeline.θ_run_regions_kit_dev_sems (pcfgs (F := F)) (adms m) (pdats m) () (cellOf_inj (adms m)) emb₁ defs₀ Variants.none LL lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := ?_)
    (T₀ := fun c => iprop(StableHlo.held (c.tc : Thread nD τ) (Pipeline.ucRefs τ sig) (V0 m c) ∗ rest c))
    (Tₙ := fun c => StableHlo.held (c.tc : Thread nD τ) (Pipeline.ucRefs τ sig) (X4 m c))
    (hch := fun c => ⟨.rfl, pre0E m c, post0E m c, pre1E m c, (post1E m c).trans ?_⟩)
    (hinit := ?_) (QY := fun c s => ∀ b ∈ Pipeline.ucRefs τ sig, s.mem ((c.tc : Thread nD τ).1, b) = X4 m c b)
    (hfin := fun c s' => ?_) (hQ := fun _ h hz => ⟨h, funext fun g => hz g (.inr (regions_no_unscoped g.2))⟩)
  · iintro Hu; imodintro
    isplitl [Hu]
    · iapply (show (ownU _ : sProp (MM F)) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl)
      iexact Hu
    iapply (show (BI.emp : sProp (MM F)) ⊢ bigSep Finset.univ (fun _ : Dev nD => (BI.emp : sProp (MM F))) from by rw [BI.bigSep_emp_const])
    iempintro
  · iintro ⟨Hh, HO, -, -⟩
    isplitl [Hh] <;> iassumption
  · refine Pipeline.initEach LL lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (X4 m c) s') $$ [Hh HSI]
    · isplitl [Hh] <;> iassumption
    imodintro; iexact Hr

/-- A buffer neither the reshapes nor the calls write ends as launched. -/
theorem X1_of (c : Dev nD) (r : Ref sig .tc) (h : r ∉ hostOps0_W) : X1 m c r = m ((c.tc : Thread nD τ).loc r) := V1_of m c r h
theorem X2_of (c : Dev nD) (r : Ref sig .tc) (h : ∀ w, Pipeline.arrRef spec0 w = r → (spec0 w).isOut = false) : X2 m c r = X1 m c r :=
  Pipeline.afterRegion_keeps (R0.dats m (ok m) 0 c) (X1 m c) winFacts0.arr_inj (fun w => R0.A_eq m (ok m) c w) r h
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : ∀ w, Pipeline.arrRef spec1 w = r → (spec1 w).isOut = false) : X4 m c r = X3 m c r :=
  Pipeline.afterRegion_keeps (R1.dats (X3 m) 0 c) (X3 m c) winFacts1.arr_inj (fun w => R1.A_eq (X3 m) c w) r h

theorem kept (c : Dev nD) (r : Ref sig .tc) (h0 : r ∉ hostOps0_W) (h1 : ∀ w, Pipeline.arrRef spec0 w = r → (spec0 w).isOut = false)
    (h2 : r ∉ hostOps1_W) (h3 : ∀ w, Pipeline.arrRef spec1 w = r → (spec1 w).isOut = false) : X4 m c r = m ((c.tc : Thread nD τ).loc r) :=
  (X4_of m c r h3).trans <| (X3_of m c r h2).trans <| (X2_of m c r h1).trans (X1_of m c r h0)

theorem mem_uc (r : Ref sig .tc) (h : r.isScoped = false) : (Proc.devRef .tc r : DevRef τ sig) ∈ Pipeline.ucRefs τ sig :=
  Pipeline.devRef_mem_ucRefs h

/-- Every execution ends, with every argument as launched and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c =>
    ⟨(h.1 c _ (mem_uc main_arg0 rfl)).trans (kept m c main_arg0 (by decide) (by decide) (by decide) (by decide)),
     (h.1 c _ (mem_uc main_arg1 rfl)).trans (kept m c main_arg1 (by decide) (by decide) (by decide) (by decide)),
     (h.1 c _ (mem_uc main_arg2 rfl)).trans (kept m c main_arg2 (by decide) (by decide) (by decide) (by decide)),
     (h.1 c _ (mem_uc main_arg3 rfl)).trans (kept m c main_arg3 (by decide) (by decide) (by decide) (by decide)),
     (h.1 c _ (mem_uc main_arg4 rfl)).trans (kept m c main_arg4 (by decide) (by decide) (by decide) (by decide)),
     (h.1 c _ (mem_uc main_arg5 rfl)).trans (kept m c main_arg5 (by decide) (by decide) (by decide) (by decide)),
     (h.1 c _ (mem_uc main_arg6 rfl)).trans (kept m c main_arg6 (by decide) (by decide) (by decide) (by decide))⟩, h.2⟩) (run m ρ)

end Cert.Whole.Run

end
-- ==== Proof.WholeIdealRun0.lean ====
module

public import proofs.«01_k».proof.Proof.Gen.WholeIdeal.Launch
public import proofs.«01_k».proof.Proof.Gen.WholeIdeal.Skeleton
public import proofs.«01_k».proof.Proof.Gen.WholeIdeal.Points
public import proofs.«01_k».proof.Proof.Gen.WholeIdeal.Regions
public import Idealize.ShloMosaic.Lib.Pipeline.FrameBody
public import Idealize.ShloMosaic.Lib.Ring
public import Idealize.ShloMosaic.Lib.Tactic
public import Idealize.ShloMosaic.Lib.WordCmp

@[expose] public section

/-! The first call inside the whole kernel: where its windows move, and one run of its body in each of its two cases (the first point and the others). The lengths table is held whole throughout. -/

set_option maxRecDepth 16384

noncomputable section

namespace Cert.WholeIdeal.R0

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true ↔ t.val % 7 = 0 :=
  (fun t => Pipeline.Window.fetchOf_const cc0_transform_1 (fun _ _ => rfl) (n := 7) (by decide) t : ∀ t : Fin grid0.N, Pipeline.Window.fetchOf grid0 false cc0_transform_1 t = true ↔ t.val % 7 = 0)
theorem fetch0_2 (a : (pcfg0 (F := F)).Adm) : ∀ t : Fin (cfg0 a).N, ((cfg0 a).win 2).fetch t = true ↔ t.val % 7 = 0 :=
  (fun t => Pipeline.Window.fetchOf_const cc0_transform_2 (fun _ _ => rfl) (n := 7) (by decide) t : ∀ t : Fin grid0.N, Pipeline.Window.fetchOf grid0 false cc0_transform_2 t = true ↔ t.val % 7 = 0)
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
theorem flush0_6 (a : (pcfg0 (F := F)).Adm) : ∀ t : Fin (cfg0 a).N, ((cfg0 a).win 6).flush t = true ↔ t.val % 7 = 6 :=
  (fun t => Pipeline.Window.flushOf_const cc0_transform_6 (fun _ _ => rfl) (n := 7) (by decide) rfl t : ∀ t : Fin grid0.N, Pipeline.Window.flushOf grid0 true cc0_transform_6 t = true ↔ t.val % 7 = 6)
theorem flush0_7 (a : (pcfg0 (F := F)).Adm) : ∀ t : Fin (cfg0 a).N, ((cfg0 a).win 7).flush t = true ↔ t.val % 7 = 6 :=
  (fun t => Pipeline.Window.flushOf_const cc0_transform_7 (fun _ _ => rfl) (n := 7) (by decide) rfl t : ∀ t : Fin grid0.N, Pipeline.Window.flushOf grid0 true cc0_transform_7 t = true ↔ t.val % 7 = 6)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

abbrev bodyAt0 (a : (pcfg0 (F := F)).Adm) (t : Fin (cfg0 a).N) : Prog (TpuEff nD τ sig (Elt F) Λ₀ .tc) PUnit :=
  cc0__ln_kernel (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

abbrev V (c : Dev nD) (b : Ref sig .tc) : Buf (Elt F) ((c : Thread nD τ).loc b) := StableHlo.after hostOps0 (fun b => m (c, b)) b

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S7 .i32 := Memref.whole main_arg3
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare} f

abbrev heldT (tb : pre0.Contents (Elt F)) (c : Dev nD) : sProp (MT nD τ sig Unit (Elt F) ℕ (UR sig nD τ) ℕ) := Pipeline.prefHeld pre0 c (fun _ => fullShare) tb
theorem PhiT0_eq (c : Dev nD) : (heldT (tbl m) c : sProp (MT nD τ sig Unit (Elt F) ℕ (UR sig nD τ) ℕ)) = iprop(tbPt0 c tbM0_0 (tbl m 0)) := by
  unfold heldT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

abbrev VO0_4 : View sig .tc .vmem S1x256x2048 .fp8e5m2 := (Memref.whole cc0_stg4_0 : Memref sig .tc .vmem S1x256x2048 .fp8e5m2).view
abbrev VO0_5 : View sig .tc .vmem S1x256x1 .f32 := (Memref.whole cc0_stg5_0 : Memref sig .tc .vmem S1x256x1 .f32).view
abbrev VO0_6 : View sig .tc .vmem S1x2048 .f32 := (Memref.whole cc0_stg6_0 : Memref sig .tc .vmem S1x2048 .f32).view
abbrev VO0_7 : View sig .tc .vmem S1x2048 .f32 := (Memref.whole cc0_stg7_0 : Memref sig .tc .vmem S1x2048 .f32).view
abbrev ms0_0 (hO : Ok m) (t : Fin (cfgM m hO).N) : Memref sig .tc .vmem S1x256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x2048 .fp8e5m2 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2048 .f32 := spec0_7.stage ((cfgM m hO).slots t 7)
abbrev hs0_7 (hO : Ok m) (t : Fin (cfgM m hO).N) : (ms0_7 m hO t).IsWhole := hstage0_7 (((cfgM m hO).slots t 7).cast nbuf0_7)

set_option maxHeartbeats 1000000 in
noncomputable def kernelRun0_A (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) :
    Σ' (L4 : List (View.Piece (Elt F) S1x256x2048 .fp8e5m2)), Σ' (L5 : List (View.Piece (Elt F) S1x256x1 .f32)), Σ' (L6 : List (View.Piece (Elt F) S1x2048 .f32)), { L7 : List (View.Piece (Elt F) S1x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ tbPt0 c tbM0_0 xt0) -∗ K ⟨⟩))
          ⊢ wp frame (wpE (defs₀ (F := F)) Variants.none c none) E (cc0__ln_kernel i tbM0_0 htbM0_0 arg2 harg2 arg3 harg3 arg4 harg4 arg5 harg5 arg6 harg6 arg7 harg7 arg8 harg8 arg9 harg9) K } := by
  refine ⟨?_, ?_, ?_, ?_, fun E K => ?run⟩
  case run =>
    simp only [cc0__ln_kernel_eq_skeleton]; unfold cc0__ln_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, HT0, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexact HT0

set_option maxHeartbeats 1000000 in
noncomputable def kernelRun0_B (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) :
    Σ' (L4 : List (View.Piece (Elt F) S1x256x2048 .fp8e5m2)), Σ' (L5 : List (View.Piece (Elt F) S1x256x1 .f32)), Σ' (L6 : List (View.Piece (Elt F) S1x2048 .f32)), { L7 : List (View.Piece (Elt F) S1x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xo7 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ tbPt0 c tbM0_0 xt0) -∗ K ⟨⟩))
          ⊢ wp frame (wpE (defs₀ (F := F)) Variants.none c none) E (cc0__ln_kernel i tbM0_0 htbM0_0 arg2 harg2 arg3 harg3 arg4 harg4 arg5 harg5 arg6 harg6 arg7 harg7 arg8 harg8 arg9 harg9) K } := by
  refine ⟨?_, ?_, ?_, ?_, fun E K => ?run⟩
  case run =>
    simp only [cc0__ln_kernel_eq_skeleton]; unfold cc0__ln_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, HT0, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexact HT0

end Cert.WholeIdeal.R0

end
-- ==== Proof.WholeIdealBody0.lean ====
module

public import proofs.«01_k».proof.Proof.WholeIdealRun0
public import Idealize.ShloMosaic.Lib.Claim

@[expose] public section

/-! The first call inside the whole kernel: what its body leaves at each point, and the obligation the pipeline asks of it. -/

set_option maxRecDepth 16384

noncomputable section

namespace Cert.WholeIdeal.R0

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
theorem cover0_A_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x256x2048.Idx) :
    ∃ pc ∈ (kernelRun0_A c i arg2 harg2 arg3 harg3 arg4 harg4 arg5 harg5 arg6 harg6 arg7 harg7 arg8 harg8 arg9 harg9 hc0 x0 x1 x2 x3 xt0).1, y ∈ pc.1.set :=
  View.cover_of_tiledL (kernelRun0_A c i arg2 harg2 arg3 harg3 arg4 harg4 arg5 harg5 arg6 harg6 arg7 harg7 arg8 harg8 arg9 harg9 hc0 x0 x1 x2 x3 xt0).1 S1x256x2048.size (by sl_kernel_rfl) y

def out0_A_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x256x2048 .fp8e5m2 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3 xt0).1)

theorem cover0_A_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x256x1.Idx) :
    ∃ pc ∈ (kernelRun0_A c i arg2 harg2 arg3 harg3 arg4 harg4 arg5 harg5 arg6 harg6 arg7 harg7 arg8 harg8 arg9 harg9 hc0 x0 x1 x2 x3 xt0).2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.1 S1x256x1.size (by sl_kernel_rfl) y

def out0_A_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x256x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 xt0).2.1)

theorem cover0_A_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x2048.Idx) :
    ∃ pc ∈ (kernelRun0_A c i arg2 harg2 arg3 harg3 arg4 harg4 arg5 harg5 arg6 harg6 arg7 harg7 arg8 harg8 arg9 harg9 hc0 x0 x1 x2 x3 xt0).2.2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.2.1 S1x2048.size (by sl_kernel_rfl) y

def out0_A_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x2048 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 xt0).2.2.1)

theorem cover0_A_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) (y : S1x2048.Idx) :
    ∃ pc ∈ (kernelRun0_A c i arg2 harg2 arg3 harg3 arg4 harg4 arg5 harg5 arg6 harg6 arg7 harg7 arg8 harg8 arg9 harg9 hc0 x0 x1 x2 x3 xt0).2.2.2.1, y ∈ pc.1.set :=
  View.cover_of_tiledL (kernelRun0_A c i arg2 harg2 arg3 harg3 arg4 harg4 arg5 harg5 arg6 harg6 arg7 harg7 arg8 harg8 arg9 harg9 hc0 x0 x1 x2 x3 xt0).2.2.2.1 S1x2048.size (by sl_kernel_rfl) y

def out0_A_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x2048 .bf16) (x1 : Vec F S1x2048 .f32) (x2 : Vec F S1x2048 .f32) (x3 : Vec F S1x1x2048 .f32) (xt0 : TbBuf0 (F := F) c tbM0_0) : Vec F S1x2048 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 xt0).2.2.2.1)

theorem cover0_B_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x256x2048.Idx) :
    ∃ pc ∈ (kernelRun0_B c i arg2 harg2 arg3 harg3 arg4 harg4 arg5 harg5 arg6 harg6 arg7 harg7 arg8 harg8 arg9 harg9 hc0 x0 x1 x2 x3 xt0 xo6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).1 S1x256x2048.size (by sl_kernel_rfl) y

def out0_B_4 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x256x2048 .fp8e5m2 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xt0 xo6 xo7).1)

theorem cover0_B_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x256x1.Idx) :
    ∃ pc ∈ (kernelRun0_B c i arg2 harg2 arg3 harg3 arg4 harg4 arg5 harg5 arg6 harg6 arg7 harg7 arg8 harg8 arg9 harg9 hc0 x0 x1 x2 x3 xt0 xo6 xo7).2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.1 S1x256x1.size (by sl_kernel_rfl) y

def out0_B_5 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 xt0 xo6 xo7).2.1)

theorem cover0_B_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x2048.Idx) :
    ∃ pc ∈ (kernelRun0_B c i arg2 harg2 arg3 harg3 arg4 harg4 arg5 harg5 arg6 harg6 arg7 harg7 arg8 harg8 arg9 harg9 hc0 x0 x1 x2 x3 xt0 xo6 xo7).2.2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.2.1 S1x2048.size (by sl_kernel_rfl) y

def out0_B_6 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x2048 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 xt0 xo6 xo7).2.2.1)

theorem cover0_B_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) (y : S1x2048.Idx) :
    ∃ pc ∈ (kernelRun0_B c i arg2 harg2 arg3 harg3 arg4 harg4 arg5 harg5 arg6 harg6 arg7 harg7 arg8 harg8 arg9 harg9 hc0 x0 x1 x2 x3 xt0 xo6 xo7).2.2.2.1, y ∈ pc.1.set :=
  View.cover_of_tiledL (kernelRun0_B c i arg2 harg2 arg3 harg3 arg4 harg4 arg5 harg5 arg6 harg6 arg7 harg7 arg8 harg8 arg9 harg9 hc0 x0 x1 x2 x3 xt0 xo6 xo7).2.2.2.1 S1x2048.size (by sl_kernel_rfl) y

def out0_B_7 (c : Dev nD) (i : grid0.Coords) (arg2 : Memref sig .tc .vmem S1x256x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x256x2048 .fp8e5m2) (harg6 : arg6.IsWhole) (arg7 : Memref sig .tc .vmem S1x256x1 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x2048 .bf16) (x1 : Vec F S1x2048 .f32) (x2 : Vec F S1x2048 .f32) (x3 : Vec F S1x1x2048 .f32) (xt0 : TbBuf0 (F := F) c tbM0_0) (xo6 : Vec F S1x2048 .f32) (xo7 : Vec F S1x2048 .f32) : Vec F S1x2048 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 xt0 xo6 xo7).2.2.2.1)

def outsAt0 (hO : Ok m) (c : Dev nD) : (n : ℕ) → n < (cfgM m hO).N → Vec F S1x256x2048 .fp8e5m2 × Vec F S1x256x1 .f32 × Vec F S1x2048 .f32 × Vec F S1x2048 .f32
  | 0, hn => (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0))
  | n + 1, hn =>
    if h0 : (n + 1) % 7 = 0 then
      (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0))
    else
      (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2, out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.2.1 (outsAt0 hO c n (Nat.lt_of_succ_lt hn)).2.2.2)

theorem outsAt0_A (hO : Ok m) (c : Dev nD) (t : Fin (cfgM m hO).N) (h0 : t.val % 7 = 0) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) ((hcond0_0 t).mpr h0) (iblk m hO c 0 t) (iblk m hO c 1 t) (iblk m hO c 2 t) (iblk m hO c 3 t) (tbl m 0)) := by
  obtain ⟨n, hn⟩ := t
  cases n with
  | zero => exact rfl
  | succ n => exact (dif_pos h0).trans rfl

theorem outsAt0_B (hO : Ok m) (c : Dev nD) (t : Fin (cfgM m hO).N) (h0 : ¬t.val % 7 = 0) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2.1
    | ⟨6, _⟩ => (outsAt0 m hO c t.val t.isLt).2.2.1
    | ⟨7, _⟩ => (outsAt0 m hO c t.val t.isLt).2.2.2
  Φ _ := iprop(Pipeline.ΦA spec0 c ∗ heldT (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2.1 := by dsimp only [dats]; try rfl
theorem after0_6 (hO : Ok m) (c : Dev nD) (t : Fin (cfgM m hO).N) : (dats m hO 0 c).after 6 t = (outsAt0 m hO c t.val t.isLt).2.2.1 := by dsimp only [dats]; try rfl
theorem after0_7 (hO : Ok m) (c : Dev nD) (t : Fin (cfgM m hO).N) : (dats m hO 0 c).after 7 t = (outsAt0 m hO c t.val t.isLt).2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_6_B (hO : Ok m) (c : Dev nD) (t : Fin (cfgM m hO).N) (h0 : ¬t.val % 7 = 0) (d) :
    (dats m hO 0 c).before 6 t d = (outsAt0 m hO c (t.val - 1) (Nat.lt_of_le_of_lt (Nat.sub_le _ _) t.isLt)).2.2.1 := by
  have hN : t.val < 7 := lt_of_lt_of_eq t.isLt (show (cfgM m hO).N = 7 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl
theorem before0_7_B (hO : Ok m) (c : Dev nD) (t : Fin (cfgM m hO).N) (h0 : ¬t.val % 7 = 0) (d) :
    (dats m hO 0 c).before 7 t d = (outsAt0 m hO c (t.val - 1) (Nat.lt_of_le_of_lt (Nat.sub_le _ _) t.isLt)).2.2.2 := by
  have hN : t.val < 7 := lt_of_lt_of_eq t.isLt (show (cfgM m hO).N = 7 from N_0)
  rw [Dat.before_out_kept _ 7 rfl t (by omega) (Bool.eq_false_iff.mpr fun h => by have := (flush0_7 (adm m hO) _).mp h; dsimp only at this; omega)
    (fun _ => rfl) (fun _ _ => rfl)]
  dsimp only [dats]
  try rfl

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ heldT (tbl m) c) from rfl, PhiT0_eq]
  have hN : t.val < 7 := lt_of_lt_of_eq t.isLt (show (cfgM m hO).N = 7 from N_0)
  by_cases h0 : t.val % 7 = 0
  · rw [outsAt0_A m hO c t h0]
    unfold out0_A_4 out0_A_5 out0_A_6 out0_A_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m hO c 0 t) (iblk m hO c 1 t) (iblk m hO c 2 t) (iblk m hO c 3 t) (tbl m 0)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HT0]; · iexact HT0
    iintro ⟨H0, H1, H2, H3, ⟨%e4, H4⟩, ⟨%e5, H5⟩, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _)
  · rw [outsAt0_B m hO c t h0]
    simp only [before0_6_B m hO c t h0, before0_7_B m hO c t h0]
    unfold out0_B_4 out0_B_5 out0_B_6 out0_B_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m hO c 0 t) (iblk m hO c 1 t) (iblk m hO c 2 t) (iblk m hO c 3 t) (tbl m 0) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HT0]; · iexact HT0
    iintro ⟨H0, H1, H2, H3, ⟨%e4, H4⟩, ⟨%e5, H5⟩, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.WholeIdeal.R0

end
-- ==== Proof.WholeIdealBody1.lean ====
module

public import proofs.«01_k».proof.Proof.Gen.WholeIdeal.Launch
public import proofs.«01_k».proof.Proof.Gen.WholeIdeal.Skeleton
public import proofs.«01_k».proof.Proof.Gen.WholeIdeal.Points
public import proofs.«01_k».proof.Proof.Gen.WholeIdeal.Regions
public import Idealize.ShloMosaic.Lib.Pipeline.FrameBody
public import Idealize.ShloMosaic.Lib.Ring
public import Idealize.ShloMosaic.Lib.Tactic
public import Idealize.ShloMosaic.Lib.WordCmp

@[expose] public section

/-! The second call inside the whole kernel, entered with any contents `m` of the buffers: what its body leaves at each point, and the obligation the pipeline asks of it. -/

set_option maxRecDepth 16384

noncomputable section

namespace Cert.WholeIdeal.R1

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : Dev nD → Valuation τ sig (Elt F))

abbrev V (c : Dev nD) (b : Ref sig .tc) : Buf (Elt F) ((c : Thread nD τ).loc b) := m c b

def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S1792x2048 := Rect.unit (s := S1792x2048) ![0, 0] S1792x2048.size inb_S1792x2048_S1792x2048_0_0
abbrev r0_1 : Rect S512x2048 := Rect.unit (s := S512x2048) ![0, 0] S512x2048.size inb_S512x2048_S512x2048_0_0
abbrev r0_2 : Rect S1792x1 := Rect.unit (s := S1792x1) ![0, 0] S1792x1.size inb_S1792x1_S1792x1_0_0
abbrev r0_3 : Rect S1x512 := Rect.unit (s := S1x512) ![0, 0] S1x512.size inb_S1x512_S1x512_0_0
abbrev r0_4 : Rect S1792x512 := Rect.unit (s := S1792x512) ![0, 0] S1792x512.size inb_S1792x512_S1792x512_0_0

def out0_4 (x0 : Vec F S1792x2048 .fp8e5m2) (x1 : Vec F S512x2048 .fp8e4m3) (x2 : Vec F S1792x1 .f32) (x3 : Vec F S1x512 .f32) : Vec F S1792x512 .bf16 :=
  View.canon [⟨r0_4, k1_pay1 (View.ld x0 r0_0) (View.ld x1 r0_1) (View.ld x2 r0_2) (View.ld x3 r0_3)⟩]

theorem cover0_4 (p0 : Vec F S1792x512 .bf16) (y : S1792x512.Idx) :
    ∃ pc ∈ ([⟨r0_4, p0⟩] : List (View.Piece (Elt F) S1792x512 .bf16)), y ∈ pc.1.set :=
  View.cover_of_tiled [⟨r0_4, p0⟩] S1792x512.size (by rfl) y

set_option maxHeartbeats 1000000 in
theorem sound_kernel (c : Dev nD) (E : Set ℕ) (i : grid1.Coords) (arg1 : Memref sig .tc .vmem S1792x2048 .fp8e5m2) (harg1 : arg1.IsWhole) (arg2 : Memref sig .tc .vmem S512x2048 .fp8e4m3) (harg2 : arg2.IsWhole) (arg3 : Memref sig .tc .vmem S1792x1 .f32) (harg3 : arg3.IsWhole) (arg4 : Memref sig .tc .vmem S1x512 .f32) (harg4 : arg4.IsWhole) (arg5 : Memref sig .tc .vmem S1792x512 .bf16) (harg5 : arg5.IsWhole)
    (x0 : Vec F S1792x2048 .fp8e5m2) (x1 : Vec F S512x2048 .fp8e4m3) (x2 : Vec F S1792x1 .f32) (x3 : Vec F S1x512 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec1 c
  q _ := fullShare
  owed _ := 0

theorem A_eq (c : Dev nD) (w : Fin cfg1.W) : (dats m 0 c).A w = V m c (Pipeline.arrRef spec1 w) := by
  dsimp only [dats]

theorem after0_0 (c : Dev nD) (t : Fin cfg1.N) : (dats m 0 c).after 0 t = iblk m c 0 t := by dsimp only [dats]
theorem after0_1 (c : Dev nD) (t : Fin cfg1.N) : (dats m 0 c).after 1 t = iblk m c 1 t := by dsimp only [dats]
theorem after0_2 (c : Dev nD) (t : Fin cfg1.N) : (dats m 0 c).after 2 t = iblk m c 2 t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = out0_4 (iblk m c 0 t) (iblk m c 1 t) (iblk m c 2 t) (iblk m c 3 t) := by dsimp only [dats]

theorem before0_0 (c : Dev nD) (t : Fin cfg1.N) (d) : (dats m 0 c).before 0 t d = iblk m c 0 t :=
  before0_0_of m (dats m 0 c) (A_eq m c 0) (after0_0 m c) t d
theorem before0_1 (c : Dev nD) (t : Fin cfg1.N) (d) : (dats m 0 c).before 1 t d = iblk m c 1 t :=
  before0_1_of m (dats m 0 c) (A_eq m c 1) (after0_1 m c) t d
theorem before0_2 (c : Dev nD) (t : Fin cfg1.N) (d) : (dats m 0 c).before 2 t d = iblk m c 2 t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d

def bodyPre (c : Dev nD) (t : Fin cfg1.N) : sProp (MT nD τ sig Unit (Elt F) ℕ (UR sig nD τ) ℕ) :=
  iprop((dats m 0 c).Φ t.castSucc ∗ (dats m 0 c).owesAt () t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d))
    ∗ (∃ d, owns (c : Thread nD τ) (st1_3 t) fullShare ((dats m 0 c).before 3 t d))
    ∗ (∃ d, owns (c : Thread nD τ) (st1_4 t) fullShare ((dats m 0 c).before 4 t d)))

def bodyPost (c : Dev nD) (t : Fin cfg1.N) : sProp (MT nD τ sig Unit (Elt F) ℕ (UR sig nD τ) ℕ) :=
  iprop((dats m 0 c).Φ t.succ ∗ (dats m 0 c).owesAt () t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t)
    ∗ owns (c : Thread nD τ) (st1_3 t) fullShare ((dats m 0 c).after 3 t)
    ∗ owns (c : Thread nD τ) (st1_4 t) fullShare ((dats m 0 c).after 4 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

end Cert.WholeIdeal.R1

end
-- ==== Proof.WholeIdealRun.lean ====
module

public import proofs.«01_k».proof.Proof.WholeIdealBody0
public import proofs.«01_k».proof.Proof.WholeIdealBody1
public import Idealize.ShloMosaic.Lib.Pipeline.RegionArraysTS

@[expose] public section

/-! The whole kernel's run: the host's reshapes, the first call, the reshapes between the calls and the second call, one after the other.
    `X1` to `X4` are the buffers' contents after each of them. -/

set_option maxRecDepth 16384

noncomputable section

namespace Cert.WholeIdeal.Run

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The assertions' model. -/
abbrev MM (F : FTy → Type) : Type := MT nD τ sig Unit (Elt F) ℕ (UR sig nD τ) ℕ

variable (m : (ℓ : Loc nD τ sig) → Buf (Elt F) ℓ) (ρ : Dev nD → PrngReg)

/-- No window of the first call is placed by the table's words. -/
theorem ok : R0.Ok m := trivial

/-- The buffers after the reshapes before the first call, after that call, after the reshapes between the calls and after the second call. -/
def X1 (c : Dev nD) : Valuation τ sig (Elt F) := StableHlo.after hostOps0 (V0 m c)
def X2 (c : Dev nD) : Valuation τ sig (Elt F) := Pipeline.afterRegion (R0.dats m (ok m) 0 c) (X1 m c)
def X3 (c : Dev nD) : Valuation τ sig (Elt F) := StableHlo.after hostOps1 (X2 m c)
def X4 (c : Dev nD) : Valuation τ sig (Elt F) := Pipeline.afterRegion (R1.dats (X3 m) 0 c) (X3 m c)

/-- Each call's table contents: the first call's are the lengths, the second has none. -/
def adms : (p : Fin 2) → (pcfgs (F := F) p).Adm
  | ⟨0, _⟩ => R0.adm m (ok m)
  | ⟨1, _⟩ => cfg1.toPCfg_adm
  | ⟨_ + 2, h⟩ => absurd h (Nat.not_lt.2 (Nat.le_add_left _ _))

/-- Each call's proof data. -/
def pdats : (p : Fin 2) → (c : Dev nD) → Dat τ (Elt F) Unit ℕ (UR sig nD τ) ℕ (Pipeline.pin (pcfgs (F := F)) (adms m) p) c
  | ⟨0, _⟩ => fun c => R0.dats m (ok m) 0 c
  | ⟨1, _⟩ => fun c => R1.dats (X3 m) 0 c
  | ⟨_ + 2, h⟩ => absurd h (Nat.not_lt.2 (Nat.le_add_left _ _))

/-- One wait index on every core's own semaphores, at one level. -/
def LL : GSem nD τ sig → Finset Unit := fun g => if g.1.2 = .tc then {()} else ∅
def lv : GSem nD τ sig → Unit → ℕ := fun _ _ => 0

theorem hcut (p : Fin 2) : Pipeline.LevelCut (pcfgs (F := F)) (adms m) () LL lv p (fun _ => 0) (fun _ => 0) where
  hι c w s := by
    show () ∈ (if (Proc.tc : Proc τ) = .tc then ({()} : Finset Unit) else ∅)
    rw [if_pos rfl]; exact Finset.mem_singleton_self _
  hιb _ _ _ := le_refl _
  hD _ g i h := absurd h (lt_irrefl _)

/-- What rides beside the buffers: nothing owed, and the random-number register. -/
abbrev rest (c : Dev nD) : sProp (MM F) :=
  iprop((∃ Wd, owes (c.tc : Thread nD τ) (0 : CellTallies nD τ sig Unit) Wd) ∗ (∃ r, prngReg c r) ∗ emp)

def hseg0 : HostSeg (Ix := Unit) (Name := ℕ) (U := UR sig nD τ) (Lvl := ℕ) (pcfgs (F := F)) defs₀ Variants.none LL lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

def hseg1 : HostSeg (Ix := Unit) (Name := ℕ) (U := UR sig nD τ) (Lvl := ℕ) (pcfgs (F := F)) defs₀ Variants.none LL lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X2 m) rest

set_option backward.isDefEq.respectTransparency.types false in
/-- The first call's region. -/
def reg0 : RegionSeg (pcfgs (F := F)) (adms m) (pdats m) () defs₀ Variants.none LL lv 0 :=
  Pipeline.RegionSeg.ofHeldInT (pcfgs (F := F)) (adms m) (pdats m) () defs₀ Variants.none LL lv 0 (fun _ => 0)
    (Pipeline.ucRefs τ sig) (fun c => iprop(∃ r, prngReg c r)) (fun c => iprop(∃ r, prngReg c r)) launch0
    (fun c => (R0.body_obligation m (ok m) c).loose) (fun _ _ => rfl) (fun _ => rfl) (fun c => (R0.dats m (ok m) 0 c).share_full fun _ => rfl)
    (fun _ => .rfl) (fun _ => .rfl) (fun _ => 0) (hcut m 0) (fun _ => iprop(emp)) (X1 m)
    (fun c w => R0.A_eq m (ok m) c w) (fun c k => (R0.V_pre m c k).symm)

set_option backward.isDefEq.respectTransparency.types false in
/-- The second call's region. -/
def reg1 : RegionSeg (pcfgs (F := F)) (adms m) (pdats m) () defs₀ Variants.none LL lv 1 :=
  Pipeline.RegionSeg.ofHeldIn (pcfgs (F := F)) (adms m) (pdats m) () defs₀ Variants.none LL lv 1 (fun _ => 0)
    (Pipeline.ucRefs τ sig) (fun c => iprop(∃ r, prngReg c r)) (fun c => iprop(∃ r, prngReg c r)) launch1 rfl
    (fun c => (R1.body_obligation (X3 m) c).loose) (fun _ _ => rfl) (fun _ => rfl) (fun c => (R1.dats (X3 m) 0 c).share_full fun _ => rfl)
    (fun _ => .rfl) (fun _ => .rfl) (fun _ => 0) (hcut m 1) (fun _ => iprop(emp)) (X3 m)
    (fun c w => R1.A_eq (X3 m) c w)

abbrev segs (c : Dev nD) : List (Seg (pcfgs (F := F)) (adms m) (pdats m) () defs₀ Variants.none LL lv) :=
  [.host (hseg0 m), .region (reg0 m), .host (hseg1 m), .region (reg1 m)]

theorem sub0 : Pipeline.arrRefs (τ := τ) (pcfgs (F := F) 0).spec ⊆ Pipeline.ucRefs τ sig := Pipeline.arrRefs_sub_ucRefs spec0 (by decide)
theorem sub0t : Pipeline.tblRefs (τ := τ) (pcfgs (F := F) 0).pre ⊆ Pipeline.ucRefs τ sig := Pipeline.tblRefs_sub_ucRefs pre0 (by decide)
theorem sub1 : Pipeline.arrRefs (τ := τ) (pcfgs (F := F) 1).spec ⊆ Pipeline.ucRefs τ sig := Pipeline.arrRefs_sub_ucRefs spec1 (by decide)

theorem X2_eq (c : Dev nD) : X2 m c = Pipeline.afterRegion (pdats m 0 c) (X1 m c) := rfl
theorem X4_eq (c : Dev nD) : X4 m c = Pipeline.afterRegion (pdats m 1 c) (X3 m c) := rfl

theorem pre0E (c : Dev nD) : iprop(StableHlo.held (c.tc : Thread nD τ) (Pipeline.ucRefs τ sig) (X1 m c) ∗ rest c) ⊢ (reg0 m).pre c := by
  unfold reg0
  refine BI.Entails.trans ?_ (Pipeline.RegionSeg.ofHeldInT_pre (pcs := pcfgs (F := F)) (a := adms m) (pdats := pdats m) (p := 0) sub0 sub0t c)
  exact BI.Entails.refl _
theorem post0E (c : Dev nD) : (reg0 m).post c ⊢ iprop(StableHlo.held (c.tc : Thread nD τ) (Pipeline.ucRefs τ sig) (X2 m c) ∗ rest c) := by
  rw [X2_eq]
  unfold reg0
  exact Pipeline.RegionSeg.ofHeldInT_post (pcs := pcfgs (F := F)) (a := adms m) (pdats := pdats m) (p := 0) sub0 sub0t c
theorem pre1E (c : Dev nD) : iprop(StableHlo.held (c.tc : Thread nD τ) (Pipeline.ucRefs τ sig) (X3 m c) ∗ rest c) ⊢ (reg1 m).pre c := by
  unfold reg1
  refine BI.Entails.trans ?_ (Pipeline.RegionSeg.ofHeldIn_pre (pcs := pcfgs (F := F)) (a := adms m) (pdats := pdats m) (p := 1) sub1 c)
  exact BI.Entails.refl _
theorem post1E (c : Dev nD) : (reg1 m).post c ⊢ iprop(StableHlo.held (c.tc : Thread nD τ) (Pipeline.ucRefs τ sig) (X4 m c) ∗ rest c) := by
  rw [X4_eq]
  unfold reg1
  exact Pipeline.RegionSeg.ofHeldIn_post (pcs := pcfgs (F := F)) (a := adms m) (pdats := pdats m) (p := 1) sub1 c

set_option backward.isDefEq.respectTransparency.types false in
/-- Every execution ends, with every buffer at `X4` and every semaphore counter at zero. -/
theorem run : θ_run defs (onTc (τ := τ) (main (F := F))) ⟨m, fun _ => 0, ρ⟩ (fun r =>
    (∀ c : Dev nD, ∀ b ∈ Pipeline.ucRefs τ sig, r.2.mem ((c.tc : Thread nD τ).1, b) = X4 m c b) ∧ r.2.sem = fun _ => 0) := by
  refine Pipeline.θ_run_regions_kit_dev_sems (pcfgs (F := F)) (adms m) (pdats m) () (cellOf_inj (adms m)) emb₁ defs₀ Variants.none LL lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := ?_)
    (T₀ := fun c => iprop(StableHlo.held (c.tc : Thread nD τ) (Pipeline.ucRefs τ sig) (V0 m c) ∗ rest c))
    (Tₙ := fun c => StableHlo.held (c.tc : Thread nD τ) (Pipeline.ucRefs τ sig) (X4 m c))
    (hch := fun c => ⟨.rfl, pre0E m c, post0E m c, pre1E m c, (post1E m c).trans ?_⟩)
    (hinit := ?_) (QY := fun c s => ∀ b ∈ Pipeline.ucRefs τ sig, s.mem ((c.tc : Thread nD τ).1, b) = X4 m c b)
    (hfin := fun c s' => ?_) (hQ := fun _ h hz => ⟨h, funext fun g => hz g (.inr (regions_no_unscoped g.2))⟩)
  · iintro Hu; imodintro
    isplitl [Hu]
    · iapply (show (ownU _ : sProp (MM F)) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl)
      iexact Hu
    iapply (show (BI.emp : sProp (MM F)) ⊢ bigSep Finset.univ (fun _ : Dev nD => (BI.emp : sProp (MM F))) from by rw [BI.bigSep_emp_const])
    iempintro
  · iintro ⟨Hh, HO, -, -⟩
    isplitl [Hh] <;> iassumption
  · refine Pipeline.initEach LL lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (X4 m c) s') $$ [Hh HSI]
    · isplitl [Hh] <;> iassumption
    imodintro; iexact Hr

/-- A buffer neither the reshapes nor the calls write ends as launched. -/
theorem X1_of (c : Dev nD) (r : Ref sig .tc) (h : r ∉ hostOps0_W) : X1 m c r = m ((c.tc : Thread nD τ).loc r) := V1_of m c r h
theorem X2_of (c : Dev nD) (r : Ref sig .tc) (h : ∀ w, Pipeline.arrRef spec0 w = r → (spec0 w).isOut = false) : X2 m c r = X1 m c r :=
  Pipeline.afterRegion_keeps (R0.dats m (ok m) 0 c) (X1 m c) winFacts0.arr_inj (fun w => R0.A_eq m (ok m) c w) r h
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : ∀ w, Pipeline.arrRef spec1 w = r → (spec1 w).isOut = false) : X4 m c r = X3 m c r :=
  Pipeline.afterRegion_keeps (R1.dats (X3 m) 0 c) (X3 m c) winFacts1.arr_inj (fun w => R1.A_eq (X3 m) c w) r h

theorem kept (c : Dev nD) (r : Ref sig .tc) (h0 : r ∉ hostOps0_W) (h1 : ∀ w, Pipeline.arrRef spec0 w = r → (spec0 w).isOut = false)
    (h2 : r ∉ hostOps1_W) (h3 : ∀ w, Pipeline.arrRef spec1 w = r → (spec1 w).isOut = false) : X4 m c r = m ((c.tc : Thread nD τ).loc r) :=
  (X4_of m c r h3).trans <| (X3_of m c r h2).trans <| (X2_of m c r h1).trans (X1_of m c r h0)

theorem mem_uc (r : Ref sig .tc) (h : r.isScoped = false) : (Proc.devRef .tc r : DevRef τ sig) ∈ Pipeline.ucRefs τ sig :=
  Pipeline.devRef_mem_ucRefs h

/-- Every execution ends, with every argument as launched and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c =>
    ⟨(h.1 c _ (mem_uc main_arg0 rfl)).trans (kept m c main_arg0 (by decide) (by decide) (by decide) (by decide)),
     (h.1 c _ (mem_uc main_arg1 rfl)).trans (kept m c main_arg1 (by decide) (by decide) (by decide) (by decide)),
     (h.1 c _ (mem_uc main_arg2 rfl)).trans (kept m c main_arg2 (by decide) (by decide) (by decide) (by decide)),
     (h.1 c _ (mem_uc main_arg3 rfl)).trans (kept m c main_arg3 (by decide) (by decide) (by decide) (by decide)),
     (h.1 c _ (mem_uc main_arg4 rfl)).trans (kept m c main_arg4 (by decide) (by decide) (by decide) (by decide)),
     (h.1 c _ (mem_uc main_arg5 rfl)).trans (kept m c main_arg5 (by decide) (by decide) (by decide) (by decide)),
     (h.1 c _ (mem_uc main_arg6 rfl)).trans (kept m c main_arg6 (by decide) (by decide) (by decide) (by decide))⟩, h.2⟩) (run m ρ)

end Cert.WholeIdeal.Run

end
-- ==== Proof.MmKernel.lean ====
/-
  The fp8 product as the pipelined kernel leaves it, at the ideal instance: one entry of a point's block, the blocks put
  together into the array, and the run that ends with that array.
-/
module

public import proofs.«01_k».proof.Defs
public import proofs.«01_k».proof.Proof.Gen.MmIdeal.Value
public import Idealize.ShloMosaic.Lib.Pointwise
public import Idealize.ShloMosaic.Lib.Pipeline.Value
public import Idealize.ShloMosaic.Lib.StableHlo.ReadAt

@[expose] public section

set_option maxRecDepth 16384

noncomputable section

namespace Cert.MmIdeal.Prod

open Cert.MmIdeal Cert.MmIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the block a grid point stores: the row of codes times the column's weight codes, times the two scales. -/
theorem pay_apply (a : Vec Ideal S1792x2048 .fp8e5m2) (w : Vec Ideal S512x2048 .fp8e4m3) (s : Vec Ideal S1792x1 .f32)
    (ws : Vec Ideal S1x512 .f32) (j : S1792x512.Idx) :
    k0_pay1 a w s ws j = (∑ k : Fin 2048, a (ix2 (j 0) k) * w (ix2 (j 1) k)) * (s (ix2 (j 0) 0) * ws (ix2 0 (j 1))) := by
  idx_vars j
  pointwise [k0_pay1]

/-- The product as one array: entry `(r, n)` is row `r` of the codes times row `n` of the weight codes, times the scales. -/
def prod (a : Vec Ideal S1792x2048 .fp8e5m2) (w : Vec Ideal S5632x2048 .fp8e4m3) (s : Vec Ideal S1792x1 .f32)
    (ws : Vec Ideal S1x5632 .f32) : Vec Ideal S1792x5632 .bf16 := fun i =>
  (∑ k : Fin 2048, a (ix2 (i 0) k) * w (ix2 (i 1) k)) * (s (ix2 (i 0) 0) * ws (ix2 0 (i 1)))

/-- Where each window's block lies at a grid point: the codes and their scales whole, the weights, their scales and the
    result at tile `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The arrays the region finds. -/
abbrev codes (c : Dev nD) : Vec Ideal S1792x2048 .fp8e5m2 := V m c main_v0
abbrev weights (c : Dev nD) : Vec Ideal S5632x2048 .fp8e4m3 := V m c main_arg2
abbrev scales (c : Dev nD) : Vec Ideal S1792x1 .f32 := V m c main_v1
abbrev wscales (c : Dev nD) : Vec Ideal S1x5632 .f32 := V m c main_v2

/-- The result array. -/
abbrev result (c : Dev nD) : Buf (Elt Ideal) ((c : Thread nD τ).loc main_v3) :=
  prod (codes m c) (weights m c) (scales m c) (wscales m c)

/-- What a point writes back is its block of the product. -/
theorem flushed_eq (c : Dev nD) (t : Fin cfg0.N) :
    (dats m 0 c).flushed 4 t = ((cfg0.win 4).blk t).view.read (Elt Ideal) (result m c) := by
  obtain ⟨e00, e01, e10, e11, e20, e21, e30, e31, e40, e41⟩ := idx_facts t
  rw [Value.flushed4]
  unfold out0_4
  rw [View.canon_unit_zero hz, View.ld_unit_zero hz, View.ld_unit_zero hz, View.ld_unit_zero hz, View.ld_unit_zero hz]
  funext j
  rw [View.read_apply]
  show k0_pay1 _ _ _ _ j = _
  rw [pay_apply]
  have h0 : ∀ k : Fin 2048, (iblk m c 0 t : Vec Ideal S1792x2048 .fp8e5m2) (ix2 (j 0) k)
      = codes m c (ix2 ((((cfg0.win 4).blk t).view.emb j) 0) k) := fun k => by
    show V m c main_v0 (((cfg0.win 0).blk t).view.emb _) = _
    refine congrArg _ (funext fun a => Fin.ext ?_)
    match a with
    | ⟨0, _⟩ => show win0_0.index t 0 * 1792 + 1 * (j 0).val = win0_4.index t 0 * 1792 + 1 * (j 0).val; rw [e00, e40]
    | ⟨1, _⟩ => show win0_0.index t 1 * 2048 + 1 * k.val = k.val; rw [e01]; omega
  have h1 : ∀ k : Fin 2048, (iblk m c 1 t : Vec Ideal S512x2048 .fp8e4m3) (ix2 (j 1) k)
      = weights m c (ix2 ((((cfg0.win 4).blk t).view.emb j) 1) k) := fun k => by
    show V m c main_arg2 (((cfg0.win 1).blk t).view.emb _) = _
    refine congrArg _ (funext fun a => Fin.ext ?_)
    match a with
    | ⟨0, _⟩ => show win0_1.index t 0 * 512 + 1 * (j 1).val = win0_4.index t 1 * 512 + 1 * (j 1).val; rw [e10, e41]
    | ⟨1, _⟩ => show win0_1.index t 1 * 2048 + 1 * k.val = k.val; rw [e11]; omega
  have h2 : (iblk m c 2 t : Vec Ideal S1792x1 .f32) (ix2 (j 0) 0)
      = scales m c (ix2 ((((cfg0.win 4).blk t).view.emb j) 0) 0) := by
    show V m c main_v1 (((cfg0.win 2).blk t).view.emb _) = _
    refine congrArg _ (funext fun a => Fin.ext ?_)
    match a with
    | ⟨0, _⟩ => show win0_2.index t 0 * 1792 + 1 * (j 0).val = win0_4.index t 0 * 1792 + 1 * (j 0).val; rw [e20, e40]
    | ⟨1, _⟩ => show win0_2.index t 1 * 1 + 1 * 0 = 0; rw [e21]
  have h3 : (iblk m c 3 t : Vec Ideal S1x512 .f32) (ix2 0 (j 1))
      = wscales m c (ix2 0 ((((cfg0.win 4).blk t).view.emb j) 1)) := by
    show V m c main_v2 (((cfg0.win 3).blk t).view.emb _) = _
    refine congrArg _ (funext fun a => Fin.ext ?_)
    match a with
    | ⟨0, _⟩ => show win0_3.index t 0 * 1 + 1 * 0 = 0; rw [e30]
    | ⟨1, _⟩ => show win0_3.index t 1 * 512 + 1 * (j 1).val = win0_4.index t 1 * 512 + 1 * (j 1).val; rw [e31, e41]
  exact congrArg₂ (fun x y : EReal => x * y)
    (Finset.sum_congr rfl fun k _ => congrArg₂ (fun x y : EReal => x * y) (h0 k) (h1 k))
    (congrArg₂ (fun x y : EReal => x * y) h2 h3)

/-- Every entry of the result lies in the block of its tile of 512 columns. -/
theorem cover (i : S1792x5632.Idx) :
    ∃ t : Fin cfg0.N, (cfg0.win 4).flush t = true ∧ i ∈ ((cfg0.win 4).blk t).view.set := by
  have h0 : (i 0 : Nat) < 1792 := (i 0).isLt
  have h1 : (i 1 : Nat) < 5632 := (i 1).isLt
  have hN : cfg0.N = 11 := N_0
  have ht : (i 1 : Nat) / 512 < cfg0.N := by omega
  obtain ⟨-, -, -, -, -, -, -, -, e40, e41⟩ := idx_facts ⟨(i 1 : Nat) / 512, ht⟩
  refine ⟨⟨(i 1 : Nat) / 512, ht⟩, flush0_4 _, ?_⟩
  show i ∈ ((View.whole main_v3).slice (win0_4.rect ⟨(i 1 : Nat) / 512, ht⟩)).set
  rw [View.set_slice_whole, Rect.mem_set_unit]
  intro a
  match a with
  | ⟨0, _⟩ =>
    show win0_4.index _ 0 * 1792 ≤ (i 0 : Nat) ∧ (i 0 : Nat) < win0_4.index _ 0 * 1792 + 1792
    rw [e40]; omega
  | ⟨1, _⟩ =>
    show win0_4.index _ 1 * 512 ≤ (i 1 : Nat) ∧ (i 1 : Nat) < win0_4.index _ 1 * 512 + 512
    rw [e41]; dsimp only; omega

/-- So the result array ends as the product. -/
theorem final (c : Dev nD) : (dats m 0 c).arrAt 4 cfg0.N = result m c :=
  (dats m 0 c).arrAt_eq_of_cover 4 (result m c) (fun t _ => flushed_eq m c t) cover

/-- The run: the result array ends as the product, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The arrays the region finds, of the arguments: the codes and the scales as rows, the weight scales as one row. -/
theorem codes_apply (c : Dev nD) (r : Fin 1792) (k : Fin 2048) :
    codes m c (ix2 r k) = m ((c : Thread nD τ).loc main_arg0) (ix3 ⟨r.val / 256, by omega⟩ ⟨r.val % 256, by omega⟩ k) := by
  unfold codes V
  after_reads_at
theorem scales_apply (c : Dev nD) (r : Fin 1792) :
    scales m c (ix2 r 0) = m ((c : Thread nD τ).loc main_arg1) (ix3 ⟨r.val / 256, by omega⟩ ⟨r.val % 256, by omega⟩ 0) := by
  unfold scales V
  after_reads_at
theorem wscales_apply (c : Dev nD) (n : Fin 5632) :
    wscales m c (ix2 0 n) = m ((c : Thread nD τ).loc main_arg3) (ix1 n) := by
  unfold wscales V
  after_reads_at

end Cert.MmIdeal.Prod

end
-- ==== Proof.MmReference.lean ====
/-
  The fp8 product as the reference leaves it, at the ideal instance: one entry of the one block, the array, and the run that
  ends with that array.
-/
module

public import proofs.«01_k».proof.Defs
public import proofs.«01_k».proof.Proof.Gen.MmReferenceIdeal.Value
public import Idealize.ShloMosaic.Lib.Pointwise
public import Idealize.ShloMosaic.Lib.Pipeline.Value
public import Idealize.ShloMosaic.Lib.StableHlo.ReadAt

@[expose] public section

set_option maxRecDepth 16384

noncomputable section

namespace Cert.MmReferenceIdeal.Prod

open Cert.MmReferenceIdeal Cert.MmReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the block a grid point stores: the row of codes times the column's weight codes, times the two scales. -/
theorem pay_apply (a : Vec Ideal S1792x2048 .fp8e5m2) (w : Vec Ideal S5632x2048 .fp8e4m3) (s : Vec Ideal S1792x1 .f32)
    (ws : Vec Ideal S1x5632 .f32) (j : S1792x5632.Idx) :
    k0_pay1 a w s ws j = (∑ k : Fin 2048, a (ix2 (j 0) k) * w (ix2 (j 1) k)) * (s (ix2 (j 0) 0) * ws (ix2 0 (j 1))) := by
  idx_vars j
  pointwise [k0_pay1]

/-- The product as one array: entry `(r, n)` is row `r` of the codes times row `n` of the weight codes, times the scales. -/
def prod (a : Vec Ideal S1792x2048 .fp8e5m2) (w : Vec Ideal S5632x2048 .fp8e4m3) (s : Vec Ideal S1792x1 .f32)
    (ws : Vec Ideal S1x5632 .f32) : Vec Ideal S1792x5632 .bf16 := fun i =>
  (∑ k : Fin 2048, a (ix2 (i 0) k) * w (ix2 (i 1) k)) * (s (ix2 (i 0) 0) * ws (ix2 0 (i 1)))

/-- Each window's block is its whole array, at the one point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The arrays the region finds. -/
abbrev codes (c : Dev nD) : Vec Ideal S1792x2048 .fp8e5m2 := V m c main_v0
abbrev weights (c : Dev nD) : Vec Ideal S5632x2048 .fp8e4m3 := V m c main_arg2
abbrev scales (c : Dev nD) : Vec Ideal S1792x1 .f32 := V m c main_v1
abbrev wscales (c : Dev nD) : Vec Ideal S1x5632 .f32 := V m c main_v2

/-- The result array. -/
abbrev result (c : Dev nD) : Buf (Elt Ideal) ((c : Thread nD τ).loc main_v3) :=
  prod (codes m c) (weights m c) (scales m c) (wscales m c)

/-- What a point writes back is its block of the product. -/
theorem flushed_eq (c : Dev nD) (t : Fin cfg0.N) :
    (dats m 0 c).flushed 4 t = ((cfg0.win 4).blk t).view.read (Elt Ideal) (result m c) := by
  obtain ⟨e00, e01, e10, e11, e20, e21, e30, e31, e40, e41⟩ := idx_facts t
  rw [Value.flushed4]
  unfold out0_4
  rw [View.canon_unit_zero hz, View.ld_unit_zero hz, View.ld_unit_zero hz, View.ld_unit_zero hz, View.ld_unit_zero hz]
  funext j
  rw [View.read_apply]
  show k0_pay1 _ _ _ _ j = _
  rw [pay_apply]
  have h0 : ∀ k : Fin 2048, (iblk m c 0 t : Vec Ideal S1792x2048 .fp8e5m2) (ix2 (j 0) k)
      = codes m c (ix2 ((((cfg0.win 4).blk t).view.emb j) 0) k) := fun k => by
    show V m c main_v0 (((cfg0.win 0).blk t).view.emb _) = _
    refine congrArg _ (funext fun a => Fin.ext ?_)
    match a with
    | ⟨0, _⟩ => show win0_0.index t 0 * 1792 + 1 * (j 0).val = win0_4.index t 0 * 1792 + 1 * (j 0).val; rw [e00, e40]
    | ⟨1, _⟩ => show win0_0.index t 1 * 2048 + 1 * k.val = k.val; rw [e01]; omega
  have h1 : ∀ k : Fin 2048, (iblk m c 1 t : Vec Ideal S5632x2048 .fp8e4m3) (ix2 (j 1) k)
      = weights m c (ix2 ((((cfg0.win 4).blk t).view.emb j) 1) k) := fun k => by
    show V m c main_arg2 (((cfg0.win 1).blk t).view.emb _) = _
    refine congrArg _ (funext fun a => Fin.ext ?_)
    match a with
    | ⟨0, _⟩ => show win0_1.index t 0 * 5632 + 1 * (j 1).val = win0_4.index t 1 * 5632 + 1 * (j 1).val; rw [e10, e41]
    | ⟨1, _⟩ => show win0_1.index t 1 * 2048 + 1 * k.val = k.val; rw [e11]; omega
  have h2 : (iblk m c 2 t : Vec Ideal S1792x1 .f32) (ix2 (j 0) 0)
      = scales m c (ix2 ((((cfg0.win 4).blk t).view.emb j) 0) 0) := by
    show V m c main_v1 (((cfg0.win 2).blk t).view.emb _) = _
    refine congrArg _ (funext fun a => Fin.ext ?_)
    match a with
    | ⟨0, _⟩ => show win0_2.index t 0 * 1792 + 1 * (j 0).val = win0_4.index t 0 * 1792 + 1 * (j 0).val; rw [e20, e40]
    | ⟨1, _⟩ => show win0_2.index t 1 * 1 + 1 * 0 = 0; rw [e21]
  have h3 : (iblk m c 3 t : Vec Ideal S1x5632 .f32) (ix2 0 (j 1))
      = wscales m c (ix2 0 ((((cfg0.win 4).blk t).view.emb j) 1)) := by
    show V m c main_v2 (((cfg0.win 3).blk t).view.emb _) = _
    refine congrArg _ (funext fun a => Fin.ext ?_)
    match a with
    | ⟨0, _⟩ => show win0_3.index t 0 * 1 + 1 * 0 = 0; rw [e30]
    | ⟨1, _⟩ => show win0_3.index t 1 * 5632 + 1 * (j 1).val = win0_4.index t 1 * 5632 + 1 * (j 1).val; rw [e31, e41]
  exact congrArg₂ (fun x y : EReal => x * y)
    (Finset.sum_congr rfl fun k _ => congrArg₂ (fun x y : EReal => x * y) (h0 k) (h1 k))
    (congrArg₂ (fun x y : EReal => x * y) h2 h3)

/-- Every entry of the result lies in the one block. -/
theorem cover (i : S1792x5632.Idx) :
    ∃ t : Fin cfg0.N, (cfg0.win 4).flush t = true ∧ i ∈ ((cfg0.win 4).blk t).view.set := by
  have h0 : (i 0 : Nat) < 1792 := (i 0).isLt
  have h1 : (i 1 : Nat) < 5632 := (i 1).isLt
  have hN : cfg0.N = 1 := N_0
  have ht : (i 1 : Nat) / 5632 < cfg0.N := by omega
  obtain ⟨-, -, -, -, -, -, -, -, e40, e41⟩ := idx_facts ⟨(i 1 : Nat) / 5632, ht⟩
  refine ⟨⟨(i 1 : Nat) / 5632, ht⟩, flush0_4 _, ?_⟩
  show i ∈ ((View.whole main_v3).slice (win0_4.rect ⟨(i 1 : Nat) / 5632, ht⟩)).set
  rw [View.set_slice_whole, Rect.mem_set_unit]
  intro a
  match a with
  | ⟨0, _⟩ =>
    show win0_4.index _ 0 * 1792 ≤ (i 0 : Nat) ∧ (i 0 : Nat) < win0_4.index _ 0 * 1792 + 1792
    rw [e40]; omega
  | ⟨1, _⟩ =>
    show win0_4.index _ 1 * 5632 ≤ (i 1 : Nat) ∧ (i 1 : Nat) < win0_4.index _ 1 * 5632 + 5632
    rw [e41]; dsimp only; omega

/-- So the result array ends as the product. -/
theorem final (c : Dev nD) : (dats m 0 c).arrAt 4 cfg0.N = result m c :=
  (dats m 0 c).arrAt_eq_of_cover 4 (result m c) (fun t _ => flushed_eq m c t) cover

/-- The run: the result array ends as the product, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-- The arrays the region finds, of the arguments: the codes and the scales as rows, the weight scales as one row. -/
theorem codes_apply (c : Dev nD) (r : Fin 1792) (k : Fin 2048) :
    codes m c (ix2 r k) = m ((c : Thread nD τ).loc main_arg0) (ix3 ⟨r.val / 256, by omega⟩ ⟨r.val % 256, by omega⟩ k) := by
  unfold codes V
  after_reads_at
theorem scales_apply (c : Dev nD) (r : Fin 1792) :
    scales m c (ix2 r 0) = m ((c : Thread nD τ).loc main_arg1) (ix3 ⟨r.val / 256, by omega⟩ ⟨r.val % 256, by omega⟩ 0) := by
  unfold scales V
  after_reads_at
theorem wscales_apply (c : Dev nD) (n : Fin 5632) :
    wscales m c (ix2 0 n) = m ((c : Thread nD τ).loc main_arg3) (ix1 n) := by
  unfold wscales V
  after_reads_at

end Cert.MmReferenceIdeal.Prod

end
-- ==== Proof.MmClaim.lean ====
/-
  The two ends of the fp8 product meet: the kernel's array and the reference's are the same function of the arguments.
-/
module

public import proofs.«01_k».proof.Proof.MmKernel
public import proofs.«01_k».proof.Proof.MmReference

@[expose] public section

set_option maxRecDepth 16384

noncomputable section

namespace Cert.Proof.MmClaim

open Idealize.ShloMosaic Idealize.ShloMosaic.TcCoe Idealize.SL.Sem

/-- From equal arguments both programs end with the same product. -/
theorem algebraic : Cert.algebraic_MmIdeal_MmReferenceIdeal (hMmIdeal := Cert.MmIdeal.Gen.facts)
    (hMmReferenceIdeal := Cert.MmReferenceIdeal.Gen.facts) := by
  intro m g m' g' _ hargs
  refine ⟨fun c => Cert.MmIdeal.Prod.result m c, Cert.MmIdeal.Prod.run m g, ?_⟩
  refine (θ_run (Cert.MmReferenceIdeal.defs (F := Ideal)) _ _).mono (fun r h c => ⟨(h c).1.trans ?_, (h c).2⟩)
    (Cert.MmReferenceIdeal.Prod.run m' g')
  obtain ⟨e0, e1, e2, e3⟩ := hargs c
  funext i
  show Cert.MmReferenceIdeal.Prod.prod _ _ _ _ i = Cert.MmIdeal.Prod.prod _ _ _ _ i
  unfold Cert.MmReferenceIdeal.Prod.prod Cert.MmIdeal.Prod.prod
  have hw : Cert.MmReferenceIdeal.Prod.weights m' c = Cert.MmIdeal.Prod.weights m c :=
    (Cert.MmReferenceIdeal.Gen.V_main_arg2 m' c).trans (e2.trans (Cert.MmIdeal.Gen.V_main_arg2 m c).symm)
  refine congrArg₂ (fun x y : EReal => x * y) (Finset.sum_congr rfl fun k _ => congrArg₂ (fun x y : EReal => x * y) ?_ (congrFun hw _))
    (congrArg₂ (fun x y : EReal => x * y) ?_ ?_)
  · exact (Cert.MmReferenceIdeal.Prod.codes_apply m' c (i 0) k).trans ((congrFun e0 _).trans (Cert.MmIdeal.Prod.codes_apply m c (i 0) k).symm)
  · exact (Cert.MmReferenceIdeal.Prod.scales_apply m' c (i 0)).trans ((congrFun e1 _).trans (Cert.MmIdeal.Prod.scales_apply m c (i 0)).symm)
  · exact (Cert.MmReferenceIdeal.Prod.wscales_apply m' c (i 1)).trans ((congrFun e3 _).trans (Cert.MmIdeal.Prod.wscales_apply m c (i 1)).symm)

end Cert.Proof.MmClaim

end
-- ==== Proof.LnPreFacts.lean ====
/- The side conditions the precondition's operations take. -/
module

public import proofs.«01_k».proof.Pre_in_domain

@[expose] public section

namespace Cert.LnPreFacts

theorem facts : Cert.Pre_in_domain.Facts := by
  constructor <;> decide

end Cert.LnPreFacts
-- ==== Proof.LnBody.lean ====
/-
  What the layer-norm kernel's body leaves in its four output blocks at a grid point, as the payloads of the printed body
  composed: the codes and scales of the sentence, and the two running sums over sentences.
-/
module

public import proofs.«01_k».proof.Proof.Gen.LnIdeal.Frame
public import Idealize.ShloMosaic.Lib.Pipeline.Value
public import Idealize.ShloMosaic.Lib.Tactic
public import Idealize.ShloMosaic.Lib.Pointwise

@[expose] public section

set_option maxRecDepth 16384

noncomputable section

namespace Cert.LnIdeal.Body

open Cert.LnIdeal Cert.LnIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the normalised activations, one row shared by every token of the sentence. -/
abbrev dy (v : Elt F .i32) (x : Vec F S1x256x2048 .bf16) (ga be : Vec F S1x2048 .f32) (g : Vec F S1x1x2048 .f32) : FVec F S1x2048 .f32 :=
  k0_pay12 (k0_pay6 v) (k0_pay10 v x ga be) (k0_pay11 v x ga be) g
/-- The row times the gain, less its mean. -/
abbrev cent (v : Elt F .i32) (x : Vec F S1x256x2048 .bf16) (ga be : Vec F S1x2048 .f32) (g : Vec F S1x1x2048 .f32) : FVec F S1x2048 .f32 :=
  k0_pay17 (k0_pay6 v) (k0_pay8 ga) (k0_pay10 v x ga be) (k0_pay11 v x ga be) g
/-- Its product with every token's centred activations, summed along the token. -/
abbrev corr (v : Elt F .i32) (x : Vec F S1x256x2048 .bf16) (ga be : Vec F S1x2048 .f32) (g : Vec F S1x1x2048 .f32) : FVec F S256x1 .f32 :=
  k0_pay18 (k0_pay3 x) (k0_pay6 v) (k0_pay8 ga) (k0_pay10 v x ga be) (k0_pay11 v x ga be) g
/-- The block of codes. -/
abbrev codesB (v : Elt F .i32) (x : Vec F S1x256x2048 .bf16) (ga be : Vec F S1x2048 .f32) (g : Vec F S1x1x2048 .f32) : FVec F S1x256x2048 .fp8e5m2 :=
  k0_pay1 (k0_pay22 (k0_pay3 x) (k0_pay4 x) (k0_pay5 v) (cent v x ga be g) (corr v x ga be g)) (Scalar.ofBits .f32 0xC7600000#32) (Scalar.ofBits .f32 0x47600000#32)
/-- The block of scales. -/
abbrev scalesB (v : Elt F .i32) (x : Vec F S1x256x2048 .bf16) (ga be : Vec F S1x2048 .f32) (g : Vec F S1x1x2048 .f32) : FVec F S1x256x1 .f32 :=
  k0_pay2 (k0_pay21 (k0_pay3 x) (k0_pay4 x) (k0_pay5 v) (cent v x ga be g) (corr v x ga be g))
/-- The running sum for the gain, one sentence on. -/
abbrev gainB (v : Elt F .i32) (x : Vec F S1x256x2048 .bf16) (ga be : Vec F S1x2048 .f32) (g : Vec F S1x1x2048 .f32) (acc : Vec F S1x2048 .f32) : FVec F S1x2048 .f32 :=
  k0_pay15 (k0_pay6 v) (k0_pay9 v x) (k0_pay10 v x ga be) (k0_pay11 v x ga be) g acc
/-- The running sum for the shift, one sentence on. -/
abbrev shiftB (v : Elt F .i32) (x : Vec F S1x256x2048 .bf16) (ga be : Vec F S1x2048 .f32) (g : Vec F S1x1x2048 .f32) (acc : Vec F S1x2048 .f32) : FVec F S1x2048 .f32 :=
  k0_pay16 (k0_pay6 v) (k0_pay7 v) (k0_pay10 v x ga be) (k0_pay11 v x ga be) g acc

/-- The length the body loads from the table: the sentence's. -/
theorem len_read (c : Dev nD) (i : grid0.Coords) (xt : TbBuf0 (F := F) c tbM0_0) (q) :
    View.ld (View.read (Elt F) (View.whole main_arg3) xt)
      (Rect.unit (s := S7) (k0_off1 i) S1.size (k0_off1_inb i)) (Shape.Idx.first q) = xt (ix1 (i 0)) := by
  show xt _ = xt _
  refine congrArg xt (funext fun a => Fin.ext ?_)
  have h : ∀ n : Fin 7, BitVec.toNat (Scalar.indexCast (BitVec.ofNat 32 n.val)) = n.val := by decide
  match a with
  | ⟨0, _⟩ => show BitVec.toNat (Scalar.indexCast (BitVec.ofNat 32 (i 0).val)) + 1 * 0 = (i 0).val; rw [h (i 0)]; rfl

theorem out_A_4 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_4 c i a2 h2 a3 h3 a4 h4 a5 h5 a6 h6 a7 h7 a8 h8 a9 h9 hc x0 x1 x2 x3 xt = codesB (xt (ix1 (i 0))) x0 x1 x2 x3 := by
  unfold out0_A_4
  rw [View.read_writes_eq_canon _ _ _ (fun y => cover0_A_4 _ _ _ _ _ _ _ _ _ _ _ _ _ _ _ _ _ _ _ _ _ _ _ _ y)]
  unfold kernelRun0_A
  dsimp only
  sl_unfold_words
  rw [View.canon_unit_zero (S := S1x256x2048) hz3]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => codesB v x0 x1 x2 x3) (len_read c i xt _)

theorem out_A_5 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_5 c i a2 h2 a3 h3 a4 h4 a5 h5 a6 h6 a7 h7 a8 h8 a9 h9 hc x0 x1 x2 x3 xt = scalesB (xt (ix1 (i 0))) x0 x1 x2 x3 := by
  unfold out0_A_5
  rw [View.read_writes_eq_canon _ _ _ (fun y => cover0_A_5 _ _ _ _ _ _ _ _ _ _ _ _ _ _ _ _ _ _ _ _ _ _ _ _ y)]
  unfold kernelRun0_A
  dsimp only
  sl_unfold_words
  rw [View.canon_unit_zero (S := S1x256x1) hz3]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => scalesB v x0 x1 x2 x3) (len_read c i xt _)

theorem out_A_6 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_6 c i a2 h2 a3 h3 a4 h4 a5 h5 a6 h6 a7 h7 a8 h8 a9 h9 hc x0 x1 x2 x3 xt = gainB (xt (ix1 (i 0))) x0 x1 x2 x3 (k0_pay13 (F := F)) := by
  unfold out0_A_6
  rw [View.read_writes_eq_canon _ _ _ (fun y => cover0_A_6 _ _ _ _ _ _ _ _ _ _ _ _ _ _ _ _ _ _ _ _ _ _ _ _ y)]
  unfold kernelRun0_A
  dsimp only
  sl_unfold_words
  rw [View.canon_cons_unit_zero (S := S1x2048) hz2, View.readCov_unit_zero (S := S1x2048) _ hz2]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => gainB v x0 x1 x2 x3 (k0_pay13 (F := F))) (len_read c i xt _)

theorem out_A_7 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_7 c i a2 h2 a3 h3 a4 h4 a5 h5 a6 h6 a7 h7 a8 h8 a9 h9 hc x0 x1 x2 x3 xt = shiftB (xt (ix1 (i 0))) x0 x1 x2 x3 (k0_pay14 (F := F)) := by
  unfold out0_A_7
  rw [View.read_writes_eq_canon _ _ _ (fun y => cover0_A_7 _ _ _ _ _ _ _ _ _ _ _ _ _ _ _ _ _ _ _ _ _ _ _ _ y)]
  unfold kernelRun0_A
  dsimp only
  sl_unfold_words
  rw [View.canon_cons_unit_zero (S := S1x2048) hz2, View.readCov_unit_zero (S := S1x2048) _ hz2]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => shiftB v x0 x1 x2 x3 (k0_pay14 (F := F))) (len_read c i xt _)

theorem out_B_4 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_4 c i a2 h2 a3 h3 a4 h4 a5 h5 a6 h6 a7 h7 a8 h8 a9 h9 hc x0 x1 x2 x3 xt o6 o7 = codesB (xt (ix1 (i 0))) x0 x1 x2 x3 := by
  unfold out0_B_4
  rw [View.read_writes_eq_canon _ _ _ (fun y => cover0_B_4 _ _ _ _ _ _ _ _ _ _ _ _ _ _ _ _ _ _ _ _ _ _ _ _ _ _ y)]
  unfold kernelRun0_B
  dsimp only
  sl_unfold_words
  rw [View.canon_unit_zero (S := S1x256x2048) hz3]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => codesB v x0 x1 x2 x3) (len_read c i xt _)

theorem out_B_5 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_5 c i a2 h2 a3 h3 a4 h4 a5 h5 a6 h6 a7 h7 a8 h8 a9 h9 hc x0 x1 x2 x3 xt o6 o7 = scalesB (xt (ix1 (i 0))) x0 x1 x2 x3 := by
  unfold out0_B_5
  rw [View.read_writes_eq_canon _ _ _ (fun y => cover0_B_5 _ _ _ _ _ _ _ _ _ _ _ _ _ _ _ _ _ _ _ _ _ _ _ _ _ _ y)]
  unfold kernelRun0_B
  dsimp only
  sl_unfold_words
  rw [View.canon_unit_zero (S := S1x256x1) hz3]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => scalesB v x0 x1 x2 x3) (len_read c i xt _)

theorem out_B_6 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_6 c i a2 h2 a3 h3 a4 h4 a5 h5 a6 h6 a7 h7 a8 h8 a9 h9 hc x0 x1 x2 x3 xt o6 o7 = gainB (xt (ix1 (i 0))) x0 x1 x2 x3 o6 := by
  unfold out0_B_6
  rw [View.read_writes_eq_canon _ _ _ (fun y => cover0_B_6 _ _ _ _ _ _ _ _ _ _ _ _ _ _ _ _ _ _ _ _ _ _ _ _ _ _ y)]
  unfold kernelRun0_B
  dsimp only
  sl_unfold_words
  rw [View.canon_unit_zero (S := S1x2048) hz2]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => gainB v x0 x1 x2 x3 o6) (len_read c i xt _)

theorem out_B_7 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_7 c i a2 h2 a3 h3 a4 h4 a5 h5 a6 h6 a7 h7 a8 h8 a9 h9 hc x0 x1 x2 x3 xt o6 o7 = shiftB (xt (ix1 (i 0))) x0 x1 x2 x3 o7 := by
  unfold out0_B_7
  rw [View.read_writes_eq_canon _ _ _ (fun y => cover0_B_7 _ _ _ _ _ _ _ _ _ _ _ _ _ _ _ _ _ _ _ _ _ _ _ _ _ _ y)]
  unfold kernelRun0_B
  dsimp only
  sl_unfold_words
  rw [View.canon_unit_zero (S := S1x2048) hz2]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => shiftB v x0 x1 x2 x3 o7) (len_read c i xt _)

end Cert.LnIdeal.Body

end
-- ==== Proof.LnKernel.lean ====
/-
  The layer-norm kernel's run: its four result arrays, sentence by sentence, as the body's payloads of the arguments.
-/
module

public import proofs.«01_k».proof.Defs
public import proofs.«01_k».proof.Proof.LnBody
public import Idealize.ShloMosaic.Lib.StableHlo.ReadAt

@[expose] public section

set_option maxRecDepth 16384

noncomputable section

namespace Cert.LnIdeal.Run

open Cert.LnIdeal Cert.LnIdeal.Gen Cert.LnIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A sentence's block of the activations, and of the incoming gradient. -/
def xB (x : Vec F S7x256x2048 .bf16) (b : Fin 7) : Vec F S1x256x2048 .bf16 := fun j => x (ix3 b (j 1) (j 2))
def gB (g : Vec F S7x1x2048 .f32) (b : Fin 7) : Vec F S1x1x2048 .f32 := fun j => g (ix3 b (j 1) (j 2))

variable (x : Vec F S7x256x2048 .bf16) (ga be : Vec F S1x2048 .f32) (ln : Vec F S7 .i32) (g : Vec F S7x1x2048 .f32)

/-- The codes, the scales, and the two running sums after sentence `n`. -/
def codesA : Vec F S7x256x2048 .fp8e5m2 := fun i => codesB (ln (ix1 (i 0))) (xB x (i 0)) ga be (gB g (i 0)) (ix3 0 (i 1) (i 2))
def scalesA : Vec F S7x256x1 .f32 := fun i => scalesB (ln (ix1 (i 0))) (xB x (i 0)) ga be (gB g (i 0)) (ix3 0 (i 1) (i 2))
def gainA : ℕ → Vec F S1x2048 .f32
  | 0 => gainB (ln (ix1 0)) (xB x 0) ga be (gB g 0) k0_pay13
  | n + 1 => gainB (ln (ix1 (Fin.ofNat 7 (n + 1)))) (xB x (Fin.ofNat 7 (n + 1))) ga be (gB g (Fin.ofNat 7 (n + 1))) (gainA n)
def shiftA : ℕ → Vec F S1x2048 .f32
  | 0 => shiftB (ln (ix1 0)) (xB x 0) ga be (gB g 0) k0_pay14
  | n + 1 => shiftB (ln (ix1 (Fin.ofNat 7 (n + 1)))) (xB x (Fin.ofNat 7 (n + 1))) ga be (gB g (Fin.ofNat 7 (n + 1))) (shiftA n)

/-- The arrays the region finds. -/
abbrev xV (c : Dev nD) : Vec F S7x256x2048 .bf16 := V m c main_arg0
abbrev gaV (c : Dev nD) : Vec F S1x2048 .f32 := V m c main_v0
abbrev beV (c : Dev nD) : Vec F S1x2048 .f32 := V m c main_v1
abbrev lnV (c : Dev nD) : Vec F S7 .i32 := V m c main_arg3
abbrev gV (c : Dev nD) : Vec F S7x1x2048 .f32 := V m c main_v2

theorem ok : Ok m := trivial

/-- Where each window's block lies at a grid point: the sentence's own, or the whole row. -/
theorem idx_facts : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 2) = 0 ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 3) = t.val ∧ cc0_transform_3 (grid0.coords t) (1 : Fin 3) = 0 ∧ cc0_transform_3 (grid0.coords t) (2 : Fin 3) = 0
    ∧ cc0_transform_4 (grid0.coords t) (0 : Fin 3) = t.val ∧ cc0_transform_4 (grid0.coords t) (1 : Fin 3) = 0 ∧ cc0_transform_4 (grid0.coords t) (2 : Fin 3) = 0
    ∧ cc0_transform_5 (grid0.coords t) (0 : Fin 3) = t.val ∧ cc0_transform_5 (grid0.coords t) (1 : Fin 3) = 0 ∧ cc0_transform_5 (grid0.coords t) (2 : Fin 3) = 0
    ∧ cc0_transform_6 (grid0.coords t) (0 : Fin 2) = 0 ∧ cc0_transform_6 (grid0.coords t) (1 : Fin 2) = 0
    ∧ cc0_transform_7 (grid0.coords t) (0 : Fin 2) = 0 ∧ cc0_transform_7 (grid0.coords t) (1 : Fin 2) = 0 := by
  decide +kernel

/-- The sentence of a grid point. -/
def pt (t : Fin (cfgM m (ok m)).N) : Fin 7 := ⟨t.val, lt_of_lt_of_eq t.isLt (show (cfgM m (ok m)).N = 7 from N_0)⟩

theorem coords_val : ∀ t : Fin grid0.N, (grid0.coords t 0).val = t.val := by
  decide +kernel

theorem coords_pt (t : Fin (cfgM m (ok m)).N) : (grid0.coords t 0 : Fin 7) = pt m t := Fin.ext (coords_val t)

theorem tbl_eq (c : Dev nD) : (tbl m 0 : Vec F S7 .i32) = lnV m c := by
  obtain rfl : c = 0 := Subsingleton.elim _ _
  rfl

/-- The blocks the body is handed. -/
theorem iblk_x (c : Dev nD) (t : Fin (cfgM m (ok m)).N) : (iblk m (ok m) c 0 t : Vec F S1x256x2048 .bf16) = xB (xV m c) (pt m t) := by
  obtain ⟨e0, e1, e2, -⟩ := idx_facts t
  funext (j : S1x256x2048.Idx)
  show V m c main_arg0 ((((cfgM m (ok m)).win 0).blk t).view.emb j) = V m c main_arg0 _
  refine congrArg _ (funext fun a => Fin.ext ?_)
  have h0 : (j 0).val = 0 := Nat.lt_one_iff.mp (j 0).isLt
  match a with
  | ⟨0, _⟩ => show cc0_transform_0 (grid0.coords t) 0 * 1 + 1 * (j 0).val = t.val; omega
  | ⟨1, _⟩ => show cc0_transform_0 (grid0.coords t) 1 * 256 + 1 * (j 1).val = (j 1).val; omega
  | ⟨2, _⟩ => show cc0_transform_0 (grid0.coords t) 2 * 2048 + 1 * (j 2).val = (j 2).val; omega
theorem iblk_ga (c : Dev nD) (t : Fin (cfgM m (ok m)).N) : (iblk m (ok m) c 1 t : Vec F S1x2048 .f32) = gaV m c := by
  obtain ⟨-, -, -, e0, e1, -⟩ := idx_facts t
  funext (j : S1x2048.Idx)
  show V m c main_v0 ((((cfgM m (ok m)).win 1).blk t).view.emb j) = V m c main_v0 _
  refine congrArg _ (funext fun a => Fin.ext ?_)
  match a with
  | ⟨0, _⟩ => show cc0_transform_1 (grid0.coords t) 0 * 1 + 1 * (j 0).val = (j 0).val; omega
  | ⟨1, _⟩ => show cc0_transform_1 (grid0.coords t) 1 * 2048 + 1 * (j 1).val = (j 1).val; omega
theorem iblk_be (c : Dev nD) (t : Fin (cfgM m (ok m)).N) : (iblk m (ok m) c 2 t : Vec F S1x2048 .f32) = beV m c := by
  obtain ⟨-, -, -, -, -, e0, e1, -⟩ := idx_facts t
  funext (j : S1x2048.Idx)
  show V m c main_v1 ((((cfgM m (ok m)).win 2).blk t).view.emb j) = V m c main_v1 _
  refine congrArg _ (funext fun a => Fin.ext ?_)
  match a with
  | ⟨0, _⟩ => show cc0_transform_2 (grid0.coords t) 0 * 1 + 1 * (j 0).val = (j 0).val; omega
  | ⟨1, _⟩ => show cc0_transform_2 (grid0.coords t) 1 * 2048 + 1 * (j 1).val = (j 1).val; omega
theorem iblk_g (c : Dev nD) (t : Fin (cfgM m (ok m)).N) : (iblk m (ok m) c 3 t : Vec F S1x1x2048 .f32) = gB (gV m c) (pt m t) := by
  obtain ⟨-, -, -, -, -, -, -, e0, e1, e2, -⟩ := idx_facts t
  funext (j : S1x1x2048.Idx)
  show V m c main_v2 ((((cfgM m (ok m)).win 3).blk t).view.emb j) = V m c main_v2 _
  refine congrArg _ (funext fun a => Fin.ext ?_)
  have h0 : (j 0).val = 0 := Nat.lt_one_iff.mp (j 0).isLt
  match a with
  | ⟨0, _⟩ => show cc0_transform_3 (grid0.coords t) 0 * 1 + 1 * (j 0).val = t.val; omega
  | ⟨1, _⟩ => show cc0_transform_3 (grid0.coords t) 1 * 1 + 1 * (j 1).val = (j 1).val; omega
  | ⟨2, _⟩ => show cc0_transform_3 (grid0.coords t) 2 * 2048 + 1 * (j 2).val = (j 2).val; omega

/-- Anything computed of the sentence's length and the four blocks is computed of the arrays' parts. -/
theorem blk_congr {α : Type} (f : Elt F .i32 → Vec F S1x256x2048 .bf16 → Vec F S1x2048 .f32 → Vec F S1x2048 .f32 → Vec F S1x1x2048 .f32 → α) (c : Dev nD)
    (t : Fin (cfgM m (ok m)).N) :
    f ((tbl m 0 : Vec F S7 .i32) (ix1 (grid0.coords t 0))) (iblk m (ok m) c 0 t) (iblk m (ok m) c 1 t) (iblk m (ok m) c 2 t) (iblk m (ok m) c 3 t)
      = f (lnV m c (ix1 (pt m t))) (xB (xV m c) (pt m t)) (gaV m c) (beV m c) (gB (gV m c) (pt m t)) := by
  have e0 : (tbl m 0 : Vec F S7 .i32) (ix1 (grid0.coords t 0)) = lnV m c (ix1 (pt m t)) :=
    (congrFun (tbl_eq m c) _).trans (congrArg (fun b : Fin 7 => lnV m c (ix1 b)) (coords_pt m t))
  exact (congrArg (fun v => f v _ _ _ _) e0).trans <| (congrArg (fun v => f _ v _ _ _) (iblk_x m c t)).trans <|
    (congrArg (fun v => f _ _ v _ _) (iblk_ga m c t)).trans <| (congrArg (fun v => f _ _ _ v _) (iblk_be m c t)).trans <|
    congrArg (fun v => f _ _ _ _ v) (iblk_g m c t)

/-- What the body leaves at a point: the sentence's codes and scales, -/
theorem outs_codes (c : Dev nD) (t : Fin (cfgM m (ok m)).N) : (outsAt0 m (ok m) c t.val t.isLt).1
    = codesB (lnV m c (ix1 (pt m t))) (xB (xV m c) (pt m t)) (gaV m c) (beV m c) (gB (gV m c) (pt m t)) := by
  by_cases h : t.val % 7 = 0
  · have e := (out_A_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m codesB c t)
    have e' := outsAt0_A m (ok m) c t h
    generalize outsAt0 m (ok m) c t.val t.isLt = P at e' ⊢
    subst e'
    dsimp only
    exact e
  · have e := (out_B_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) (outsAt0 m (ok m) c (t.val - 1) (Nat.lt_of_le_of_lt (Nat.sub_le _ _) t.isLt)).2.2.1 (outsAt0 m (ok m) c (t.val - 1) (Nat.lt_of_le_of_lt (Nat.sub_le _ _) t.isLt)).2.2.2 (fun h' => h ((hcond0_0 t).mp h'))).trans (blk_congr m codesB c t)
    have e' := outsAt0_B m (ok m) c t h
    generalize outsAt0 m (ok m) c t.val t.isLt = P at e' ⊢
    subst e'
    dsimp only
    exact e
theorem outs_scales (c : Dev nD) (t : Fin (cfgM m (ok m)).N) : (outsAt0 m (ok m) c t.val t.isLt).2.1
    = scalesB (lnV m c (ix1 (pt m t))) (xB (xV m c) (pt m t)) (gaV m c) (beV m c) (gB (gV m c) (pt m t)) := by
  by_cases h : t.val % 7 = 0
  · have e := (out_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m scalesB c t)
    have e' := outsAt0_A m (ok m) c t h
    generalize outsAt0 m (ok m) c t.val t.isLt = P at e' ⊢
    subst e'
    dsimp only
    exact e
  · have e := (out_B_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) (outsAt0 m (ok m) c (t.val - 1) (Nat.lt_of_le_of_lt (Nat.sub_le _ _) t.isLt)).2.2.1 (outsAt0 m (ok m) c (t.val - 1) (Nat.lt_of_le_of_lt (Nat.sub_le _ _) t.isLt)).2.2.2 (fun h' => h ((hcond0_0 t).mp h'))).trans (blk_congr m scalesB c t)
    have e' := outsAt0_B m (ok m) c t h
    generalize outsAt0 m (ok m) c t.val t.isLt = P at e' ⊢
    subst e'
    dsimp only
    exact e

/-- and the running sums. -/
theorem outs_gain_first (c : Dev nD) (t : Fin (cfgM m (ok m)).N) (h : t.val % 7 = 0) : (outsAt0 m (ok m) c t.val t.isLt).2.2.1
    = gainB (lnV m c (ix1 (pt m t))) (xB (xV m c) (pt m t)) (gaV m c) (beV m c) (gB (gV m c) (pt m t)) k0_pay13 := by
  have e := (out_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m (fun v x ga be g => gainB v x ga be g k0_pay13) c t)
  have e' := outsAt0_A m (ok m) c t h
  generalize outsAt0 m (ok m) c t.val t.isLt = P at e' ⊢
  subst e'
  dsimp only
  exact e
theorem outs_gain_next (c : Dev nD) (t : Fin (cfgM m (ok m)).N) (h : ¬t.val % 7 = 0) : (outsAt0 m (ok m) c t.val t.isLt).2.2.1
    = gainB (lnV m c (ix1 (pt m t))) (xB (xV m c) (pt m t)) (gaV m c) (beV m c) (gB (gV m c) (pt m t)) (outsAt0 m (ok m) c (t.val - 1) (Nat.lt_of_le_of_lt (Nat.sub_le _ _) t.isLt)).2.2.1 := by
  have e' := outsAt0_B m (ok m) c t h
  generalize (outsAt0 m (ok m) c (t.val - 1) (Nat.lt_of_le_of_lt (Nat.sub_le _ _) t.isLt)) = Q at e' ⊢
  have e := (out_B_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) Q.2.2.1 Q.2.2.2 (fun h' => h ((hcond0_0 t).mp h'))).trans
    (blk_congr m (fun v x ga be g => gainB v x ga be g Q.2.2.1) c t)
  generalize outsAt0 m (ok m) c t.val t.isLt = P at e' ⊢
  subst e'
  dsimp only
  exact e
theorem outs_gain (c : Dev nD) (n : ℕ) : ∀ h : n < (cfgM m (ok m)).N, (outsAt0 m (ok m) c n h).2.2.1
    = gainA (xV m c) (gaV m c) (beV m c) (lnV m c) (gV m c) n := by
  have hN : (cfgM m (ok m)).N = 7 := N_0
  induction n with
  | zero => exact fun h => outs_gain_first m c ⟨0, h⟩ rfl
  | succ n ih =>
    intro h
    have hp : pt m ⟨n + 1, h⟩ = Fin.ofNat 7 (n + 1) := Fin.ext (Nat.mod_eq_of_lt (by omega)).symm
    refine (outs_gain_next m c ⟨n + 1, h⟩ (by show ¬(n + 1) % 7 = 0; omega)).trans ?_
    refine (congrArg (fun b => gainB (lnV m c (ix1 b)) (xB (xV m c) b) (gaV m c) (beV m c) (gB (gV m c) b) _) hp).trans ?_
    exact congrArg (gainB (lnV m c (ix1 (Fin.ofNat 7 (n + 1)))) (xB (xV m c) (Fin.ofNat 7 (n + 1))) (gaV m c) (beV m c) (gB (gV m c) (Fin.ofNat 7 (n + 1)))) (ih _)
theorem outs_shift_first (c : Dev nD) (t : Fin (cfgM m (ok m)).N) (h : t.val % 7 = 0) : (outsAt0 m (ok m) c t.val t.isLt).2.2.2
    = shiftB (lnV m c (ix1 (pt m t))) (xB (xV m c) (pt m t)) (gaV m c) (beV m c) (gB (gV m c) (pt m t)) k0_pay14 := by
  have e := (out_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m (fun v x ga be g => shiftB v x ga be g k0_pay14) c t)
  have e' := outsAt0_A m (ok m) c t h
  generalize outsAt0 m (ok m) c t.val t.isLt = P at e' ⊢
  subst e'
  dsimp only
  exact e
theorem outs_shift_next (c : Dev nD) (t : Fin (cfgM m (ok m)).N) (h : ¬t.val % 7 = 0) : (outsAt0 m (ok m) c t.val t.isLt).2.2.2
    = shiftB (lnV m c (ix1 (pt m t))) (xB (xV m c) (pt m t)) (gaV m c) (beV m c) (gB (gV m c) (pt m t)) (outsAt0 m (ok m) c (t.val - 1) (Nat.lt_of_le_of_lt (Nat.sub_le _ _) t.isLt)).2.2.2 := by
  have e' := outsAt0_B m (ok m) c t h
  generalize (outsAt0 m (ok m) c (t.val - 1) (Nat.lt_of_le_of_lt (Nat.sub_le _ _) t.isLt)) = Q at e' ⊢
  have e := (out_B_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) Q.2.2.1 Q.2.2.2 (fun h' => h ((hcond0_0 t).mp h'))).trans
    (blk_congr m (fun v x ga be g => shiftB v x ga be g Q.2.2.2) c t)
  generalize outsAt0 m (ok m) c t.val t.isLt = P at e' ⊢
  subst e'
  dsimp only
  exact e
theorem outs_shift (c : Dev nD) (n : ℕ) : ∀ h : n < (cfgM m (ok m)).N, (outsAt0 m (ok m) c n h).2.2.2
    = shiftA (xV m c) (gaV m c) (beV m c) (lnV m c) (gV m c) n := by
  have hN : (cfgM m (ok m)).N = 7 := N_0
  induction n with
  | zero => exact fun h => outs_shift_first m c ⟨0, h⟩ rfl
  | succ n ih =>
    intro h
    have hp : pt m ⟨n + 1, h⟩ = Fin.ofNat 7 (n + 1) := Fin.ext (Nat.mod_eq_of_lt (by omega)).symm
    refine (outs_shift_next m c ⟨n + 1, h⟩ (by show ¬(n + 1) % 7 = 0; omega)).trans ?_
    refine (congrArg (fun b => shiftB (lnV m c (ix1 b)) (xB (xV m c) b) (gaV m c) (beV m c) (gB (gV m c) b) _) hp).trans ?_
    exact congrArg (shiftB (lnV m c (ix1 (Fin.ofNat 7 (n + 1)))) (xB (xV m c) (Fin.ofNat 7 (n + 1))) (gaV m c) (beV m c) (gB (gV m c) (Fin.ofNat 7 (n + 1)))) (ih _)

/-- The four result arrays. -/
abbrev codesR (c : Dev nD) : Buf (Elt F) ((c : Thread nD τ).loc main_v3_0) := codesA (xV m c) (gaV m c) (beV m c) (lnV m c) (gV m c)
abbrev scalesR (c : Dev nD) : Buf (Elt F) ((c : Thread nD τ).loc main_v3_1) := scalesA (xV m c) (gaV m c) (beV m c) (lnV m c) (gV m c)
abbrev gainR (c : Dev nD) : Buf (Elt F) ((c : Thread nD τ).loc main_v3_2) := gainA (xV m c) (gaV m c) (beV m c) (lnV m c) (gV m c) 6
abbrev shiftR (c : Dev nD) : Buf (Elt F) ((c : Thread nD τ).loc main_v3_3) := shiftA (xV m c) (gaV m c) (beV m c) (lnV m c) (gV m c) 6

/-- Window 4's block at a point lies at its sentence. -/
theorem emb_codes (t : Fin (cfgM m (ok m)).N) (j : S1x256x2048.Idx) :
    ((((cfgM m (ok m)).win 4).blk t).view.emb j : S7x256x2048.Idx) = ix3 (pt m t) (j 1) (j 2) := by
  obtain ⟨-, -, -, -, -, -, -, -, -, -, e0, e1, e2, -⟩ := idx_facts t
  have h0 : (j 0).val = 0 := Nat.lt_one_iff.mp (j 0).isLt
  refine funext fun a => Fin.ext ?_
  match a with
  | ⟨0, _⟩ => show cc0_transform_4 (grid0.coords t) 0 * 1 + 1 * (j 0).val = t.val; omega
  | ⟨1, _⟩ => show cc0_transform_4 (grid0.coords t) 1 * 256 + 1 * (j 1).val = (j 1).val; omega
  | ⟨2, _⟩ => show cc0_transform_4 (grid0.coords t) 2 * 2048 + 1 * (j 2).val = (j 2).val; omega

theorem cover_codes (i : S7x256x2048.Idx) :
    ∃ t : Fin (cfgM m (ok m)).N, ((cfgM m (ok m)).win 4).flush t = true ∧ i ∈ (((cfgM m (ok m)).win 4).blk t).view.set := by
  have ht : (i 0 : Nat) < (cfgM m (ok m)).N := lt_of_lt_of_eq (i 0).isLt (show 7 = (cfgM m (ok m)).N from N_0.symm)
  refine ⟨⟨(i 0 : Nat), ht⟩, flush0_4 (adm m (ok m)) _, ?_⟩
  have e : ((((cfgM m (ok m)).win 4).blk ⟨(i 0 : Nat), ht⟩).view.emb (ix3 0 (i 1) (i 2) : S1x256x2048.Idx) : S7x256x2048.Idx) = i :=
    (emb_codes m ⟨(i 0 : Nat), ht⟩ _).trans (funext fun a => by
      match a with
      | ⟨0, _⟩ => rfl
      | ⟨1, _⟩ => rfl
      | ⟨2, _⟩ => rfl)
  exact Eq.subst (motive := fun y : S7x256x2048.Idx => y ∈ (((cfgM m (ok m)).win 4).blk ⟨(i 0 : Nat), ht⟩).view.set) e (View.emb_mem_set _ _)

theorem final_codes (c : Dev nD) : (dats m (ok m) 0 c).arrAt 4 (cfgM m (ok m)).N = codesR m c := by
  refine (dats m (ok m) 0 c).arrAt_eq_of_cover 4 (codesR m c) (fun t _ => ?_) (cover_codes m)
  refine (congrArg (((cfgM m (ok m)).win 4).cut (grid0.coords t)) ((after0_4 m (ok m) c t).trans (outs_codes m c t))).trans (funext fun (j : S1x256x2048.Idx) => ?_)
  show codesB (lnV m c (ix1 (pt m t))) (xB (xV m c) (pt m t)) (gaV m c) (beV m c) (gB (gV m c) (pt m t)) j
    = codesA (xV m c) (gaV m c) (beV m c) (lnV m c) (gV m c) ((((cfgM m (ok m)).win 4).blk t).view.emb j)
  refine Eq.trans (congrArg (codesB (lnV m c (ix1 (pt m t))) (xB (xV m c) (pt m t)) (gaV m c) (beV m c) (gB (gV m c) (pt m t))) ?_)
    (congrArg (codesA (xV m c) (gaV m c) (beV m c) (lnV m c) (gV m c)) (emb_codes m t j)).symm
  refine funext fun a => ?_
  match a with
  | ⟨0, _⟩ => exact Fin.ext (Nat.lt_one_iff.mp (j 0).isLt)
  | ⟨1, _⟩ => rfl
  | ⟨2, _⟩ => rfl

/-- Window 5's block at a point lies at its sentence. -/
theorem emb_scales (t : Fin (cfgM m (ok m)).N) (j : S1x256x1.Idx) :
    ((((cfgM m (ok m)).win 5).blk t).view.emb j : S7x256x1.Idx) = ix3 (pt m t) (j 1) (j 2) := by
  obtain ⟨-, -, -, -, -, -, -, -, -, -, -, -, -, e0, e1, e2, -⟩ := idx_facts t
  have h0 : (j 0).val = 0 := Nat.lt_one_iff.mp (j 0).isLt
  refine funext fun a => Fin.ext ?_
  match a with
  | ⟨0, _⟩ => show cc0_transform_5 (grid0.coords t) 0 * 1 + 1 * (j 0).val = t.val; omega
  | ⟨1, _⟩ => show cc0_transform_5 (grid0.coords t) 1 * 256 + 1 * (j 1).val = (j 1).val; omega
  | ⟨2, _⟩ => show cc0_transform_5 (grid0.coords t) 2 * 1 + 1 * (j 2).val = (j 2).val; omega

theorem cover_scales (i : S7x256x1.Idx) :
    ∃ t : Fin (cfgM m (ok m)).N, ((cfgM m (ok m)).win 5).flush t = true ∧ i ∈ (((cfgM m (ok m)).win 5).blk t).view.set := by
  have ht : (i 0 : Nat) < (cfgM m (ok m)).N := lt_of_lt_of_eq (i 0).isLt (show 7 = (cfgM m (ok m)).N from N_0.symm)
  refine ⟨⟨(i 0 : Nat), ht⟩, flush0_5 (adm m (ok m)) _, ?_⟩
  have e : ((((cfgM m (ok m)).win 5).blk ⟨(i 0 : Nat), ht⟩).view.emb (ix3 0 (i 1) (i 2) : S1x256x1.Idx) : S7x256x1.Idx) = i :=
    (emb_scales m ⟨(i 0 : Nat), ht⟩ _).trans (funext fun a => by
      match a with
      | ⟨0, _⟩ => rfl
      | ⟨1, _⟩ => rfl
      | ⟨2, _⟩ => rfl)
  exact Eq.subst (motive := fun y : S7x256x1.Idx => y ∈ (((cfgM m (ok m)).win 5).blk ⟨(i 0 : Nat), ht⟩).view.set) e (View.emb_mem_set _ _)

theorem final_scales (c : Dev nD) : (dats m (ok m) 0 c).arrAt 5 (cfgM m (ok m)).N = scalesR m c := by
  refine (dats m (ok m) 0 c).arrAt_eq_of_cover 5 (scalesR m c) (fun t _ => ?_) (cover_scales m)
  refine (congrArg (((cfgM m (ok m)).win 5).cut (grid0.coords t)) ((after0_5 m (ok m) c t).trans (outs_scales m c t))).trans (funext fun (j : S1x256x1.Idx) => ?_)
  show scalesB (lnV m c (ix1 (pt m t))) (xB (xV m c) (pt m t)) (gaV m c) (beV m c) (gB (gV m c) (pt m t)) j
    = scalesA (xV m c) (gaV m c) (beV m c) (lnV m c) (gV m c) ((((cfgM m (ok m)).win 5).blk t).view.emb j)
  refine Eq.trans (congrArg (scalesB (lnV m c (ix1 (pt m t))) (xB (xV m c) (pt m t)) (gaV m c) (beV m c) (gB (gV m c) (pt m t))) ?_)
    (congrArg (scalesA (xV m c) (gaV m c) (beV m c) (lnV m c) (gV m c)) (emb_scales m t j)).symm
  refine funext fun a => ?_
  match a with
  | ⟨0, _⟩ => exact Fin.ext (Nat.lt_one_iff.mp (j 0).isLt)
  | ⟨1, _⟩ => rfl
  | ⟨2, _⟩ => rfl

/-- Window 6's block is its whole row. -/
theorem emb_gain (t : Fin (cfgM m (ok m)).N) (j : S1x2048.Idx) : ((((cfgM m (ok m)).win 6).blk t).view.emb j : S1x2048.Idx) = j := by
  obtain ⟨-, -, -, -, -, -, -, -, -, -, -, -, -, -, -, -, e0, e1, -⟩ := idx_facts t
  refine funext fun a => Fin.ext ?_
  match a with
  | ⟨0, _⟩ => show cc0_transform_6 (grid0.coords t) 0 * 1 + 1 * (j 0).val = (j 0).val; omega
  | ⟨1, _⟩ => show cc0_transform_6 (grid0.coords t) 1 * 2048 + 1 * (j 1).val = (j 1).val; omega

theorem final_gain (c : Dev nD) : (dats m (ok m) 0 c).arrAt 6 (cfgM m (ok m)).N = gainR m c := by
  have ht : 6 < (cfgM m (ok m)).N := lt_of_lt_of_eq (by decide : 6 < 7) (show 7 = (cfgM m (ok m)).N from N_0.symm)
  refine (dats m (ok m) 0 c).arrAt_eq_of_cover 6 (gainR m c) (fun t hf => ?_) (fun (i : S1x2048.Idx) => ⟨⟨6, ht⟩, (flush0_6 (adm m (ok m)) _).mpr rfl, ?_⟩)
  · have h6 : t.val = 6 := by have := (flush0_6 (adm m (ok m)) t).mp hf; have := (pt m t).isLt; have h : (pt m t).val = t.val := rfl; omega
    have h := (after0_6 m (ok m) c t).trans (outs_gain m c t.val t.isLt)
    refine (congrArg (((cfgM m (ok m)).win 6).cut (grid0.coords t)) h).trans (funext fun (j : S1x2048.Idx) => ?_)
    show gainA (xV m c) (gaV m c) (beV m c) (lnV m c) (gV m c) t.val j
      = gainA (xV m c) (gaV m c) (beV m c) (lnV m c) (gV m c) 6 ((((cfgM m (ok m)).win 6).blk t).view.emb j)
    rw [h6]
    exact (congrArg (gainA (xV m c) (gaV m c) (beV m c) (lnV m c) (gV m c) 6) (emb_gain m t j)).symm
  · exact Eq.subst (motive := fun y : S1x2048.Idx => y ∈ (((cfgM m (ok m)).win 6).blk ⟨6, ht⟩).view.set) (emb_gain m ⟨6, ht⟩ i) (View.emb_mem_set _ _)

/-- Window 7's block is its whole row. -/
theorem emb_shift (t : Fin (cfgM m (ok m)).N) (j : S1x2048.Idx) : ((((cfgM m (ok m)).win 7).blk t).view.emb j : S1x2048.Idx) = j := by
  obtain ⟨-, -, -, -, -, -, -, -, -, -, -, -, -, -, -, -, -, -, e0, e1⟩ := idx_facts t
  refine funext fun a => Fin.ext ?_
  match a with
  | ⟨0, _⟩ => show cc0_transform_7 (grid0.coords t) 0 * 1 + 1 * (j 0).val = (j 0).val; omega
  | ⟨1, _⟩ => show cc0_transform_7 (grid0.coords t) 1 * 2048 + 1 * (j 1).val = (j 1).val; omega

theorem final_shift (c : Dev nD) : (dats m (ok m) 0 c).arrAt 7 (cfgM m (ok m)).N = shiftR m c := by
  have ht : 6 < (cfgM m (ok m)).N := lt_of_lt_of_eq (by decide : 6 < 7) (show 7 = (cfgM m (ok m)).N from N_0.symm)
  refine (dats m (ok m) 0 c).arrAt_eq_of_cover 7 (shiftR m c) (fun t hf => ?_) (fun (i : S1x2048.Idx) => ⟨⟨6, ht⟩, (flush0_7 (adm m (ok m)) _).mpr rfl, ?_⟩)
  · have h6 : t.val = 6 := by have := (flush0_7 (adm m (ok m)) t).mp hf; have := (pt m t).isLt; have h : (pt m t).val = t.val := rfl; omega
    have h := (after0_7 m (ok m) c t).trans (outs_shift m c t.val t.isLt)
    refine (congrArg (((cfgM m (ok m)).win 7).cut (grid0.coords t)) h).trans (funext fun (j : S1x2048.Idx) => ?_)
    show shiftA (xV m c) (gaV m c) (beV m c) (lnV m c) (gV m c) t.val j
      = shiftA (xV m c) (gaV m c) (beV m c) (lnV m c) (gV m c) 6 ((((cfgM m (ok m)).win 7).blk t).view.emb j)
    rw [h6]
    exact (congrArg (shiftA (xV m c) (gaV m c) (beV m c) (lnV m c) (gV m c) 6) (emb_shift m t j)).symm
  · exact Eq.subst (motive := fun y : S1x2048.Idx => y ∈ (((cfgM m (ok m)).win 7).blk ⟨6, ht⟩).view.set) (emb_shift m ⟨6, ht⟩ i) (View.emb_mem_set _ _)

/-- The run: the four result arrays, the arguments unchanged. -/
theorem run : θ_run defs (onTc (τ := τ) (main (F := F))) ⟨m, fun _ => 0, ρ⟩ fun r => ∀ c : Dev nD,
      (r.2.mem ((c : Thread nD τ).loc main_v3_0) = codesR m c
      ∧ r.2.mem ((c : Thread nD τ).loc main_v3_1) = scalesR m c
      ∧ r.2.mem ((c : Thread nD τ).loc main_v3_2) = gainR m c
      ∧ r.2.mem ((c : Thread nD τ).loc main_v3_3) = shiftR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨⟨((h c).1 4).trans (final_codes m c), ((h c).1 5).trans (final_scales m c),
      ((h c).1 6).trans (final_gain m c), ((h c).1 7).trans (final_shift m c)⟩,
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok m))

/-- The rows the region finds, of the arguments. -/
theorem gaV_apply (c : Dev nD) (k : Fin 2048) : gaV m c (ix2 0 k) = m ((c : Thread nD τ).loc main_arg1) (ix1 k) := by
  unfold gaV V
  after_reads_at
theorem beV_apply (c : Dev nD) (k : Fin 2048) : beV m c (ix2 0 k) = m ((c : Thread nD τ).loc main_arg2) (ix1 k) := by
  unfold beV V
  after_reads_at
theorem gV_apply (c : Dev nD) (b : Fin 7) (k : Fin 2048) : gV m c (ix3 b 0 k) = m ((c : Thread nD τ).loc main_arg4) (ix2 b k) := by
  unfold gV V
  after_reads_at

end Cert.LnIdeal.Run

end
-- ==== Proof.LnRefFn.lean ====
/-
  The layer-norm reference as functions of whole arrays: each step of the mathematics once, by name, so that what the program's
  buffers hold and what the precondition speaks of are both read off these.
-/
module

public import proofs.«01_k».proof.Defs
public import proofs.«01_k».proof.Proof.Gen.LnReferenceIdeal

@[expose] public section

set_option maxRecDepth 16384

noncomputable section

namespace Cert.LnReferenceIdeal.Ref

open Cert.LnReferenceIdeal Cert.LnReferenceIdeal.Gen Idealize.ShloMosaic Idealize.ShloMosaic.TcCoe

variable {F : FTy → Type} [FloatOps F]

/-- The centred activations: a token less its mean. -/
def xcF (x : FVec F S7x256x2048 .bf16) : FVec F S7x256x2048 .f32 :=
  let v0 := extf .f32 x bitsLt_bf16_f32
  let k := (constant S_ .f32 0x00000000#32 : FVec F S_ .f32)
  let v1 := Host.reduceAdd v0 k reducesTo_S7x256x2048_S7x256_d2 h_S_
  let v2 := broadcastInDim S7x256x1 ![0, 1] bcast_S7x256_S7x256x1_0_1 v1
  let k_0 := (constant S_ .f32 0x45000000#32 : FVec F S_ .f32)
  let v3 := broadcastInDim S7x256x1 ![] bcast_S_S7x256x1 k_0
  let v4 := Host.divf v2 v3
  let v5 := broadcastInDim S7x256x2048 ![0, 1, 2] bcast_S7x256x1_S7x256x2048_0_1_2 v4
  subf v0 v5

/-- One over the root of a token's mean square plus epsilon. -/
def rF (xc : FVec F S7x256x2048 .f32) : FVec F S7x256x1 .f32 :=
  let v7 := mulf xc xc
  let k_1 := (constant S_ .f32 0x00000000#32 : FVec F S_ .f32)
  let v8 := Host.reduceAdd v7 k_1 reducesTo_S7x256x2048_S7x256_d2 h_S_
  let v9 := broadcastInDim S7x256x1 ![0, 1] bcast_S7x256_S7x256x1_0_1 v8
  let k_2 := (constant S_ .f32 0x45000000#32 : FVec F S_ .f32)
  let v10 := broadcastInDim S7x256x1 ![] bcast_S_S7x256x1 k_2
  let v11 := Host.divf v9 v10
  let k_3 := (constant S_ .f32 0x3727C5AC#32 : FVec F S_ .f32)
  let v12 := broadcastInDim S7x256x1 ![] bcast_S_S7x256x1 k_3
  let v13 := addf v11 v12
  Host.rsqrt v13

/-- The normalised activations. -/
def xhF (xc : FVec F S7x256x2048 .f32) (r : FVec F S7x256x1 .f32) : FVec F S7x256x2048 .f32 :=
  let v15 := broadcastInDim S7x256x2048 ![0, 1, 2] bcast_S7x256x1_S7x256x2048_0_1_2 r
  mulf xc v15

/-- One for a token of the sentence, zero for padding. -/
def mkF (ln : IVec S7 32) : FVec F S7x256 .f32 :=
  let v23 := (iotaInDim S256 32 0)
  let v24 := broadcastInDim S1x256 ![1] bcast_S256_S1x256_1 v23
  let v26 := broadcastInDim S7x256 ![0, 1] bcast_S1x256_S7x256_0_1 v24
  let v25 := broadcastInDim S7x1 ![0] bcast_S7_S7x1_0 ln
  let v27 := broadcastInDim S7x256 ![0, 1] bcast_S7x1_S7x256_0_1 v25
  let v28 := cmpi .slt v26 v27
  uitofp .f32 v28

/-- The lengths as floats. -/
def leF (ln : IVec S7 32) : FVec F S7x1 .f32 :=
  let v30 := (sitofp .f32 ln : FVec F S7 .f32)
  broadcastInDim S7x1 ![0] bcast_S7_S7x1_0 v30

/-- The pooled sentence: the scaled and shifted tokens, summed over the sentence, over its length. -/
def poF (ga : FVec F S2048 .f32) (be : FVec F S2048 .f32) (xh : FVec F S7x256x2048 .f32) (mk : FVec F S7x256 .f32) (le : FVec F S7x1 .f32) : FVec F S7x2048 .f32 :=
  let v17 := broadcastInDim S1x1x2048 ![2] bcast_S2048_S1x1x2048_2 ga
  let v18 := broadcastInDim S7x256x2048 ![0, 1, 2] bcast_S1x1x2048_S7x256x2048_0_1_2 v17
  let v19 := mulf xh v18
  let v20 := broadcastInDim S1x1x2048 ![2] bcast_S2048_S1x1x2048_2 be
  let v21 := broadcastInDim S7x256x2048 ![0, 1, 2] bcast_S1x1x2048_S7x256x2048_0_1_2 v20
  let v22 := addf v19 v21
  let v32 := Host.dotGeneral dot_S7x256_S7x256x2048_S7x2048_1_1_n_2_0_0 (some .fp32) mk v22
  let v33 := broadcastInDim S7x2048 ![0, 1] bcast_S7x1_S7x2048_0_1 le
  Host.divf v32 v33

/-- The norm of the pooled sentence. -/
def nnF (po : FVec F S7x2048 .f32) : FVec F S7x1 .f32 :=
  let v35 := mulf po po
  let k_4 := (constant S_ .f32 0x00000000#32 : FVec F S_ .f32)
  let v36 := Host.reduceAdd v35 k_4 reducesTo_S7x2048_S7_d1 h_S_
  let v37 := broadcastInDim S7x1 ![0] bcast_S7_S7x1_0 v36
  Host.sqrt v37

/-- The gradient of the pooled sentence, back through its normalisation. -/
def dpF (g : FVec F S7x2048 .f32) (po : FVec F S7x2048 .f32) (nn : FVec F S7x1 .f32) : FVec F S7x2048 .f32 :=
  let v39 := broadcastInDim S7x2048 ![0, 1] bcast_S7x1_S7x2048_0_1 nn
  let v40 := Host.divf po v39
  let v41 := mulf v40 g
  let k_5 := (constant S_ .f32 0x00000000#32 : FVec F S_ .f32)
  let v42 := Host.reduceAdd v41 k_5 reducesTo_S7x2048_S7_d1 h_S_
  let v43 := broadcastInDim S7x1 ![0] bcast_S7_S7x1_0 v42
  let v44 := broadcastInDim S7x2048 ![0, 1] bcast_S7x1_S7x2048_0_1 v43
  let v45 := mulf v40 v44
  let v46 := subf g v45
  let v47 := broadcastInDim S7x2048 ![0, 1] bcast_S7x1_S7x2048_0_1 nn
  Host.divf v46 v47

/-- The gradient of every scaled and shifted token. -/
def dyF (mk : FVec F S7x256 .f32) (le : FVec F S7x1 .f32) (dp : FVec F S7x2048 .f32) : FVec F S7x256x2048 .f32 :=
  let v49 := broadcastInDim S7x256x1 ![0, 1] bcast_S7x256_S7x256x1_0_1 mk
  let v53 := broadcastInDim S7x256x2048 ![0, 1, 2] bcast_S7x256x1_S7x256x2048_0_1_2 v49
  let v50 := broadcastInDim S7x2048 ![0, 1] bcast_S7x1_S7x2048_0_1 le
  let v51 := Host.divf dp v50
  let v52 := broadcastInDim S7x1x2048 ![0, 2] bcast_S7x2048_S7x1x2048_0_2 v51
  let v54 := broadcastInDim S7x256x2048 ![0, 1, 2] bcast_S7x1x2048_S7x256x2048_0_1_2 v52
  mulf v53 v54

/-- The same times the gain: the gradient of the normalised activations. -/
def dxF (ga : FVec F S2048 .f32) (dy : FVec F S7x256x2048 .f32) : FVec F S7x256x2048 .f32 :=
  let v56 := broadcastInDim S1x1x2048 ![2] bcast_S2048_S1x1x2048_2 ga
  let v57 := broadcastInDim S7x256x2048 ![0, 1, 2] bcast_S1x1x2048_S7x256x2048_0_1_2 v56
  mulf dy v57

/-- The gradient of the activations, back through the layer norm. -/
def dhF (r : FVec F S7x256x1 .f32) (xh : FVec F S7x256x2048 .f32) (dx : FVec F S7x256x2048 .f32) : FVec F S7x256x2048 .f32 :=
  let v73 := broadcastInDim S7x256x2048 ![0, 1, 2] bcast_S7x256x1_S7x256x2048_0_1_2 r
  let k_6 := (constant S_ .f32 0x00000000#32 : FVec F S_ .f32)
  let v59 := Host.reduceAdd dx k_6 reducesTo_S7x256x2048_S7x256_d2 h_S_
  let v60 := broadcastInDim S7x256x1 ![0, 1] bcast_S7x256_S7x256x1_0_1 v59
  let k_7 := (constant S_ .f32 0x45000000#32 : FVec F S_ .f32)
  let v61 := broadcastInDim S7x256x1 ![] bcast_S_S7x256x1 k_7
  let v62 := Host.divf v60 v61
  let v63 := broadcastInDim S7x256x2048 ![0, 1, 2] bcast_S7x256x1_S7x256x2048_0_1_2 v62
  let v64 := subf dx v63
  let v65 := mulf dx xh
  let k_8 := (constant S_ .f32 0x00000000#32 : FVec F S_ .f32)
  let v66 := Host.reduceAdd v65 k_8 reducesTo_S7x256x2048_S7x256_d2 h_S_
  let v67 := broadcastInDim S7x256x1 ![0, 1] bcast_S7x256_S7x256x1_0_1 v66
  let k_9 := (constant S_ .f32 0x45000000#32 : FVec F S_ .f32)
  let v68 := broadcastInDim S7x256x1 ![] bcast_S_S7x256x1 k_9
  let v69 := Host.divf v67 v68
  let v70 := broadcastInDim S7x256x2048 ![0, 1, 2] bcast_S7x256x1_S7x256x2048_0_1_2 v69
  let v71 := mulf xh v70
  let v72 := subf v64 v71
  mulf v73 v72

/-- The gradient of the gain. -/
def dgF (xh : FVec F S7x256x2048 .f32) (dy : FVec F S7x256x2048 .f32) : FVec F S1x2048 .f32 :=
  let v75 := mulf dy xh
  let k_10 := (constant S_ .f32 0x00000000#32 : FVec F S_ .f32)
  let v76 := Host.reduceAdd v75 k_10 reducesTo_S7x256x2048_S2048_d0_1 h_S_
  broadcastInDim S1x2048 ![1] bcast_S2048_S1x2048_1 v76

/-- The gradient of the shift. -/
def dbF (dy : FVec F S7x256x2048 .f32) : FVec F S1x2048 .f32 :=
  let k_11 := (constant S_ .f32 0x00000000#32 : FVec F S_ .f32)
  let v78 := Host.reduceAdd dy k_11 reducesTo_S7x256x2048_S2048_d0_1 h_S_
  broadcastInDim S1x2048 ![1] bcast_S2048_S1x2048_1 v78

/-- The largest magnitude of a token's gradient, over the largest code. -/
def tF (dh : FVec F S7x256x2048 .f32) : FVec F S7x256x1 .f32 :=
  let v80 := Host.absf dh
  let k_12 := (constant S_ .f32 0xFF800000#32 : FVec F S_ .f32)
  let v81 := Host.reduce FloatOps.maximumf v80 k_12 reducesTo_S7x256x2048_S7x256_d2 h_S_
  let v82 := broadcastInDim S7x256x1 ![0, 1] bcast_S7x256_S7x256x1_0_1 v81
  let k_13 := (constant S_ .f32 0x37924925#32 : FVec F S_ .f32)
  let v83 := broadcastInDim S7x256x1 ![] bcast_S_S7x256x1 k_13
  mulf v82 v83

/-- The powers of two, from the smallest normal one up. -/
def pwF : FVec F S254 .f32 :=
  let k_14 := (constant S_ .f32 0x40000000#32 : FVec F S_ .f32)
  let v85 := broadcastInDim S254 ![] bcast_S_S254 k_14
  let c := (constantI S_ 32 4294967170#32)
  let v87 := broadcastInDim S254 ![] bcast_S_S254 c
  let v86 := (iotaInDim S254 32 0)
  let v88 := addi v87 v86
  let v89 := (sitofp .f32 v88 : FVec F S254 .f32)
  Host.powf v85 v89

/-- The token's scale: the least power of two above, one where the magnitude is below them all. -/
def scF (t : FVec F S7x256x1 .f32) (pw : FVec F S254 .f32) : FVec F S7x256x1 .f32 :=
  let v98 := extractStridedSlice S1 ![0] pw slices_S254_S1_0
  let v99 := shapeCast S_ v98 shapeCasts_S1_S_
  let v100 := broadcastInDim S7x256x1 ![] bcast_S_S7x256x1 v99
  let v101 := cmpf .olt t v100
  let k_17 := (constant S_ .f32 0x3F800000#32 : FVec F S_ .f32)
  let u1 := broadcastInDim S7x256x1 ![] bcast_S_S7x256x1 k_17
  let v92 := broadcastInDim S7x256x254 ![0, 1, 2] bcast_S7x256x1_S7x256x254_0_1_2 t
  let v91 := broadcastInDim S1x1x254 ![2] bcast_S254_S1x1x254_2 pw
  let v93 := broadcastInDim S7x256x254 ![0, 1, 2] bcast_S1x1x254_S7x256x254_0_1_2 v91
  let v94 := cmpf .olt v92 v93
  let w1 := broadcastInDim S7x256x254 ![2] bcast_S254_S7x256x254_2 pw
  let k_15 := (constant S_ .f32 0x7F800000#32 : FVec F S_ .f32)
  let w2 := broadcastInDim S7x256x254 ![] bcast_S_S7x256x254 k_15
  let v95 := select v94 w1 w2
  let k_16 := (constant S_ .f32 0x7F800000#32 : FVec F S_ .f32)
  let v96 := Host.reduce FloatOps.minimumf v95 k_16 reducesTo_S7x256x254_S7x256_d2 h_S_
  let v97 := broadcastInDim S7x256x1 ![0, 1] bcast_S7x256_S7x256x1_0_1 v96
  select v101 u1 v97

/-- The gradient over the scale, cut to the range of the codes. -/
def vvF (dh : FVec F S7x256x2048 .f32) (sc : FVec F S7x256x1 .f32) : FVec F S7x256x2048 .f32 :=
  let k_19 := (constant S_ .f32 0x47600000#32 : FVec F S_ .f32)
  let c4 := broadcastInDim S7x256x2048 ![] bcast_S_S7x256x2048 k_19
  let k_18 := (constant S_ .f32 0xC7600000#32 : FVec F S_ .f32)
  let c1 := broadcastInDim S7x256x2048 ![] bcast_S_S7x256x2048 k_18
  let v103 := broadcastInDim S7x256x2048 ![0, 1, 2] bcast_S7x256x1_S7x256x2048_0_1_2 sc
  let v104 := Host.divf dh v103
  let c2 := maximumf c1 v104
  minimumf c4 c2

/-! ## The same, of the arguments -/

variable (x : FVec F S7x256x2048 .bf16) (ga be : FVec F S2048 .f32) (ln : IVec S7 32) (g : FVec F S7x2048 .f32)

abbrev rA : FVec F S7x256x1 .f32 := rF (xcF x)
abbrev xhA : FVec F S7x256x2048 .f32 := xhF (xcF x) (rA x)
abbrev poA : FVec F S7x2048 .f32 := poF ga be (xhA x) (mkF ln) (leF ln)
abbrev nnA : FVec F S7x1 .f32 := nnF (poA x ga be ln)
abbrev dpA : FVec F S7x2048 .f32 := dpF g (poA x ga be ln) (nnA x ga be ln)
abbrev dyA : FVec F S7x256x2048 .f32 := dyF (mkF ln) (leF ln) (dpA x ga be ln g)
abbrev dxA : FVec F S7x256x2048 .f32 := dxF ga (dyA x ga be ln g)
abbrev dhA : FVec F S7x256x2048 .f32 := dhF (rA x) (xhA x) (dxA x ga be ln g)
abbrev dgA : FVec F S1x2048 .f32 := dgF (xhA x) (dyA x ga be ln g)
abbrev dbA : FVec F S1x2048 .f32 := dbF (dyA x ga be ln g)
abbrev scA : FVec F S7x256x1 .f32 := scF (tF (dhA x ga be ln g)) pwF
abbrev vvA : FVec F S7x256x2048 .f32 := vvF (dhA x ga be ln g) (scA x ga be ln g)

end Cert.LnReferenceIdeal.Ref

end
-- ==== Proof.LnScale.lean ====
/-
  The token's scale.  The kernel counts, among the bit patterns of the powers of two, those the magnitude reaches, and puts the
  count together into a float; the reference takes the least power of two above the magnitude.
-/
module

public import proofs.«01_k».proof.Defs
public import Idealize.ShloMosaic.Lib.Pointwise

@[expose] public section

set_option maxRecDepth 16384

noncomputable section

namespace Cert.LnScale

open Idealize.ShloMosaic

/-- The float whose exponent field is `j` and whose other bits are zero. -/
abbrev pw (j : ℕ) : EReal := Ideal.ofBits .f32 (IntOp.shli ArithUnit.vector (BitVec.ofNat 32 j) 23#32)

/-- How many of them the magnitude reaches. -/
def cnt (t : EReal) : BitVec 32 :=
  Finset.univ.fold IntOp.addi 0#32 (fun j : Fin 256 => BitVec.setWidth 32 (BitVec.ofBool (decide (pw j.val ≤ t))))

/-- The kernel's exponent. -/
def kOf (t : EReal) : BitVec 32 :=
  Scalar.select (IntOp.cmpi .eq (IntOp.subi (cnt t) 1#32) 0#32) 0#32 (IntOp.subi (IntOp.subi (cnt t) 1#32) 126#32)

/-- The kernel's scale and its inverse. -/
def scK (t : EReal) : EReal := Ideal.ofBits .f32 (IntOp.shli ArithUnit.vector (IntOp.addi (kOf t) 127#32) 23#32)
def invK (t : EReal) : EReal := Ideal.ofBits .f32 (IntOp.shli ArithUnit.vector (IntOp.subi 127#32 (kOf t)) 23#32)

/-- The reference's powers of two and its scale. -/
def pwR (k : ℕ) : EReal :=
  Ideal.pow (Ideal.ofBits .f32 1073741824#32) (FloatOps.sitofp (F := Ideal) .f32 (IntOp.addi 4294967170#32 (BitVec.ofNat 32 k)))
def scR (t : EReal) : EReal :=
  if t < pwR 0 then 1
  else Finset.univ.fold min (Ideal.ofBits .f32 2139095040#32)
    (fun k : Fin 254 => if t < pwR k.val then pwR k.val else Ideal.ofBits .f32 2139095040#32)

theorem bits_neg : ∀ j : Fin 256, ((IntOp.shli ArithUnit.vector (BitVec.ofNat 32 j.val) 23#32).extractLsb' 31 1 == 1#1) = false := by
  decide +kernel
theorem bits_ex : ∀ j : Fin 256, ((IntOp.shli ArithUnit.vector (BitVec.ofNat 32 j.val) 23#32).extractLsb' 23 8).toNat = j.val := by
  decide +kernel
theorem bits_fr : ∀ j : Fin 256, ((IntOp.shli ArithUnit.vector (BitVec.ofNat 32 j.val) 23#32).extractLsb' 0 23).toNat = 0 := by
  decide +kernel

theorem zero_of (b : BitVec 32) (hx : (b.extractLsb' 23 8).toNat = 0) (hf : (b.extractLsb' 0 23).toNat = 0) : Ideal.ofBits .f32 b = 0 := by
  simp only [Ideal.ofBits, Ideal.ieee, Nat.reduceAdd]
  rw [hx, hf, if_neg (by omega), if_pos rfl, Nat.cast_zero, mul_zero, zero_mul, EReal.coe_zero]

theorem top_of (b : BitVec 32) (hx : (b.extractLsb' 23 8).toNat = 255) (hf : (b.extractLsb' 0 23).toNat = 0)
    (hn : (b.extractLsb' 31 1 == 1#1) = false) : Ideal.ofBits .f32 b = ⊤ := by
  simp only [Ideal.ofBits, Ideal.ieee, Nat.reduceAdd]
  rw [hx, hf, hn, if_pos (by omega), if_pos rfl]
  rfl

theorem pw_zero : pw 0 = 0 := zero_of _ (bits_ex ⟨0, by omega⟩) (bits_fr ⟨0, by omega⟩)

theorem pw_top : pw 255 = ⊤ := top_of _ (bits_ex ⟨255, by omega⟩) (bits_fr ⟨255, by omega⟩) (bits_neg ⟨255, by omega⟩)

theorem mid_of (b : BitVec 32) (j : ℕ) (h0 : 0 < j) (h1 : j < 255) (hx : (b.extractLsb' 23 8).toNat = j)
    (hf : (b.extractLsb' 0 23).toNat = 0) (hn : (b.extractLsb' 31 1 == 1#1) = false) :
    Ideal.ofBits .f32 b = (((2 : ℝ) ^ ((j : ℤ) - 127) : ℝ) : EReal) := by
  simp only [Ideal.ofBits, Ideal.ieee, Nat.reduceAdd]
  rw [hx, hf, hn, if_neg (by omega), if_neg (by omega)]
  refine congrArg (fun r : ℝ => (r : EReal)) ?_
  rw [show ((j : ℤ) - 127) = (23 : ℤ) + ((j : ℤ) - (2 ^ (8 - 1) - 1) - (23 : ℕ)) by push_cast; ring, zpow_add₀ (by norm_num)]
  norm_num

theorem pw_mid (j : ℕ) (h0 : 0 < j) (h1 : j < 255) : pw j = (((2 : ℝ) ^ ((j : ℤ) - 127) : ℝ) : EReal) :=
  mid_of _ j h0 h1 (bits_ex ⟨j, by omega⟩) (bits_fr ⟨j, by omega⟩) (bits_neg ⟨j, by omega⟩)

theorem pwR_eq (k : ℕ) (hk : k < 254) : pwR k = pw (k + 1) := by
  have e : ∀ k : Fin 254, (IntOp.addi 4294967170#32 (BitVec.ofNat 32 k.val)).toInt = (k.val : ℤ) - 126 := by decide +kernel
  have e2 : Ideal.ofBits .f32 1073741824#32 = ((2 : ℝ) : EReal) := by
    have h := pw_mid 128 (by norm_num) (by norm_num)
    norm_num at h
    exact h
  rw [pw_mid (k + 1) (by omega) (by omega)]
  unfold pwR
  rw [e2]
  show Ideal.pow _ (((((IntOp.addi 4294967170#32 (BitVec.ofNat 32 k)).toInt : ℤ) : ℝ) : ℝ) : EReal) = _
  rw [e ⟨k, hk⟩]
  show ((Real.rpow 2 _ : ℝ) : EReal) = _
  refine congrArg (fun r : ℝ => (r : EReal)) ?_
  show (2 : ℝ) ^ (((k : ℤ) - 126 : ℤ) : ℝ) = _
  rw [Real.rpow_intCast]
  congr 1
  push_cast
  ring

theorem pw_mono {i j : ℕ} (h : i < j) (hj : j < 255) : pw i < pw j := by
  rcases Nat.eq_zero_or_pos i with rfl | hi
  · rw [pw_zero, pw_mid j h hj]
    exact_mod_cast (zpow_pos (by norm_num : (0 : ℝ) < 2) _)
  · rw [pw_mid i hi (by omega), pw_mid j (by omega) hj]
    exact EReal.coe_lt_coe_iff.mpr (zpow_lt_zpow_right₀ (by norm_num : (1 : ℝ) < 2) (by omega))

/-- The exponent field of the magnitude. -/
theorem exists_field (t : EReal) (h0 : 0 ≤ t) (h1 : t < pw 240) : ∃ m, m < 240 ∧ pw m ≤ t ∧ t < pw (m + 1) := by
  classical
  have hex : ∃ j, t < pw j := ⟨240, h1⟩
  have hj := Nat.find_spec hex
  have hle : Nat.find hex ≤ 240 := Nat.find_min' hex h1
  have hpos : 0 < Nat.find hex := by
    rcases Nat.eq_zero_or_pos (Nat.find hex) with h | h
    · rw [h, pw_zero] at hj
      exact absurd hj (not_lt.mpr h0)
    · exact h
  refine ⟨Nat.find hex - 1, by omega, not_lt.mp (Nat.find_min hex (by omega)), ?_⟩
  rw [Nat.sub_add_cancel hpos]
  exact hj

theorem le_iff {t : EReal} {m : ℕ} (hm : m < 240) (h1 : pw m ≤ t) (h2 : t < pw (m + 1)) (j : ℕ) (hj : j < 256) : pw j ≤ t ↔ j ≤ m := by
  constructor
  · intro h
    by_contra hn
    rcases Nat.lt_or_ge j 255 with h3 | h3
    · have : pw (m + 1) ≤ pw j := by
        rcases Nat.lt_or_ge (m + 1) j with h4 | h4
        · exact (pw_mono h4 h3).le
        · rw [show j = m + 1 by omega]
      exact absurd h (not_le.mpr (h2.trans_le this))
    · rw [show j = 255 by omega, pw_top] at h
      exact absurd h (not_le.mpr (h2.trans_le le_top))
  · intro h
    rcases Nat.lt_or_ge j m with h4 | h4
    · exact (pw_mono h4 (by omega)).le.trans h1
    · rw [show j = m by omega]; exact h1

/-- The count, put together, by cases on the exponent field. -/
theorem cnt_fin : ∀ m : Fin 240,
    Finset.univ.fold IntOp.addi 0#32 (fun j : Fin 256 => BitVec.setWidth 32 (BitVec.ofBool (decide (j.val ≤ m.val)))) = BitVec.ofNat 32 (m.val + 1) := by
  decide +kernel

theorem cnt_eq {t : EReal} {m : ℕ} (hm : m < 240) (h1 : pw m ≤ t) (h2 : t < pw (m + 1)) : cnt t = BitVec.ofNat 32 (m + 1) := by
  rw [← cnt_fin ⟨m, hm⟩]
  unfold cnt
  congr 1
  funext j
  congr 2
  exact decide_eq_decide.mpr (le_iff hm h1 h2 j.val j.isLt)

/-- The scale's exponent field. -/
def fld (m : ℕ) : ℕ := if m = 0 then 127 else m + 1

theorem sc_fin : ∀ m : Fin 240,
    IntOp.addi (Scalar.select (IntOp.cmpi .eq (IntOp.subi (BitVec.ofNat 32 (m.val + 1)) 1#32) 0#32) 0#32
      (IntOp.subi (IntOp.subi (BitVec.ofNat 32 (m.val + 1)) 1#32) 126#32)) 127#32 = BitVec.ofNat 32 (fld m.val) := by decide +kernel
theorem inv_fin : ∀ m : Fin 240,
    IntOp.subi 127#32 (Scalar.select (IntOp.cmpi .eq (IntOp.subi (BitVec.ofNat 32 (m.val + 1)) 1#32) 0#32) 0#32
      (IntOp.subi (IntOp.subi (BitVec.ofNat 32 (m.val + 1)) 1#32) 126#32)) = BitVec.ofNat 32 (254 - fld m.val) := by decide +kernel

theorem scK_eq {t : EReal} {m : ℕ} (hm : m < 240) (h1 : pw m ≤ t) (h2 : t < pw (m + 1)) : scK t = pw (fld m) := by
  unfold scK kOf
  rw [cnt_eq hm h1 h2, sc_fin ⟨m, hm⟩]

theorem invK_eq {t : EReal} {m : ℕ} (hm : m < 240) (h1 : pw m ≤ t) (h2 : t < pw (m + 1)) : invK t = pw (254 - fld m) := by
  unfold invK kOf
  rw [cnt_eq hm h1 h2, inv_fin ⟨m, hm⟩]

theorem scR_eq {t : EReal} {m : ℕ} (hm : m < 240) (h1 : pw m ≤ t) (h2 : t < pw (m + 1)) : scR t = pw (fld m) := by
  unfold scR fld
  rw [pwR_eq 0 (by norm_num)]
  rcases Nat.eq_zero_or_pos m with rfl | h0
  · rw [if_pos h2, if_pos rfl, pw_mid 127 (by norm_num) (by norm_num)]
    norm_num
  · have hm1 : ¬ t < pw (0 + 1) := not_lt.mpr ((le_iff hm h1 h2 1 (by norm_num)).mpr h0)
    rw [if_neg hm1, if_neg h0.ne']
    have key : ∀ k : Fin 254, (t < pw (k.val + 1)) ↔ m ≤ k.val := fun k => by
      rw [← not_le, le_iff hm h1 h2 (k.val + 1) (by omega)]; omega
    refine le_antisymm ?_ ?_
    · refine (Finset.fold_min_le _).mpr (Or.inr ⟨⟨m, by omega⟩, Finset.mem_univ _, ?_⟩)
      rw [pwR_eq m (by omega), if_pos ((key ⟨m, by omega⟩).mpr le_rfl)]
    · have top : Ideal.ofBits .f32 2139095040#32 = (⊤ : EReal) := pw_top
      refine (Finset.le_fold_min _).mpr ⟨by rw [top]; exact le_top, fun k _ => ?_⟩
      rw [pwR_eq k.val k.isLt]
      by_cases hk : t < pw (k.val + 1)
      · rw [if_pos hk]
        have := (key k).mp hk
        rcases Nat.lt_or_ge m k.val with h4 | h4
        · exact (pw_mono (by omega) (by omega)).le
        · rw [show k.val = m by omega]
      · rw [if_neg hk, top]; exact le_top

/-- The two scales are the same. -/
theorem sc_eq (t : EReal) (h0 : 0 ≤ t) (h1 : t < pw 240) : scK t = scR t := by
  obtain ⟨m, hm, ha, hb⟩ := exists_field t h0 h1
  rw [scK_eq hm ha hb, scR_eq hm ha hb]

/-- Dividing by the one is multiplying by the other's inverse. -/
theorem div_sc (t : EReal) (h0 : 0 ≤ t) (h1 : t < pw 240) (x : EReal) : x * invK t = Ideal.div x (scR t) := by
  obtain ⟨m, hm, ha, hb⟩ := exists_field t h0 h1
  have hf : 0 < fld m ∧ fld m < 254 := by unfold fld; split <;> omega
  rw [invK_eq hm ha hb, scR_eq hm ha hb, pw_mid (fld m) hf.1 (by omega), pw_mid (254 - fld m) (by omega) (by omega)]
  unfold Ideal.div
  have hp : (0 : ℝ) < 2 ^ ((fld m : ℤ) - 127) := zpow_pos (by norm_num) _
  rw [if_neg (by exact_mod_cast hp.ne'), ← EReal.coe_inv, ← zpow_neg]
  refine congrArg (fun r : ℝ => x * (r : EReal)) (congrArg (fun e : ℤ => (2 : ℝ) ^ e) ?_)
  push_cast [Nat.cast_sub hf.2.le]
  ring

end Cert.LnScale

end
-- ==== Proof.LnPre.lean ====
/-
  What the precondition says of the arguments, element by element: the inputs are finite, every sentence has a token, no pooled
  sentence is zero, and the gradient of the activations does not exceed the largest finite float.
-/
module

public import proofs.«01_k».proof.Pre_in_domain
public import proofs.«01_k».proof.Proof.LnRefFn
public import proofs.«01_k».proof.Proof.LnScale
public import Idealize.ShloMosaic.Lib.ReduceAll
public import Idealize.ShloMosaic.Lib.Pointwise

@[expose] public section

set_option maxRecDepth 16384

noncomputable section

namespace Cert.LnPre

open Idealize.ShloMosaic Cert.LnReferenceIdeal.Ref

/-- The shape of one element. -/
abbrev Sc : Shape := ⟨0, ![]⟩

instance : Subsingleton Sc.Idx := ⟨fun a b => funext fun k => k.elim0⟩

theorem of_ofBool {p : Prop} [Decidable p] (h : BitVec.ofBool (decide p) = 1#1) : p := by
  by_contra hn
  rw [decide_eq_false hn] at h
  exact absurd h (by decide)

theorem top_eq : Ideal.ofBits .f32 0x7F800000#32 = ⊤ :=
  Cert.LnScale.top_of _ (by decide) (by decide) (by decide)

theorem max_eq : ∃ r : ℝ, r < 2 ^ (128 : ℤ) ∧ Ideal.ofBits .f32 0x7F7FFFFF#32 = (r : EReal) := by
  refine ⟨16777215 * 2 ^ (104 : ℤ), by norm_num, ?_⟩
  simp [Ideal.ofBits, Ideal.ieee]

theorem fin_of_abs (x : EReal) (h : max x (-x) < ⊤) : ∃ r : ℝ, x = (r : EReal) := by
  induction x with
  | bot => simp at h
  | top => simp at h
  | coe r => exact ⟨r, rfl⟩

theorem and_one {a b : IVec Sc 1} (h : andi a b = fun _ => 1#1) : a = (fun _ => 1#1) ∧ b = fun _ => 1#1 :=
  ⟨funext fun j => (IntOp.andi_eq_one.1 (congrFun h j)).1, funext fun j => (IntOp.andi_eq_one.1 (congrFun h j)).2⟩

/-- Every element is finite, as the predicate says it. -/
theorem finite_all {s : Shape} {axes : List (Fin s.rank)} (a : FVec Ideal s .f32) (c : IVec Sc 1) (bd : Fin 0 → Fin s.rank) (hb : Sc.BroadcastsInDim s bd)
    (hr : s.ReducesTo axes Sc) (hu : 0 < Sc.numel)
    (h : Host.reduce IntOp.andi (cmpf .olt (Host.absf a) (broadcastInDim s bd hb (constant Sc .f32 0x7F800000#32 : FVec Ideal Sc .f32))) c hr hu
      = fun _ => 1#1) (i : s.Idx) : ∃ r : ℝ, a i = (r : EReal) := by
  have e := Host.reduce_andi_all _ _ _ _ ix0 (congrFun h ix0) i
  have e2 : BitVec.ofBool (decide (max (a i) (-(a i)) < Ideal.ofBits .f32 0x7F800000#32)) = 1#1 := e
  have e3 := of_ofBool e2
  rw [top_eq] at e3
  exact fin_of_abs _ e3

section
variable [Cert.Pre_in_domain.Facts]
open Cert.Pre_in_domain.Facts

variable (x : FVec Ideal Cert.LnReferenceIdeal.S7x256x2048 .bf16) (ga be : FVec Ideal Cert.LnReferenceIdeal.S2048 .f32)
  (ln : IVec Cert.LnReferenceIdeal.S7 32) (g : FVec Ideal Cert.LnReferenceIdeal.S7x2048 .f32)

/-- The predicate's word on the inputs alone. -/
def inputs : IVec Sc 1 :=
  andi (andi (andi (andi
      (Host.reduce IntOp.andi (cmpf .olt (Host.absf (extf .f32 x bitsLt_bf16_f32)) (broadcastInDim Cert.Pre_in_domain.S7x256x2048 ![] bcast_S_S7x256x2048 (constant Sc .f32 0x7F800000#32 : FVec Ideal Sc .f32)))
        (constantI Sc 1 1#1) reducesTo_S7x256x2048_S_d0_1_2 h_S_)
      (Host.reduce IntOp.andi (cmpf .olt (Host.absf ga) (broadcastInDim Cert.Pre_in_domain.S2048 ![] bcast_S_S2048 (constant Sc .f32 0x7F800000#32 : FVec Ideal Sc .f32)))
        (constantI Sc 1 1#1) reducesTo_S2048_S_d0 h_S_))
      (Host.reduce IntOp.andi (cmpf .olt (Host.absf be) (broadcastInDim Cert.Pre_in_domain.S2048 ![] bcast_S_S2048 (constant Sc .f32 0x7F800000#32 : FVec Ideal Sc .f32)))
        (constantI Sc 1 1#1) reducesTo_S2048_S_d0 h_S_))
      (Host.reduce IntOp.andi (cmpf .olt (Host.absf g) (broadcastInDim Cert.Pre_in_domain.S7x2048 ![] bcast_S_S7x2048 (constant Sc .f32 0x7F800000#32 : FVec Ideal Sc .f32)))
        (constantI Sc 1 1#1) reducesTo_S7x2048_S_d0_1 h_S_))
    (Host.reduce IntOp.andi (cmpi .sge ln (broadcastInDim Cert.Pre_in_domain.S7 ![] bcast_S_S7 (constantI Sc 32 1#32)))
        (constantI Sc 1 1#1) reducesTo_S7_S_d0 h_S_)

theorem fn_eq : Cert.Pre_in_domain.fn x ga be ln g
    = Cert.Pre_in_domain.fn_part5 (nnA x ga be ln) (dhA x ga be ln g) (inputs x ga be ln g) := rfl

/-- The precondition, decoded. -/
structure Dom : Prop where
  x_fin : ∀ i, ∃ r : ℝ, x i = (r : EReal)
  ga_fin : ∀ i, ∃ r : ℝ, ga i = (r : EReal)
  be_fin : ∀ i, ∃ r : ℝ, be i = (r : EReal)
  g_fin : ∀ i, ∃ r : ℝ, g i = (r : EReal)
  ln_pos : ∀ i, 1 ≤ (ln i).toInt
  nn_pos : ∀ i, 0 < nnA x ga be ln i
  dh_le : ∀ i, max (dhA x ga be ln g i) (-(dhA x ga be ln g i)) ≤ Ideal.ofBits .f32 0x7F7FFFFF#32

theorem part5 (nn : FVec Ideal Cert.LnReferenceIdeal.S7x1 .f32) (dh : FVec Ideal Cert.LnReferenceIdeal.S7x256x2048 .f32) (w : IVec Sc 1)
    (h : Cert.Pre_in_domain.fn_part5 nn dh w = fun _ => 1#1) :
    w = (fun _ => 1#1) ∧ (∀ i, 0 < nn i) ∧ ∀ i, max (dh i) (-(dh i)) ≤ Ideal.ofBits .f32 0x7F7FFFFF#32 := by
  unfold Cert.Pre_in_domain.fn_part5 at h
  dsimp only at h
  obtain ⟨hw, h⟩ := and_one h
  obtain ⟨h1, h2⟩ := and_one h
  refine ⟨hw, fun i => ?_, fun i => ?_⟩
  · have e := Host.reduce_andi_all _ _ _ _ ix0 (congrFun h1 ix0) i
    have e2 : BitVec.ofBool (decide (Ideal.ofBits .f32 0x00000000#32 < nn i)) = 1#1 := e
    have e3 := of_ofBool e2
    rwa [Ideal.ofBits_zero_f32] at e3
  · have e := Host.reduce_andi_all _ _ _ _ ix0 (congrFun h2 ix0) i
    have e2 : BitVec.ofBool (decide (max (dh i) (-(dh i)) ≤ Ideal.ofBits .f32 0x7F7FFFFF#32)) = 1#1 := e
    exact of_ofBool e2

theorem dom_of (h : Cert.Pre_in_domain.fn x ga be ln g = fun _ => 1#1) : Dom x ga be ln g := by
  rw [fn_eq] at h
  obtain ⟨hw, hn, hd⟩ := part5 _ _ _ h
  unfold inputs at hw
  obtain ⟨hw, hl⟩ := and_one hw
  obtain ⟨hw, hg⟩ := and_one hw
  obtain ⟨hw, hbe⟩ := and_one hw
  obtain ⟨hx, hga⟩ := and_one hw
  refine ⟨fun i => finite_all _ _ _ _ _ _ hx i, fun i => finite_all _ _ _ _ _ _ hga i, fun i => finite_all _ _ _ _ _ _ hbe i,
    fun i => finite_all _ _ _ _ _ _ hg i, fun i => ?_, hn, hd⟩
  exact IntOp.cmpi_sge.1 (Host.reduce_andi_all _ _ _ _ ix0 (congrFun hl ix0) i)

end

end Cert.LnPre

end
-- ==== Proof.LnPayK.lean ====
/-
  The kernel's exponent at an index: it counts the powers of two that the token's largest magnitude reaches.
-/
module

public import proofs.«01_k».proof.Proof.LnBody
public import proofs.«01_k».proof.Proof.LnScale

@[expose] public section

set_option maxRecDepth 16384

noncomputable section

namespace Cert.LnIdeal.Pay

open Cert.LnIdeal Cert.LnIdeal.Gen Idealize.ShloMosaic Idealize.ShloMosaic.TcCoe

theorem p20 (xc : FVec Ideal S256x2048 .f32) (r mk corr : FVec Ideal S256x1 .f32) (cent : FVec Ideal S1x2048 .f32) (s : Fin 256) :
    k0_pay20 xc r mk cent corr (ix2 s 0)
      = Cert.LnScale.kOf (Finset.univ.fold max (Ideal.ofBits .f32 4286578688#32)
          (fun k : Fin 2048 => (FloatOps.absf (k0_pay19 xc r mk cent corr (ix2 s k)) : EReal)) * Ideal.ofBits .f32 932333861#32) := by
  unfold Cert.LnScale.kOf Cert.LnScale.cnt
  pointwise [k0_pay20]

end Cert.LnIdeal.Pay

end
-- ==== Proof.LnRefAt.lean ====
/-
  The layer-norm reference's arrays at an index, over the extended reals.
-/
module

public import proofs.«01_k».proof.Proof.LnRefFn
public import Idealize.ShloMosaic.Lib.Pointwise

@[expose] public section

set_option maxRecDepth 16384

noncomputable section

namespace Cert.LnReferenceIdeal.Ref

open Cert.LnReferenceIdeal Cert.LnReferenceIdeal.Gen Idealize.ShloMosaic Idealize.ShloMosaic.TcCoe

/-- The width, the epsilon, and the reciprocal of the largest code, as the program writes them. -/
abbrev cW : EReal := Ideal.ofBits .f32 1157627904#32
abbrev cE : EReal := Ideal.ofBits .f32 925353388#32
abbrev cC : EReal := Ideal.ofBits .f32 932333861#32

section sums
variable {n0 n1 n2 : Nat} {t : Shape}

theorem lt_a01 (h : (⟨3, ![n0, n1, n2]⟩ : Shape).ReducesTo [0, 1] t) : 0 < t.rank := by
  have : t.rank = 1 := h.1
  omega

theorem size_a01 (h : (⟨3, ![n0, n1, n2]⟩ : Shape).ReducesTo [0, 1] t) : t.size ⟨0, lt_a01 h⟩ = n2 := h.2 ⟨0, lt_a01 h⟩

theorem fiber_a01 (h : (⟨3, ![n0, n1, n2]⟩ : Shape).ReducesTo [0, 1] t) (j : t.Idx) (i : (⟨3, ![n0, n1, n2]⟩ : Shape).Idx) :
    h.drop i = j ↔ ∃ k : Fin n0 × Fin n1,
      ix3 k.1 k.2 ⟨(j ⟨0, lt_a01 h⟩).val, Shape.coordLt (j ⟨0, lt_a01 h⟩) (size_a01 h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt_a01 h⟩)).symm
  · rintro ⟨k, rfl⟩
    funext b
    apply Fin.ext
    match b with
    | ⟨0, _⟩ => rfl
    | ⟨_ + 1, hb⟩ => exact absurd hb (by have : t.rank = 1 := h.1; omega)

/-- The host's float sum over the two leading axes, at an index. -/
theorem hostReduceAdd_a01 (h : (⟨3, ![n0, n1, n2]⟩ : Shape).ReducesTo [0, 1] t) (v : (⟨3, ![n0, n1, n2]⟩ : Shape).Idx → EReal)
    (init : EReal) (j : t.Idx) :
    Ideal.hostReduceAdd h v init j
      = init + ∑ k0 : Fin n0, ∑ k1 : Fin n1, v (ix3 k0 k1 ⟨(j ⟨0, lt_a01 h⟩).val, Shape.coordLt (j ⟨0, lt_a01 h⟩) (size_a01 h)⟩) := by
  refine congrArg (init + ·) ((Finset.sum_filter_eq_sum_of_fiber _ (fun k : Fin n0 × Fin n1 =>
    ix3 k.1 k.2 ⟨(j ⟨0, lt_a01 h⟩).val, Shape.coordLt (j ⟨0, lt_a01 h⟩) (size_a01 h)⟩)
    (fun _ _ e => Prod.ext (congrFun e 0) (congrFun e 1)) (fiber_a01 h j) v).trans ?_)
  simp only [Fintype.sum_prod_type]

end sums

theorem xcF_at (x : FVec Ideal S7x256x2048 .bf16) (b : Fin 7) (s : Fin 256) (l : Fin 2048) :
    xcF x (ix3 b s l) = x (ix3 b s l) - Ideal.div (∑ k, x (ix3 b s k)) cW := by
  unfold xcF
  dsimp only
  pointwise

theorem rF_at (xc : FVec Ideal S7x256x2048 .f32) (b : Fin 7) (s : Fin 256) :
    rF xc (ix3 b s 0) = Ideal.rsqrt (Ideal.div (∑ k, xc (ix3 b s k) * xc (ix3 b s k)) cW + cE) := by
  unfold rF
  dsimp only
  pointwise

theorem xhF_at (xc : FVec Ideal S7x256x2048 .f32) (r : FVec Ideal S7x256x1 .f32) (b : Fin 7) (s : Fin 256) (l : Fin 2048) :
    xhF xc r (ix3 b s l) = xc (ix3 b s l) * r (ix3 b s 0) := by
  unfold xhF
  dsimp only
  pointwise

theorem mkF_at (ln : IVec S7 32) (b : Fin 7) (s : Fin 256) :
    mkF (F := Ideal) ln (ix2 b s) = FloatOps.uitofp .f32 (IntOp.cmpi .slt (BitVec.ofNat 32 s.val) (ln (ix1 b))) := by
  unfold mkF
  dsimp only
  pointwise

theorem leF_at (ln : IVec S7 32) (b : Fin 7) : leF (F := Ideal) ln (ix2 b 0) = FloatOps.sitofp .f32 (ln (ix1 b)) := by
  unfold leF
  dsimp only
  pointwise

theorem poF_at (ga be : FVec Ideal S2048 .f32) (xh : FVec Ideal S7x256x2048 .f32) (mk : FVec Ideal S7x256 .f32) (le : FVec Ideal S7x1 .f32)
    (b : Fin 7) (l : Fin 2048) :
    poF ga be xh mk le (ix2 b l)
      = Ideal.div (∑ k, mk (ix2 b k) * (xh (ix3 b k l) * ga (ix1 l) + be (ix1 l))) (le (ix2 b 0)) := by
  unfold poF
  dsimp only
  pointwise

theorem nnF_at (po : FVec Ideal S7x2048 .f32) (b : Fin 7) :
    nnF po (ix2 b 0) = Ideal.sqrt (∑ k, po (ix2 b k) * po (ix2 b k)) := by
  unfold nnF
  dsimp only
  pointwise

theorem dpF_at (g po : FVec Ideal S7x2048 .f32) (nn : FVec Ideal S7x1 .f32) (b : Fin 7) (l : Fin 2048) :
    dpF g po nn (ix2 b l)
      = Ideal.div (g (ix2 b l) - Ideal.div (po (ix2 b l)) (nn (ix2 b 0)) * ∑ k, Ideal.div (po (ix2 b k)) (nn (ix2 b 0)) * g (ix2 b k))
          (nn (ix2 b 0)) := by
  unfold dpF
  dsimp only
  pointwise

theorem dyF_at (mk : FVec Ideal S7x256 .f32) (le : FVec Ideal S7x1 .f32) (dp : FVec Ideal S7x2048 .f32) (b : Fin 7) (s : Fin 256) (l : Fin 2048) :
    dyF mk le dp (ix3 b s l) = mk (ix2 b s) * Ideal.div (dp (ix2 b l)) (le (ix2 b 0)) := by
  unfold dyF
  dsimp only
  pointwise

theorem dxF_at (ga : FVec Ideal S2048 .f32) (dy : FVec Ideal S7x256x2048 .f32) (b : Fin 7) (s : Fin 256) (l : Fin 2048) :
    dxF ga dy (ix3 b s l) = dy (ix3 b s l) * ga (ix1 l) := by
  unfold dxF
  dsimp only
  pointwise

theorem dhF_at (r : FVec Ideal S7x256x1 .f32) (xh dx : FVec Ideal S7x256x2048 .f32) (b : Fin 7) (s : Fin 256) (l : Fin 2048) :
    dhF r xh dx (ix3 b s l)
      = r (ix3 b s 0) * (dx (ix3 b s l) - Ideal.div (∑ k, dx (ix3 b s k)) cW
          - xh (ix3 b s l) * Ideal.div (∑ k, dx (ix3 b s k) * xh (ix3 b s k)) cW) := by
  unfold dhF
  dsimp only
  pointwise

theorem dgF_at (xh dy : FVec Ideal S7x256x2048 .f32) (l : Fin 2048) :
    dgF xh dy (ix2 0 l) = ∑ b, ∑ s, dy (ix3 b s l) * xh (ix3 b s l) := by
  unfold dgF
  dsimp only
  pointwise
  rw [hostReduceAdd_a01, zero_add]
  rfl

theorem dbF_at (dy : FVec Ideal S7x256x2048 .f32) (l : Fin 2048) :
    dbF dy (ix2 0 l) = ∑ b, ∑ s, dy (ix3 b s l) := by
  unfold dbF
  dsimp only
  pointwise
  rw [hostReduceAdd_a01, zero_add]
  rfl

/-- The largest along the last axis, at an index. -/
theorem max_at (a : FVec Ideal S7x256x2048 .f32) (k : FVec Ideal S_ .f32) (b : Fin 7) (s : Fin 256) :
    Host.reduce FloatOps.maximumf a k reducesTo_S7x256x2048_S7x256_d2 h_S_ (ix2 b s)
      = Finset.univ.fold (FloatOps.maximumf (F := Ideal) (φ := .f32)) (k (Shape.Idx.first h_S_)) (fun l : Fin 2048 => a (ix3 b s l)) := by
  rw [Host.reduce_eq_fold]
  exact Shape.ReducesTo.fold_fiber_r3_a2 reducesTo_S7x256x2048_S7x256_d2 (ix2 b s) _ _ _

theorem col_at (w : FVec Ideal S7x256 .f32) (b : Fin 7) (s : Fin 256) :
    mulf (broadcastInDim S7x256x1 ![0, 1] bcast_S7x256_S7x256x1_0_1 w)
      (broadcastInDim S7x256x1 ![] bcast_S_S7x256x1 (constant S_ .f32 0x37924925#32 : FVec Ideal S_ .f32)) (ix3 b s 0) = w (ix2 b s) * cC := by
  pointwise

theorem tF_at (dh : FVec Ideal S7x256x2048 .f32) (b : Fin 7) (s : Fin 256) :
    tF dh (ix3 b s 0)
      = Finset.univ.fold max (Ideal.ofBits .f32 4286578688#32) (fun k : Fin 2048 => (FloatOps.absf (dh (ix3 b s k)) : EReal)) * cC := by
  unfold tF
  dsimp only
  rw [col_at, max_at]
  simp only [Ideal.maximumf_eq_max]
  rfl

theorem pwF_at (k : Fin 254) :
    pwF (F := Ideal) (ix1 k)
      = Ideal.pow (Ideal.ofBits .f32 1073741824#32) (FloatOps.sitofp (F := Ideal) .f32 (IntOp.addi 4294967170#32 (BitVec.ofNat 32 k.val))) := by
  unfold pwF
  dsimp only
  pointwise

theorem scF_at (t : FVec Ideal S7x256x1 .f32) (pw : FVec Ideal S254 .f32) (b : Fin 7) (s : Fin 256) :
    scF t pw (ix3 b s 0)
      = if t (ix3 b s 0) < pw (ix1 0) then 1
        else Finset.univ.fold min (Ideal.ofBits .f32 2139095040#32)
          (fun k : Fin 254 => if t (ix3 b s 0) < pw (ix1 k) then pw (ix1 k) else Ideal.ofBits .f32 2139095040#32) := by
  unfold scF
  dsimp only
  pointwise

theorem vvF_at (dh : FVec Ideal S7x256x2048 .f32) (sc : FVec Ideal S7x256x1 .f32) (b : Fin 7) (s : Fin 256) (l : Fin 2048) :
    vvF dh sc (ix3 b s l)
      = min (Ideal.ofBits .f32 1197473792#32) (max (Ideal.ofBits .f32 3344957440#32) (Ideal.div (dh (ix3 b s l)) (sc (ix3 b s 0)))) := by
  unfold vvF
  dsimp only
  pointwise

end Cert.LnReferenceIdeal.Ref

end
-- ==== Proof.LnReal.lean ====
/-
  The layer norm's backward pass over the reals, for one sentence: as the reference computes it, token by token, and as the
  kernel computes it, from one row shared by the tokens; and that the two agree.  Then the same operations over the extended
  reals, on finite arguments.
-/
module

public import proofs.«01_k».proof.Defs

@[expose] public section

noncomputable section

namespace Cert.LnReal

open Idealize.ShloMosaic

section
variable (X : Fin 256 → Fin 2048 → ℝ) (ga be G : Fin 2048 → ℝ) (M : Fin 256 → ℝ) (N E : ℝ)

/-- The centred activations. -/
def xc (s : Fin 256) (l : Fin 2048) : ℝ := X s l - (∑ k, X s k) / 2048
/-- One over the root of the mean square plus epsilon. -/
def rr (s : Fin 256) : ℝ := (√((∑ k, xc X s k * xc X s k) / 2048 + E))⁻¹
/-- The normalised activations. -/
def xh (s : Fin 256) (l : Fin 2048) : ℝ := xc X s l * rr X E s
/-- The pooled sentence. -/
def po (l : Fin 2048) : ℝ := (∑ s, M s * (xh X E s l * ga l + be l)) / N
/-- Its norm. -/
def nn : ℝ := √(∑ k, po X ga be M N E k * po X ga be M N E k)
/-- The gradient of the pooled sentence, over the length. -/
def dr (l : Fin 2048) : ℝ :=
  (G l - po X ga be M N E l / nn X ga be M N E * ∑ k, po X ga be M N E k / nn X ga be M N E * G k) / nn X ga be M N E / N
/-- The gradient of a scaled and shifted token. -/
def dy (s : Fin 256) (l : Fin 2048) : ℝ := M s * dr X ga be G M N E l
/-- The gradient of a normalised token. -/
def dx (s : Fin 256) (l : Fin 2048) : ℝ := dy X ga be G M N E s l * ga l
/-- The gradient of the activations. -/
def dh (s : Fin 256) (l : Fin 2048) : ℝ :=
  rr X E s * (dx X ga be G M N E s l - (∑ k, dx X ga be G M N E s k) / 2048
    - xh X E s l * ((∑ k, dx X ga be G M N E s k * xh X E s k) / 2048))

/-- The kernel's weighted sum of the centred tokens. -/
def kP (l : Fin 2048) : ℝ := ∑ s, xc X s l * (rr X E s * M s)
/-- The kernel's pooled sentence. -/
def kpo (l : Fin 2048) : ℝ := (ga l * kP X M E l + be l * ∑ s, M s) / N
/-- The kernel's shared row, centred. -/
def kcent (l : Fin 2048) : ℝ := dr X ga be G M N E l * ga l - (∑ k, dr X ga be G M N E k * ga k) / 2048
/-- The kernel's product of the row with a token. -/
def kcorr (s : Fin 256) : ℝ := ∑ k, kcent X ga be G M N E k * xc X s k
/-- The kernel's gradient of the activations. -/
def kdh (s : Fin 256) (l : Fin 2048) : ℝ :=
  rr X E s * M s * (kcent X ga be G M N E l - xc X s l * (kcorr X ga be G M N E s / 2048 * rr X E s * rr X E s))

theorem kpo_eq (l : Fin 2048) : kpo X ga be M N E l = po X ga be M N E l := by
  unfold kpo po kP xh
  refine congrArg (· / N) ?_
  rw [Finset.mul_sum, Finset.mul_sum, ← Finset.sum_add_distrib]
  exact Finset.sum_congr rfl fun s _ => by ring

theorem gain_eq (l : Fin 2048) :
    dr X ga be G M N E l * kP X M E l = ∑ s, dy X ga be G M N E s l * xh X E s l := by
  unfold kP dy xh
  rw [Finset.mul_sum]
  exact Finset.sum_congr rfl fun s _ => by ring

theorem shift_eq (l : Fin 2048) :
    dr X ga be G M N E l * ∑ s, M s = ∑ s, dy X ga be G M N E s l := by
  unfold dy
  rw [Finset.mul_sum]
  exact Finset.sum_congr rfl fun s _ => by ring

/-- A centred token sums to zero. -/
theorem xc_sum (s : Fin 256) : ∑ k, xc X s k = 0 := by
  unfold xc
  rw [Finset.sum_sub_distrib, Finset.sum_const, Finset.card_univ, Fintype.card_fin, nsmul_eq_mul]
  push_cast
  ring

theorem kcorr_eq (s : Fin 256) :
    kcorr X ga be G M N E s = ∑ k, dr X ga be G M N E k * ga k * xc X s k := by
  unfold kcorr kcent
  simp only [sub_mul, Finset.sum_sub_distrib]
  rw [← Finset.mul_sum, xc_sum, mul_zero, sub_zero]

theorem kdh_eq (s : Fin 256) (l : Fin 2048) : kdh X ga be G M N E s l = dh X ga be G M N E s l := by
  have e1 : ∑ k, dx X ga be G M N E s k = M s * ∑ k, dr X ga be G M N E k * ga k := by
    unfold dx dy
    rw [Finset.mul_sum]
    exact Finset.sum_congr rfl fun k _ => by ring
  have e2 : ∑ k, dx X ga be G M N E s k * xh X E s k = M s * rr X E s * ∑ k, dr X ga be G M N E k * ga k * xc X s k := by
    unfold dx dy xh
    rw [Finset.mul_sum]
    exact Finset.sum_congr rfl fun k _ => by ring
  unfold kdh dh
  rw [kcorr_eq, e1, e2]
  unfold kcent dx dy xh
  ring

theorem rr_arg_pos (hE : 0 < E) (s : Fin 256) : 0 < (∑ k, xc X s k * xc X s k) / 2048 + E := by
  have : 0 ≤ ∑ k, xc X s k * xc X s k := Finset.sum_nonneg fun k _ => mul_self_nonneg _
  positivity

end

/-! ## Over the extended reals -/

/-- One for a token of the sentence, zero for padding, and the sentence's length: as reals. -/
def Mr (v : BitVec 32) (s : Fin 256) : ℝ := ((IntOp.cmpi .slt (BitVec.ofNat 32 s.val) v).toNat : ℝ)
def Nr (v : BitVec 32) : ℝ := (v.toInt : ℝ)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_co (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sqrt_co (x : ℝ) (h : 0 ≤ x) : Ideal.sqrt (x : EReal) = ((√x : ℝ) : EReal) := by
  show (if x < 0 then (⊥ : EReal) else (Real.sqrt x : EReal)) = _
  rw [if_neg (not_lt.mpr h)]

theorem rsqrt_co (x : ℝ) (h : 0 < x) : Ideal.rsqrt (x : EReal) = (((√x)⁻¹ : ℝ) : EReal) := by
  show (if x < 0 then (⊥ : EReal) else if x = 0 then (⊤ : EReal) else (((Real.sqrt x)⁻¹ : ℝ) : EReal)) = _
  rw [if_neg (not_lt.mpr h.le), if_neg h.ne']

/-- The width. -/
theorem cW_eq : Ideal.ofBits .f32 1157627904#32 = ((2048 : ℝ) : EReal) := by
  simp [Ideal.ofBits, Ideal.ieee]
  rw [← EReal.coe_mul]
  norm_num [zpow_neg]

/-- Epsilon is a positive real. -/
theorem cE_eq : ∃ E : ℝ, 0 < E ∧ Ideal.ofBits .f32 925353388#32 = (E : EReal) := by
  refine ⟨10995116 * 2 ^ (-40 : ℤ), by positivity, ?_⟩
  simp [Ideal.ofBits, Ideal.ieee]

/-- The reciprocal of the largest code. -/
theorem cC_eq : ∃ C : ℝ, 0 < C ∧ C ≤ 2 ^ (-15 : ℤ) ∧ Ideal.ofBits .f32 932333861#32 = (C : EReal) := by
  refine ⟨9586981 * 2 ^ (-39 : ℤ), by positivity, by norm_num [zpow_neg], ?_⟩
  simp [Ideal.ofBits, Ideal.ieee]

end Cert.LnReal

end
-- ==== Proof.LnLiftRef.lean ====
/-
  The reference's arrays at finite arguments: every element is the real number the mathematics says.
-/
module

public import proofs.«01_k».proof.Proof.LnRefAt
public import proofs.«01_k».proof.Proof.LnReal

@[expose] public section

set_option maxRecDepth 16384

noncomputable section

namespace Cert.LnLift

open Idealize.ShloMosaic Cert.LnReferenceIdeal Cert.LnReferenceIdeal.Ref Cert.LnReal

variable (x : FVec Ideal S7x256x2048 .bf16) (ga be : FVec Ideal S2048 .f32) (ln : IVec S7 32) (g : FVec Ideal S7x2048 .f32)
variable (b : Fin 7) (X : Fin 256 → Fin 2048 → ℝ) (Ga Be G : Fin 2048 → ℝ) (E : ℝ)

/-- What is assumed of one sentence: its inputs are these reals, its length is not zero, its pooled vector is not zero. -/
structure Sent : Prop where
  hx : ∀ s l, x (ix3 b s l) = (X s l : EReal)
  hga : ∀ l, ga (ix1 l) = (Ga l : EReal)
  hbe : ∀ l, be (ix1 l) = (Be l : EReal)
  hg : ∀ l, g (ix2 b l) = (G l : EReal)
  hN : Nr (ln (ix1 b)) ≠ 0
  hn : nn X Ga Be (Mr (ln (ix1 b))) (Nr (ln (ix1 b))) E ≠ 0
  hE : 0 < E
  hEv : Ideal.ofBits .f32 925353388#32 = (E : EReal)

variable {x ga be ln g b X Ga Be G E}

theorem xc_r (hx : ∀ s l, x (ix3 b s l) = (X s l : EReal)) (s : Fin 256) (l : Fin 2048) : xcF x (ix3 b s l) = (xc X s l : EReal) := by
  rw [xcF_at]
  simp only [hx, coe_sum, cW_eq]
  rw [div_co _ _ (by norm_num), ← EReal.coe_sub]
  rfl

theorem rr_r (hx : ∀ s l, x (ix3 b s l) = (X s l : EReal)) (hE : 0 < E) (hEv : Ideal.ofBits .f32 925353388#32 = (E : EReal)) (s : Fin 256) :
    rA x (ix3 b s 0) = (rr X E s : EReal) := by
  refine (rF_at _ b s).trans ?_
  simp only [xc_r hx, ← EReal.coe_mul, coe_sum, cW_eq, hEv]
  rw [div_co _ _ (by norm_num), ← EReal.coe_add, rsqrt_co _ (rr_arg_pos X E hE s)]
  rfl

theorem xh_r (hx : ∀ s l, x (ix3 b s l) = (X s l : EReal)) (hE : 0 < E) (hEv : Ideal.ofBits .f32 925353388#32 = (E : EReal)) (s : Fin 256) (l : Fin 2048) :
    xhA x (ix3 b s l) = (xh X E s l : EReal) := by
  refine (xhF_at _ _ b s l).trans ?_
  simp only [xc_r hx, rr_r hx hE hEv, ← EReal.coe_mul]
  rfl

theorem mk_r (ln : IVec S7 32) (b : Fin 7) (s : Fin 256) : mkF (F := Ideal) ln (ix2 b s) = (Mr (ln (ix1 b)) s : EReal) := mkF_at ln b s

theorem le_r (ln : IVec S7 32) (b : Fin 7) : leF (F := Ideal) ln (ix2 b 0) = (Nr (ln (ix1 b)) : EReal) := leF_at ln b

theorem po_r (hx : ∀ s l, x (ix3 b s l) = (X s l : EReal)) (hga : ∀ l, ga (ix1 l) = (Ga l : EReal)) (hbe : ∀ l, be (ix1 l) = (Be l : EReal))
    (hN : Nr (ln (ix1 b)) ≠ 0) (hE : 0 < E) (hEv : Ideal.ofBits .f32 925353388#32 = (E : EReal)) (l : Fin 2048) :
    poA x ga be ln (ix2 b l) = (po X Ga Be (Mr (ln (ix1 b))) (Nr (ln (ix1 b))) E l : EReal) := by
  refine (poF_at _ _ _ _ _ b l).trans ?_
  simp only [xh_r hx hE hEv, mk_r, le_r, hga, hbe, ← EReal.coe_mul, ← EReal.coe_add, coe_sum]
  rw [div_co _ _ hN]
  rfl

theorem nn_r (hx : ∀ s l, x (ix3 b s l) = (X s l : EReal)) (hga : ∀ l, ga (ix1 l) = (Ga l : EReal)) (hbe : ∀ l, be (ix1 l) = (Be l : EReal))
    (hN : Nr (ln (ix1 b)) ≠ 0) (hE : 0 < E) (hEv : Ideal.ofBits .f32 925353388#32 = (E : EReal)) :
    nnA x ga be ln (ix2 b 0) = (nn X Ga Be (Mr (ln (ix1 b))) (Nr (ln (ix1 b))) E : EReal) := by
  refine (nnF_at _ b).trans ?_
  simp only [po_r hx hga hbe hN hE hEv, ← EReal.coe_mul, coe_sum]
  rw [sqrt_co _ (Finset.sum_nonneg fun k _ => mul_self_nonneg _)]
  rfl

variable (H : Sent x ga be ln g b X Ga Be G E)
include H

theorem dr_r (l : Fin 2048) :
    Ideal.div (dpA x ga be ln g (ix2 b l)) (leF (F := Ideal) ln (ix2 b 0)) = (dr X Ga Be G (Mr (ln (ix1 b))) (Nr (ln (ix1 b))) E l : EReal) := by
  refine (congrArg (fun y => Ideal.div y (leF (F := Ideal) ln (ix2 b 0))) (dpF_at _ _ _ b l)).trans ?_
  simp only [po_r H.hx H.hga H.hbe H.hN H.hE H.hEv, nn_r H.hx H.hga H.hbe H.hN H.hE H.hEv, le_r, H.hg, div_co _ _ H.hn, ← EReal.coe_mul, coe_sum,
    ← EReal.coe_sub]
  rw [div_co _ _ H.hN]
  rfl

theorem dy_r (s : Fin 256) (l : Fin 2048) :
    dyA x ga be ln g (ix3 b s l) = (dy X Ga Be G (Mr (ln (ix1 b))) (Nr (ln (ix1 b))) E s l : EReal) := by
  refine (dyF_at _ _ _ b s l).trans ?_
  simp only [dr_r H, mk_r, ← EReal.coe_mul]
  rfl

theorem dx_r (s : Fin 256) (l : Fin 2048) :
    dxA x ga be ln g (ix3 b s l) = (dx X Ga Be G (Mr (ln (ix1 b))) (Nr (ln (ix1 b))) E s l : EReal) := by
  refine (dxF_at _ _ b s l).trans ?_
  simp only [dy_r H, H.hga, ← EReal.coe_mul]
  rfl

theorem dh_r (s : Fin 256) (l : Fin 2048) :
    dhA x ga be ln g (ix3 b s l) = (dh X Ga Be G (Mr (ln (ix1 b))) (Nr (ln (ix1 b))) E s l : EReal) := by
  refine (dhF_at _ _ _ b s l).trans ?_
  simp only [dx_r H, rr_r H.hx H.hE H.hEv, xh_r H.hx H.hE H.hEv, cW_eq, ← EReal.coe_mul, coe_sum, div_co _ _ (by norm_num : (2048 : ℝ) ≠ 0), ← EReal.coe_sub]
  rfl

end Cert.LnLift

end
-- ==== Proof.LnPay.lean ====
/-
  The layer-norm kernel's payloads at an index, over the extended reals.
-/
module

public import proofs.«01_k».proof.Proof.LnBody

@[expose] public section

set_option maxRecDepth 16384

noncomputable section

namespace Cert.LnIdeal.Pay

open Cert.LnIdeal Cert.LnIdeal.Gen Idealize.ShloMosaic Idealize.ShloMosaic.TcCoe

variable (x : Vec Ideal S1x256x2048 .bf16) (v : Elt Ideal .i32) (l : Fin 2048) (s : Fin 256) (ga be : Vec Ideal S1x2048 .f32)
variable (g : Vec Ideal S1x1x2048 .f32) (v25 v29 v34 v41 acc : FVec Ideal S1x2048 .f32) (v27 : FVec Ideal S1x1 .f32)
variable (xc : FVec Ideal S256x2048 .f32) (r mk corr : FVec Ideal S256x1 .f32) (v43 : FVec Ideal S1 .f32)

/-- The width and the reciprocal of the largest code, as the program writes them. -/
abbrev cW : EReal := Ideal.ofBits .f32 1157627904#32
abbrev cE : EReal := Ideal.ofBits .f32 925353388#32
abbrev cC : EReal := Ideal.ofBits .f32 932333861#32

theorem p3 : k0_pay3 x (ix2 s l) = x (ix3 0 s l) - Ideal.div (∑ k, x (ix3 0 s k)) cW := by pointwise [k0_pay3]

theorem p4 : k0_pay4 x (ix2 s 0)
    = Ideal.rsqrt (Ideal.div (∑ k, k0_pay3 x (ix2 s k) * k0_pay3 x (ix2 s k)) cW + cE) := by pointwise [k0_pay4]

theorem p5 : k0_pay5 (F := Ideal) v (ix2 s 0)
    = FloatOps.sitofp (F := Ideal) .f32 (BitVec.setWidth 32 (IntOp.cmpi .slt (BitVec.ofNat 32 s.val) v)) := by pointwise [k0_pay5]

theorem p6 : k0_pay6 (F := Ideal) v (ix2 0 l) = FloatOps.sitofp (F := Ideal) .f32 v := by pointwise [k0_pay6]

theorem p7 : k0_pay7 (F := Ideal) v (ix2 0 0) = ∑ s, k0_pay5 (F := Ideal) v (ix2 s 0) := by pointwise [k0_pay7]

theorem p8 : k0_pay8 ga (ix2 0 l) = ga (ix2 0 l) := by pointwise [k0_pay8]

theorem p9 : k0_pay9 v x (ix2 0 l)
    = ∑ s, k0_pay3 x (ix2 s l) * (k0_pay4 x (ix2 s 0) * k0_pay5 v (ix2 s 0)) := by pointwise [k0_pay9]

theorem p10 : k0_pay10 v x ga be (ix2 0 l)
    = Ideal.div (k0_pay8 ga (ix2 0 l) * k0_pay9 v x (ix2 0 l) + be (ix2 0 l) * k0_pay7 v (ix2 0 0)) (k0_pay6 v (ix2 0 l)) := by
  pointwise [k0_pay10]

theorem p11 : k0_pay11 v x ga be (ix1 0)
    = ∑ k, k0_pay10 v x ga be (ix2 0 k) * k0_pay10 v x ga be (ix2 0 k) := by pointwise [k0_pay11]

theorem p12 : k0_pay12 v25 v41 v43 g (ix2 0 l)
    = Ideal.div (Ideal.div (g (ix3 0 0 l) - Ideal.div (v41 (ix2 0 l)) (Ideal.sqrt (v43 (ix1 0)))
        * ∑ k, Ideal.div (v41 (ix2 0 k)) (Ideal.sqrt (v43 (ix1 0))) * g (ix3 0 0 k)) (Ideal.sqrt (v43 (ix1 0)))) (v25 (ix2 0 l)) := by
  pointwise [k0_pay12]

theorem p13 : k0_pay13 (F := Ideal) (ix2 0 l) = 0 := by pointwise [k0_pay13]

theorem p14 : k0_pay14 (F := Ideal) (ix2 0 l) = 0 := by pointwise [k0_pay14]

theorem p15 : k0_pay15 v25 v34 v41 v43 g acc (ix2 0 l)
    = acc (ix2 0 l) + k0_pay12 v25 v41 v43 g (ix2 0 l) * v34 (ix2 0 l) := by pointwise [k0_pay15]

theorem p16 : k0_pay16 v25 v27 v41 v43 g acc (ix2 0 l)
    = acc (ix2 0 l) + k0_pay12 v25 v41 v43 g (ix2 0 l) * v27 (ix2 0 0) := by pointwise [k0_pay16]

theorem p17 : k0_pay17 v25 v29 v41 v43 g (ix2 0 l)
    = k0_pay12 v25 v41 v43 g (ix2 0 l) * v29 (ix2 0 l)
      - Ideal.div (∑ k, k0_pay12 v25 v41 v43 g (ix2 0 k) * v29 (ix2 0 k)) cW := by pointwise [k0_pay17]

theorem p18 : k0_pay18 xc v25 v29 v41 v43 g (ix2 s 0)
    = ∑ k, k0_pay17 v25 v29 v41 v43 g (ix2 0 k) * xc (ix2 s k) := by pointwise [k0_pay18]

theorem p19 : k0_pay19 xc r mk v25 corr (ix2 s l)
    = r (ix2 s 0) * mk (ix2 s 0) * (v25 (ix2 0 l) - xc (ix2 s l)
        * (Ideal.div (corr (ix2 s 0)) cW * r (ix2 s 0) * r (ix2 s 0))) := by pointwise [k0_pay19]

theorem p21 : k0_pay21 xc r mk v25 corr (ix2 s 0)
    = Ideal.ofBits .f32 (IntOp.shli ArithUnit.vector (IntOp.addi (k0_pay20 xc r mk v25 corr (ix2 s 0)) 127#32) 23#32) := by
  pointwise [k0_pay21]

theorem p22 : k0_pay22 xc r mk v25 corr (ix2 s l)
    = k0_pay19 xc r mk v25 corr (ix2 s l)
      * Ideal.ofBits .f32 (IntOp.shli ArithUnit.vector (IntOp.subi 127#32 (k0_pay20 xc r mk v25 corr (ix2 s 0))) 23#32) := by
  pointwise [k0_pay22]

theorem p1 (lo hi : Ideal .f32) : k0_pay1 xc lo hi (ix3 0 s l) = min (max (xc (ix2 s l)) lo) hi := by pointwise [k0_pay1]

theorem p2 : k0_pay2 r (ix3 0 s 0) = r (ix2 s 0) := by pointwise [k0_pay2]

end Cert.LnIdeal.Pay

end
-- ==== Proof.LnLiftKer.lean ====
/-
  The kernel's values at finite arguments: every element is the real number the mathematics says.
-/
module

public import proofs.«01_k».proof.Proof.LnPay
public import proofs.«01_k».proof.Proof.LnReal

@[expose] public section

set_option maxRecDepth 16384

noncomputable section

namespace Cert.LnLiftK

open Idealize.ShloMosaic Cert.LnIdeal Cert.LnIdeal.Gen Cert.LnIdeal.Pay Cert.LnReal

variable {x : Vec Ideal S1x256x2048 .bf16} {v : BitVec 32} {ga be : Vec Ideal S1x2048 .f32} {g : Vec Ideal S1x1x2048 .f32}
variable {X : Fin 256 → Fin 2048 → ℝ} {Ga Be G : Fin 2048 → ℝ} {E : ℝ}

variable (x v ga be g X Ga Be G E) in
/-- What is assumed of one sentence: its inputs are these reals, its length is not zero, its pooled vector is not zero. -/
structure Sent : Prop where
  hx : ∀ s l, x (ix3 0 s l) = (X s l : EReal)
  hga : ∀ l, ga (ix2 0 l) = (Ga l : EReal)
  hbe : ∀ l, be (ix2 0 l) = (Be l : EReal)
  hg : ∀ l, g (ix3 0 0 l) = (G l : EReal)
  hN : Nr v ≠ 0
  hn : nn X Ga Be (Mr v) (Nr v) E ≠ 0
  hE : 0 < E
  hEv : Ideal.ofBits .f32 925353388#32 = (E : EReal)

theorem bit (w : BitVec 1) : (((BitVec.setWidth 32 w).toInt : ℤ) : ℝ) = (w.toNat : ℝ) := by
  have h : ∀ w : BitVec 1, (BitVec.setWidth 32 w).toInt = (w.toNat : ℤ) := by decide
  rw [h w]
  push_cast
  rfl

theorem mk_k (v : BitVec 32) (s : Fin 256) : k0_pay5 (F := Ideal) v (ix2 s 0) = (Mr v s : EReal) :=
  (p5 v s).trans (congrArg (fun r : ℝ => (r : EReal)) (bit _))

theorem le_k (v : BitVec 32) (l : Fin 2048) : k0_pay6 (F := Ideal) v (ix2 0 l) = (Nr v : EReal) := p6 v l

theorem M_k (v : BitVec 32) : k0_pay7 (F := Ideal) v (ix2 0 0) = ((∑ s, Mr v s : ℝ) : EReal) := by
  rw [p7]
  simp only [mk_k, coe_sum]

variable (H : Sent x v ga be g X Ga Be G E)
include H

theorem xc_k (s : Fin 256) (l : Fin 2048) : k0_pay3 x (ix2 s l) = (xc X s l : EReal) := by
  rw [p3]
  simp only [H.hx, coe_sum, cW_eq]
  rw [div_co _ _ (by norm_num), ← EReal.coe_sub]
  rfl

theorem rr_k (s : Fin 256) : k0_pay4 x (ix2 s 0) = (rr X E s : EReal) := by
  rw [p4]
  simp only [xc_k H, ← EReal.coe_mul, coe_sum, cW_eq, H.hEv]
  rw [div_co _ _ (by norm_num), ← EReal.coe_add, rsqrt_co _ (rr_arg_pos X E H.hE s)]
  rfl

theorem P_k (l : Fin 2048) : k0_pay9 v x (ix2 0 l) = (kP X (Mr v) E l : EReal) := by
  rw [p9]
  simp only [xc_k H, rr_k H, mk_k, ← EReal.coe_mul, coe_sum]
  rfl

theorem po_k (l : Fin 2048) : k0_pay10 v x ga be (ix2 0 l) = (po X Ga Be (Mr v) (Nr v) E l : EReal) := by
  rw [p10, p8]
  simp only [P_k H, le_k, M_k, H.hga, H.hbe, ← EReal.coe_mul, ← EReal.coe_add]
  rw [div_co _ _ H.hN, ← kpo_eq]
  rfl

theorem nn_k : Ideal.sqrt (k0_pay11 v x ga be (ix1 0)) = (nn X Ga Be (Mr v) (Nr v) E : EReal) := by
  rw [p11]
  simp only [po_k H, ← EReal.coe_mul, coe_sum]
  rw [sqrt_co _ (Finset.sum_nonneg fun k _ => mul_self_nonneg _)]
  rfl

theorem dr_k (l : Fin 2048) : Body.dy v x ga be g (ix2 0 l) = (dr X Ga Be G (Mr v) (Nr v) E l : EReal) := by
  refine (p12 l g _ _ _).trans ?_
  simp only [po_k H, nn_k H, le_k, H.hg, div_co _ _ H.hn, ← EReal.coe_mul, coe_sum, ← EReal.coe_sub]
  rw [div_co _ _ H.hN]
  rfl

theorem cent_k (l : Fin 2048) : Body.cent v x ga be g (ix2 0 l) = (kcent X Ga Be G (Mr v) (Nr v) E l : EReal) := by
  refine (p17 l g _ _ _ _).trans ?_
  simp only [dr_k H, p8, H.hga, cW_eq, ← EReal.coe_mul, coe_sum, div_co _ _ (by norm_num : (2048 : ℝ) ≠ 0), ← EReal.coe_sub]
  rfl

theorem corr_k (s : Fin 256) : Body.corr v x ga be g (ix2 s 0) = (kcorr X Ga Be G (Mr v) (Nr v) E s : EReal) := by
  refine (p18 s g _ _ _ _ _).trans ?_
  simp only [cent_k H, xc_k H, ← EReal.coe_mul, coe_sum]
  rfl

/-- The gradient of the activations. -/
theorem dh_k (s : Fin 256) (l : Fin 2048) :
    k0_pay19 (k0_pay3 x) (k0_pay4 x) (k0_pay5 v) (Body.cent v x ga be g) (Body.corr v x ga be g) (ix2 s l)
      = (dh X Ga Be G (Mr v) (Nr v) E s l : EReal) := by
  refine (p19 l s _ _ _ _ _).trans ?_
  simp only [rr_k H, mk_k, cent_k H, corr_k H, xc_k H, cW_eq, div_co _ _ (by norm_num : (2048 : ℝ) ≠ 0), ← EReal.coe_mul, ← EReal.coe_sub]
  rw [← kdh_eq]
  rfl

/-- One sentence's share of the gain's gradient. -/
theorem gain_k (acc : Vec Ideal S1x2048 .f32) (l : Fin 2048) :
    Body.gainB v x ga be g acc (ix2 0 l)
      = acc (ix2 0 l) + ((∑ s, dy X Ga Be G (Mr v) (Nr v) E s l * xh X E s l : ℝ) : EReal) := by
  refine (p15 l g _ _ _ acc _).trans ?_
  refine congrArg (acc (ix2 0 l) + ·) ?_
  refine (congrArg₂ (fun a b : EReal => a * b) (dr_k H l) (P_k H l)).trans ?_
  rw [← EReal.coe_mul, gain_eq]

/-- One sentence's share of the shift's gradient. -/
theorem shift_k (acc : Vec Ideal S1x2048 .f32) (l : Fin 2048) :
    Body.shiftB v x ga be g acc (ix2 0 l)
      = acc (ix2 0 l) + ((∑ s, dy X Ga Be G (Mr v) (Nr v) E s l : ℝ) : EReal) := by
  refine (p16 l g _ _ acc _ _).trans ?_
  refine congrArg (acc (ix2 0 l) + ·) ?_
  refine (congrArg₂ (fun a b : EReal => a * b) (dr_k H l) (M_k v)).trans ?_
  rw [← EReal.coe_mul, shift_eq]

end Cert.LnLiftK

end
-- ==== Proof.LnEnds.lean ====
/-
  The layer norm's two ends meet: on arguments in the precondition's domain the kernel's four arrays are the reference's.
-/
module

public import proofs.«01_k».proof.Proof.LnKernel
public import proofs.«01_k».proof.Proof.LnPre
public import proofs.«01_k».proof.Proof.LnPayK
public import proofs.«01_k».proof.Proof.LnLiftRef
public import proofs.«01_k».proof.Proof.LnLiftKer

@[expose] public section

set_option maxRecDepth 16384

noncomputable section

namespace Cert.LnEnds

open Idealize.ShloMosaic Cert.LnReferenceIdeal Cert.LnReferenceIdeal.Ref Cert.LnReal Cert.LnIdeal.Pay Cert.LnIdeal.Gen

theorem eq2 {n m : ℕ} (i : (⟨2, ![n, m]⟩ : Shape).Idx) : i = ix2 (i 0) (i 1) := by
  funext a
  match a with
  | ⟨0, _⟩ => rfl
  | ⟨1, _⟩ => rfl

theorem eq3 {n m k : ℕ} (i : (⟨3, ![n, m, k]⟩ : Shape).Idx) : i = ix3 (i 0) (i 1) (i 2) := by
  funext a
  match a with
  | ⟨0, _⟩ => rfl
  | ⟨1, _⟩ => rfl
  | ⟨2, _⟩ => rfl

/-! ## The magnitude's bounds -/

theorem bot_eq : Ideal.ofBits .f32 4286578688#32 = ⊥ := by simp [Ideal.ofBits, Ideal.ieee]

theorem abs_nonneg (a : EReal) : 0 ≤ max a (-a) := by
  rcases le_total 0 a with h | h
  · exact le_max_of_le_left h
  · exact le_max_of_le_right (by simpa using EReal.neg_le_neg_iff.mpr h)

/-- The largest magnitude over the largest code, of magnitudes within the floats' range. -/
theorem t_bounds (f : Fin 2048 → EReal) (h0 : ∀ k, 0 ≤ f k) (h1 : ∀ k, f k ≤ Ideal.ofBits .f32 0x7F7FFFFF#32) :
    0 ≤ Finset.univ.fold max (Ideal.ofBits .f32 4286578688#32) f * Ideal.ofBits .f32 932333861#32
      ∧ Finset.univ.fold max (Ideal.ofBits .f32 4286578688#32) f * Ideal.ofBits .f32 932333861#32 < Cert.LnScale.pw 240 := by
  obtain ⟨C, hC0, hC1, hC⟩ := cC_eq
  obtain ⟨r, hr, hre⟩ := Cert.LnPre.max_eq
  have a0 : 0 ≤ Finset.univ.fold max (Ideal.ofBits .f32 4286578688#32) f :=
    (Finset.le_fold_max _).mpr (Or.inr ⟨0, Finset.mem_univ _, h0 0⟩)
  have a1 : Finset.univ.fold max (Ideal.ofBits .f32 4286578688#32) f ≤ (r : EReal) :=
    (Finset.fold_max_le _).mpr ⟨by rw [bot_eq]; exact bot_le, fun k _ => hre ▸ h1 k⟩
  generalize Finset.univ.fold max (Ideal.ofBits .f32 4286578688#32) f = F at a0 a1
  have hF : F = ((F.toReal : ℝ) : EReal) := (EReal.coe_toReal (ne_top_of_le_ne_top (EReal.coe_ne_top r) a1)
    (ne_bot_of_le_ne_bot EReal.zero_ne_bot a0)).symm
  rw [hF] at a0 a1 ⊢
  have b0 : 0 ≤ F.toReal := EReal.coe_nonneg.mp a0
  have b1 : F.toReal ≤ r := EReal.coe_le_coe_iff.mp a1
  rw [hC, ← EReal.coe_mul, Cert.LnScale.pw_mid 240 (by norm_num) (by norm_num)]
  refine ⟨EReal.coe_nonneg.mpr (mul_nonneg b0 hC0.le), EReal.coe_lt_coe_iff.mpr ?_⟩
  calc F.toReal * C ≤ r * C := mul_le_mul_of_nonneg_right b1 hC0.le
    _ < 2 ^ (128 : ℤ) * C := mul_lt_mul_of_pos_right hr hC0
    _ ≤ 2 ^ (128 : ℤ) * 2 ^ (-15 : ℤ) := mul_le_mul_of_nonneg_left hC1 (by positivity)
    _ = 2 ^ (((240 : ℕ) : ℤ) - 127) := by rw [← zpow_add₀ (by norm_num)]; norm_num

/-! ## One sentence -/

section
variable (x : FVec Ideal S7x256x2048 .bf16) (ga be : FVec Ideal S2048 .f32) (ln : IVec S7 32) (g : FVec Ideal S7x2048 .f32)
variable (ka kb : Vec Ideal Cert.LnIdeal.S1x2048 .f32) (kg : Vec Ideal Cert.LnIdeal.S7x1x2048 .f32)

/-- The kernel's arguments are the reference's, one axis more. -/
structure Args : Prop where
  ga : ∀ l, ka (ix2 0 l) = ga (ix1 l)
  be : ∀ l, kb (ix2 0 l) = be (ix1 l)
  g : ∀ b l, kg (ix3 b 0 l) = g (ix2 b l)

variable [Cert.Pre_in_domain.Facts] (D : Cert.LnPre.Dom x ga be ln g) (A : Args ga be g ka kb kg)
include D A

theorem sent (b : Fin 7) : ∃ (X : Fin 256 → Fin 2048 → ℝ) (Ga Be G : Fin 2048 → ℝ) (E : ℝ), Cert.LnLift.Sent x ga be ln g b X Ga Be G E
    ∧ Cert.LnLiftK.Sent (Cert.LnIdeal.Run.xB x b) (ln (ix1 b)) ka kb (Cert.LnIdeal.Run.gB kg b) X Ga Be G E := by
  obtain ⟨E, hE, hEv⟩ := cE_eq
  choose X hX using D.x_fin
  choose Ga hGa using D.ga_fin
  choose Be hBe using D.be_fin
  choose G hG using D.g_fin
  have hx : ∀ s l, x (ix3 b s l) = (((fun s l => X (ix3 b s l)) s l : ℝ) : EReal) := fun s l => hX _
  have hga : ∀ l, ga (ix1 l) = (((fun l => Ga (ix1 l)) l : ℝ) : EReal) := fun l => hGa _
  have hbe : ∀ l, be (ix1 l) = (((fun l => Be (ix1 l)) l : ℝ) : EReal) := fun l => hBe _
  have hg : ∀ l, g (ix2 b l) = (((fun l => G (ix2 b l)) l : ℝ) : EReal) := fun l => hG _
  have hN : Nr (ln (ix1 b)) ≠ 0 := by
    have := D.ln_pos (ix1 b)
    unfold Nr
    exact Int.cast_ne_zero.mpr (by omega)
  have hn : nn (fun s l => X (ix3 b s l)) (fun l => Ga (ix1 l)) (fun l => Be (ix1 l)) (Mr (ln (ix1 b))) (Nr (ln (ix1 b))) E ≠ 0 := by
    have h := D.nn_pos (ix2 b 0)
    rw [Cert.LnLift.nn_r hx hga hbe hN hE hEv] at h
    exact (EReal.coe_pos.mp h).ne'
  exact ⟨_, _, _, _, E, ⟨hx, hga, hbe, hg, hN, hn, hE, hEv⟩,
    ⟨hx, fun l => (A.ga l).trans (hga l), fun l => (A.be l).trans (hbe l), fun l => (A.g b l).trans (hg l), hN, hn, hE, hEv⟩⟩

/-- The two gradients of the activations are equal. -/
theorem dh_eq (b : Fin 7) (s : Fin 256) (l : Fin 2048) :
    k0_pay19 (k0_pay3 (Cert.LnIdeal.Run.xB x b)) (k0_pay4 (Cert.LnIdeal.Run.xB x b)) (k0_pay5 (ln (ix1 b)))
      (Cert.LnIdeal.Body.cent (ln (ix1 b)) (Cert.LnIdeal.Run.xB x b) ka kb (Cert.LnIdeal.Run.gB kg b))
      (Cert.LnIdeal.Body.corr (ln (ix1 b)) (Cert.LnIdeal.Run.xB x b) ka kb (Cert.LnIdeal.Run.gB kg b)) (ix2 s l)
    = dhA x ga be ln g (ix3 b s l) := by
  obtain ⟨X, Ga, Be, G, E, HR, HK⟩ := sent x ga be ln g ka kb kg D A b
  exact (Cert.LnLiftK.dh_k HK s l).trans (Cert.LnLift.dh_r HR s l).symm

/-- The token's magnitude, as the kernel and as the reference have it. -/
theorem t_eq (b : Fin 7) (s : Fin 256) :
    Finset.univ.fold max (Ideal.ofBits .f32 4286578688#32) (fun k : Fin 2048 => (FloatOps.absf
      (k0_pay19 (k0_pay3 (Cert.LnIdeal.Run.xB x b)) (k0_pay4 (Cert.LnIdeal.Run.xB x b)) (k0_pay5 (ln (ix1 b)))
        (Cert.LnIdeal.Body.cent (ln (ix1 b)) (Cert.LnIdeal.Run.xB x b) ka kb (Cert.LnIdeal.Run.gB kg b))
        (Cert.LnIdeal.Body.corr (ln (ix1 b)) (Cert.LnIdeal.Run.xB x b) ka kb (Cert.LnIdeal.Run.gB kg b)) (ix2 s k)) : EReal))
      * Ideal.ofBits .f32 932333861#32
    = tF (dhA x ga be ln g) (ix3 b s 0) := by
  rw [tF_at]
  refine congrArg (· * Ideal.ofBits .f32 932333861#32) (congrArg (Finset.univ.fold max _) (funext fun k => ?_))
  exact congrArg (fun y : EReal => (FloatOps.absf (F := Ideal) (φ := .f32) y : EReal)) (dh_eq x ga be ln g ka kb kg D A b s k)

omit A in
theorem t_dom (b : Fin 7) (s : Fin 256) :
    0 ≤ tF (dhA x ga be ln g) (ix3 b s 0) ∧ tF (dhA x ga be ln g) (ix3 b s 0) < Cert.LnScale.pw 240 := by
  rw [tF_at]
  exact t_bounds _ (fun k => abs_nonneg _) (fun k => D.dh_le _)

omit D A in
theorem sc_at (b : Fin 7) (s : Fin 256) : scA x ga be ln g (ix3 b s 0) = Cert.LnScale.scR (tF (dhA x ga be ln g) (ix3 b s 0)) := by
  refine (scF_at _ _ b s).trans ?_
  simp only [pwF_at]
  rfl

theorem scales_at (b : Fin 7) (s : Fin 256) :
    Cert.LnIdeal.Body.scalesB (ln (ix1 b)) (Cert.LnIdeal.Run.xB x b) ka kb (Cert.LnIdeal.Run.gB kg b) (ix3 0 s 0) = scA x ga be ln g (ix3 b s 0) := by
  obtain ⟨t0, t1⟩ := t_dom x ga be ln g D b s
  refine Eq.trans ?_ ((Cert.LnScale.sc_eq _ t0 t1).trans (sc_at x ga be ln g b s).symm)
  refine (p2 s _).trans ((p21 s _ _ _ _ _).trans ?_)
  rw [p20, ← t_eq x ga be ln g ka kb kg D A b s]
  rfl

theorem codes_at (b : Fin 7) (s : Fin 256) (l : Fin 2048) :
    Cert.LnIdeal.Body.codesB (ln (ix1 b)) (Cert.LnIdeal.Run.xB x b) ka kb (Cert.LnIdeal.Run.gB kg b) (ix3 0 s l) = vvA x ga be ln g (ix3 b s l) := by
  obtain ⟨t0, t1⟩ := t_dom x ga be ln g D b s
  refine Eq.trans ?_ (vvF_at _ _ b s l).symm
  simp only [sc_at]
  rw [← Cert.LnScale.div_sc _ t0 t1, min_comm, max_comm]
  refine (p1 l s _ _ _).trans ?_
  refine congrArg (fun y : EReal => min (max y (Ideal.ofBits .f32 3344957440#32)) (Ideal.ofBits .f32 1197473792#32)) ?_
  refine (p22 l s _ _ _ _ _).trans ?_
  rw [p20, t_eq x ga be ln g ka kb kg D A b s, dh_eq x ga be ln g ka kb kg D A b s l]
  rfl

theorem scales_eq : Cert.LnIdeal.Run.scalesA x ka kb ln kg = scA x ga be ln g := by
  funext i
  obtain ⟨b, s, l, rfl⟩ : ∃ (b : Fin 7) (s : Fin 256) (l : Fin 1), i = ix3 b s l := ⟨i 0, i 1, i 2, eq3 i⟩
  obtain rfl : l = 0 := Subsingleton.elim _ _
  exact scales_at x ga be ln g ka kb kg D A b s

theorem codes_eq : Cert.LnIdeal.Run.codesA x ka kb ln kg = vvA x ga be ln g := by
  funext i
  obtain ⟨b, s, l, rfl⟩ : ∃ (b : Fin 7) (s : Fin 256) (l : Fin 2048), i = ix3 b s l := ⟨i 0, i 1, i 2, eq3 i⟩
  exact codes_at x ga be ln g ka kb kg D A b s l

/-! ## The sums over the sentences -/

theorem gain_step (b : Fin 7) (acc : Vec Ideal Cert.LnIdeal.S1x2048 .f32) (l : Fin 2048) :
    Cert.LnIdeal.Body.gainB (ln (ix1 b)) (Cert.LnIdeal.Run.xB x b) ka kb (Cert.LnIdeal.Run.gB kg b) acc (ix2 0 l)
      = acc (ix2 0 l) + ∑ s, dyA x ga be ln g (ix3 b s l) * xhA x (ix3 b s l) := by
  obtain ⟨X, Ga, Be, G, E, HR, HK⟩ := sent x ga be ln g ka kb kg D A b
  rw [Cert.LnLiftK.gain_k HK]
  simp only [Cert.LnLift.dy_r HR, Cert.LnLift.xh_r HR.hx HR.hE HR.hEv, ← EReal.coe_mul, coe_sum]

theorem shift_step (b : Fin 7) (acc : Vec Ideal Cert.LnIdeal.S1x2048 .f32) (l : Fin 2048) :
    Cert.LnIdeal.Body.shiftB (ln (ix1 b)) (Cert.LnIdeal.Run.xB x b) ka kb (Cert.LnIdeal.Run.gB kg b) acc (ix2 0 l)
      = acc (ix2 0 l) + ∑ s, dyA x ga be ln g (ix3 b s l) := by
  obtain ⟨X, Ga, Be, G, E, HR, HK⟩ := sent x ga be ln g ka kb kg D A b
  rw [Cert.LnLiftK.shift_k HK]
  simp only [Cert.LnLift.dy_r HR, coe_sum]

theorem gain_n (l : Fin 2048) (n : ℕ) : Cert.LnIdeal.Run.gainA x ka kb ln kg n (ix2 0 l)
    = ∑ i ∈ Finset.range (n + 1), ∑ s, dyA x ga be ln g (ix3 (Fin.ofNat 7 i) s l) * xhA x (ix3 (Fin.ofNat 7 i) s l) := by
  induction n with
  | zero =>
    rw [Finset.sum_range_one]
    refine (gain_step x ga be ln g ka kb kg D A 0 _ l).trans ?_
    rw [p13, zero_add]
    rfl
  | succ n ih =>
    rw [Finset.sum_range_succ, ← ih]
    exact gain_step x ga be ln g ka kb kg D A (Fin.ofNat 7 (n + 1)) _ l

theorem shift_n (l : Fin 2048) (n : ℕ) : Cert.LnIdeal.Run.shiftA x ka kb ln kg n (ix2 0 l)
    = ∑ i ∈ Finset.range (n + 1), ∑ s, dyA x ga be ln g (ix3 (Fin.ofNat 7 i) s l) := by
  induction n with
  | zero =>
    rw [Finset.sum_range_one]
    refine (shift_step x ga be ln g ka kb kg D A 0 _ l).trans ?_
    rw [p14, zero_add]
    rfl
  | succ n ih =>
    rw [Finset.sum_range_succ, ← ih]
    exact shift_step x ga be ln g ka kb kg D A (Fin.ofNat 7 (n + 1)) _ l

omit D A in
theorem ofNat_val (b : Fin 7) : Fin.ofNat 7 b.val = b := Fin.ext (Nat.mod_eq_of_lt b.isLt)

theorem gains_eq : Cert.LnIdeal.Run.gainA x ka kb ln kg 6 = dgA x ga be ln g := by
  funext i
  obtain ⟨o, l, rfl⟩ : ∃ (o : Fin 1) (l : Fin 2048), i = ix2 o l := ⟨i 0, i 1, eq2 i⟩
  obtain rfl : o = 0 := Subsingleton.elim _ _
  refine (gain_n x ga be ln g ka kb kg D A l 6).trans (Eq.trans ?_ (dgF_at _ _ l).symm)
  rw [Finset.sum_range]
  exact Finset.sum_congr rfl fun b _ => by rw [ofNat_val b]

theorem shifts_eq : Cert.LnIdeal.Run.shiftA x ka kb ln kg 6 = dbA x ga be ln g := by
  funext i
  obtain ⟨o, l, rfl⟩ : ∃ (o : Fin 1) (l : Fin 2048), i = ix2 o l := ⟨i 0, i 1, eq2 i⟩
  obtain rfl : o = 0 := Subsingleton.elim _ _
  refine (shift_n x ga be ln g ka kb kg D A l 6).trans (Eq.trans ?_ (dbF_at _ l).symm)
  rw [Finset.sum_range]
  exact Finset.sum_congr rfl fun b _ => by rw [ofNat_val b]

end

end Cert.LnEnds

end
-- ==== Proof.LnRefRun.lean ====
/-
  The layer-norm reference's run: what its four result buffers hold, as the named functions of the arguments.
-/
module

public import proofs.«01_k».proof.Proof.LnRefFn
public import proofs.«01_k».proof.Proof.Gen.LnReferenceIdeal.Frame
public import proofs.«01_k».proof.Proof.Gen.LnReferenceIdeal.Value
public import Idealize.ShloMosaic.Lib.StableHlo.ReadAt

@[expose] public section

set_option maxRecDepth 16384

noncomputable section

namespace Cert.LnReferenceIdeal.Ref

open Cert.LnReferenceIdeal Cert.LnReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

abbrev a0 (c : Dev nD) : FVec F S7x256x2048 .bf16 := m ((c : Thread nD τ).loc main_arg0)
abbrev a1 (c : Dev nD) : FVec F S2048 .f32 := m ((c : Thread nD τ).loc main_arg1)
abbrev a2 (c : Dev nD) : FVec F S2048 .f32 := m ((c : Thread nD τ).loc main_arg2)
abbrev a3 (c : Dev nD) : IVec S7 32 := m ((c : Thread nD τ).loc main_arg3)
abbrev a4 (c : Dev nD) : FVec F S7x2048 .f32 := m ((c : Thread nD τ).loc main_arg4)

theorem V_gain (c : Dev nD) : (V m c main_v77 : FVec F S1x2048 .f32) = dgA (a0 m c) (a1 m c) (a2 m c) (a3 m c) (a4 m c) := by
  unfold V
  after_reads_simp
  rfl
theorem V_shift (c : Dev nD) : (V m c main_v79 : FVec F S1x2048 .f32) = dbA (a0 m c) (a1 m c) (a2 m c) (a3 m c) (a4 m c) := by
  unfold V
  after_reads_simp
  rfl
theorem V_scale (c : Dev nD) : (V m c main_v102 : FVec F S7x256x1 .f32) = scA (a0 m c) (a1 m c) (a2 m c) (a3 m c) (a4 m c) := by
  unfold V
  after_reads_simp
  simp -implicitDefEqProofs only [StableHlo.TRef.toBuf, StableHlo.TRef.ofBuf, cast_cast, cast_eq, id]
  rfl
theorem V_cut (c : Dev nD) : (V m c main_v105 : FVec F S7x256x2048 .f32) = vvA (a0 m c) (a1 m c) (a2 m c) (a3 m c) (a4 m c) := by
  unfold V
  after_reads_simp
  simp -implicitDefEqProofs only [StableHlo.TRef.toBuf, StableHlo.TRef.ofBuf, cast_cast, cast_eq, id]
  rfl

end Cert.LnReferenceIdeal.Ref

end
-- ==== Proof.LnRefEnd.lean ====
/-
  The layer-norm reference's run ends with its four results: the codes, the scales, and the gradients of the gain and the shift.
-/
module

public import proofs.«01_k».proof.Proof.LnRefRun
public import Idealize.ShloMosaic.Lib.Pipeline.Value

@[expose] public section

set_option maxRecDepth 16384

noncomputable section

namespace Cert.LnReferenceIdeal.Ref

open Cert.LnReferenceIdeal Cert.LnReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

theorem idx_zero : ∀ t : Fin cfg0.N, ∀ a : Fin 3, win0_0.index t a = 0 ∧ win0_1.index t a = 0 :=
  (by decide +kernel : ∀ t : Fin grid0.N, _)

/-- The last call casts: ideally it copies. -/
def cutR (c : Dev nD) : Buf (Elt Ideal) ((c : Thread nD τ).loc main_v106) := (V m c main_v105 : FVec Ideal S7x256x2048 .f32)

theorem emb_in (t : Fin cfg0.N) (j : S7x256x2048.Idx) : (((cfg0.win 0).blk t).view.emb j : S7x256x2048.Idx) = j := by
  refine funext fun a => Fin.ext ?_
  show win0_0.index t a * S7x256x2048.size a + 1 * (j a).val = (j a).val
  rw [(idx_zero t a).1]; omega
theorem emb_out (t : Fin cfg0.N) (j : S7x256x2048.Idx) : (((cfg0.win 1).blk t).view.emb j : S7x256x2048.Idx) = j := by
  refine funext fun a => Fin.ext ?_
  show win0_1.index t a * S7x256x2048.size a + 1 * (j a).val = (j a).val
  rw [(idx_zero t a).2]; omega

/-- What the call's body leaves is its argument. -/
theorem out_eq (P0 : Vec Ideal S7x256x2048 .f32) (j : S7x256x2048.Idx) : out0_1 P0 j = P0 j := by
  unfold out0_1
  rw [View.ld_unit_zero hz3]
  refine (Value.canon1_eq P0 j).trans ?_
  show P0 (Value.ix1_0 j) = P0 j
  refine congrArg P0 (funext fun a => ?_)
  match a with
  | ⟨0, _⟩ => rfl
  | ⟨1, _⟩ => rfl
  | ⟨2, _⟩ => rfl

theorem blk_at (c : Dev nD) (W : (b : Ref sig .tc) → Buf (Elt Ideal) ((c : Thread nD τ).loc b)) (t : Fin cfg0.N) (j : S7x256x2048.Idx) :
    (((cfg0.win 0).blk t).view.read (Elt Ideal) (W (Pipeline.arrRef spec0 0)) : Vec Ideal S7x256x2048 .f32) j
      = (W main_v105 : FVec Ideal S7x256x2048 .f32) j := by
  show W main_v105 (((cfg0.win 0).blk t).view.emb j) = _
  exact congrArg (W main_v105) (emb_in t j)

theorem iblk_at (c : Dev nD) (t : Fin cfg0.N) (j : S7x256x2048.Idx) :
    (iblk m c 0 t : Vec Ideal S7x256x2048 .f32) j = (V m c main_v105 : FVec Ideal S7x256x2048 .f32) j := by
  unfold iblk
  exact blk_at c (V m c) t j

theorem read_at (c : Dev nD) (G : FVec Ideal S7x256x2048 .fp8e5m2) (t : Fin cfg0.N) (j : S7x256x2048.Idx) :
    (((cfg0.win 1).blk t).view.read (Elt Ideal) (G : Buf (Elt Ideal) ((c : Thread nD τ).loc main_v106))) j = G j := by
  rw [View.read_apply]
  exact congrArg G (emb_out t j)

theorem iblk_eq (c : Dev nD) (t : Fin cfg0.N) : (iblk m c 0 t : Vec Ideal S7x256x2048 .f32) = cutR m c := by
  unfold cutR
  exact funext fun j => iblk_at m c t j

theorem flushed_eq (c : Dev nD) (t : Fin cfg0.N) :
    (dats m 0 c).flushed 1 t = ((cfg0.win 1).blk t).view.read (Elt Ideal) (cutR m c) := by
  refine (Value.flushed1 m c t).trans ?_
  have e := iblk_eq m c t
  generalize cutR m c = C at e ⊢
  generalize iblk m c 0 t = B at e ⊢
  subst e
  funext j
  exact (out_eq B j).trans (read_at c B t j).symm

theorem cover (i : S7x256x2048.Idx) :
    ∃ t : Fin cfg0.N, (cfg0.win 1).flush t = true ∧ i ∈ ((cfg0.win 1).blk t).view.set := by
  have hN : cfg0.N = 1 := N_0
  have ht : 0 < cfg0.N := by omega
  refine ⟨⟨0, ht⟩, flush0_1 _, ?_⟩
  exact Eq.subst (motive := fun y : S7x256x2048.Idx => y ∈ ((cfg0.win 1).blk ⟨0, ht⟩).view.set) (emb_out ⟨0, ht⟩ i) (View.emb_mem_set _ _)

theorem final (c : Dev nD) : (dats m 0 c).arrAt 1 cfg0.N = cutR m c :=
  (dats m 0 c).arrAt_eq_of_cover 1 (cutR m c) (fun t _ => flushed_eq m c t) cover

/-- The run: the four results, the arguments unchanged. -/
theorem run : θ_run defs (onTc (τ := τ) (main (F := Ideal))) ⟨m, fun _ => 0, ρ⟩ fun r => ∀ c : Dev nD,
      (r.2.mem ((c : Thread nD τ).loc main_v106) = (vvA (a0 m c) (a1 m c) (a2 m c) (a3 m c) (a4 m c) : FVec Ideal S7x256x2048 .f32)
      ∧ r.2.mem ((c : Thread nD τ).loc main_v102) = (scA (a0 m c) (a1 m c) (a2 m c) (a3 m c) (a4 m c) : FVec Ideal S7x256x1 .f32)
      ∧ r.2.mem ((c : Thread nD τ).loc main_v77) = (dgA (a0 m c) (a1 m c) (a2 m c) (a3 m c) (a4 m c) : FVec Ideal S1x2048 .f32)
      ∧ r.2.mem ((c : Thread nD τ).loc main_v79) = (dbA (a0 m c) (a1 m c) (a2 m c) (a3 m c) (a4 m c) : FVec Ideal S1x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨⟨((h c).1 1).trans ((final m c).trans ((show cutR m c = (V m c main_v105 : FVec Ideal S7x256x2048 .f32) from rfl).trans (V_cut m c))),
      ((h c).2 main_v102 (Pipeline.mem_restRefs_of main_v102 (by decide) (by decide))).trans (V_scale m c),
      ((h c).2 main_v77 (Pipeline.mem_restRefs_of main_v77 (by decide) (by decide))).trans (V_gain m c),
      ((h c).2 main_v79 (Pipeline.mem_restRefs_of main_v79 (by decide) (by decide))).trans (V_shift m c)⟩,
      Value.kept_main_arg0 m r h c,
      Value.kept_main_arg1 m r h c,
      Value.kept_main_arg2 m r h c,
      Value.kept_main_arg3 m r h c,
      Value.kept_main_arg4 m r h c⟩)
    (run_main m ρ)

end Cert.LnReferenceIdeal.Ref

end
-- ==== Proof.LnClaim.lean ====
/-
  The layer norm's kernel and its reference end with equal results, from equal arguments in the precondition's domain.
-/
module

public import proofs.«01_k».proof.Proof.LnEnds
public import proofs.«01_k».proof.Proof.LnRefEnd

@[expose] public section

set_option maxRecDepth 16384

noncomputable section

namespace Cert.Proof.LnClaim

open Idealize.ShloMosaic Idealize.ShloMosaic.TcCoe Idealize.SL.Sem

section
variable (m : (ℓ : Loc Cert.LnIdeal.nD Cert.LnIdeal.τ Cert.LnIdeal.sig) → Buf (Elt Ideal) ℓ) (c : Dev Cert.LnIdeal.nD)

/-- The kernel's arguments. -/
abbrev x : FVec Ideal Cert.LnReferenceIdeal.S7x256x2048 .bf16 := m ((c.tc : Thread Cert.LnIdeal.nD Cert.LnIdeal.τ).loc Cert.LnIdeal.main_arg0)
abbrev ga : FVec Ideal Cert.LnReferenceIdeal.S2048 .f32 := m ((c.tc : Thread Cert.LnIdeal.nD Cert.LnIdeal.τ).loc Cert.LnIdeal.main_arg1)
abbrev be : FVec Ideal Cert.LnReferenceIdeal.S2048 .f32 := m ((c.tc : Thread Cert.LnIdeal.nD Cert.LnIdeal.τ).loc Cert.LnIdeal.main_arg2)
abbrev ln : IVec Cert.LnReferenceIdeal.S7 32 := m ((c.tc : Thread Cert.LnIdeal.nD Cert.LnIdeal.τ).loc Cert.LnIdeal.main_arg3)
abbrev g : FVec Ideal Cert.LnReferenceIdeal.S7x2048 .f32 := m ((c.tc : Thread Cert.LnIdeal.nD Cert.LnIdeal.τ).loc Cert.LnIdeal.main_arg4)

theorem args : Cert.LnEnds.Args (ga m c) (be m c) (g m c) (Cert.LnIdeal.Run.gaV m c) (Cert.LnIdeal.Run.beV m c) (Cert.LnIdeal.Run.gV m c) :=
  ⟨Cert.LnIdeal.Run.gaV_apply m c, Cert.LnIdeal.Run.beV_apply m c, Cert.LnIdeal.Run.gV_apply m c⟩

theorem x_eq : Cert.LnIdeal.Run.xV m c = x m c := Cert.LnIdeal.Gen.V_main_arg0 m c
theorem ln_eq : Cert.LnIdeal.Run.lnV m c = ln m c := Cert.LnIdeal.Gen.V_main_arg3 m c

variable [Cert.Pre_in_domain.Facts] (D : Cert.LnPre.Dom (x m c) (ga m c) (be m c) (ln m c) (g m c))
include D

theorem codes : Cert.LnReferenceIdeal.Ref.vvA (x m c) (ga m c) (be m c) (ln m c) (g m c) = Cert.LnIdeal.Run.codesR m c := by
  refine (Cert.LnEnds.codes_eq _ _ _ _ _ _ _ _ D (args m c)).symm.trans ?_
  rw [← x_eq, ← ln_eq]
theorem scales : Cert.LnReferenceIdeal.Ref.scA (x m c) (ga m c) (be m c) (ln m c) (g m c) = Cert.LnIdeal.Run.scalesR m c := by
  refine (Cert.LnEnds.scales_eq _ _ _ _ _ _ _ _ D (args m c)).symm.trans ?_
  rw [← x_eq, ← ln_eq]
theorem gain : Cert.LnReferenceIdeal.Ref.dgA (x m c) (ga m c) (be m c) (ln m c) (g m c) = Cert.LnIdeal.Run.gainR m c := by
  refine (Cert.LnEnds.gains_eq _ _ _ _ _ _ _ _ D (args m c)).symm.trans ?_
  rw [← x_eq, ← ln_eq]
theorem shift : Cert.LnReferenceIdeal.Ref.dbA (x m c) (ga m c) (be m c) (ln m c) (g m c) = Cert.LnIdeal.Run.shiftR m c := by
  refine (Cert.LnEnds.shifts_eq _ _ _ _ _ _ _ _ D (args m c)).symm.trans ?_
  rw [← x_eq, ← ln_eq]

end

/-- From equal arguments both programs end with the same codes, scales and gradients. -/
theorem algebraic [hPre : Cert.Pre_in_domain.Facts] : Cert.algebraic_LnIdeal_LnReferenceIdeal_pre_in_domain (hLnIdeal := Cert.LnIdeal.Gen.facts)
    (hLnReferenceIdeal := Cert.LnReferenceIdeal.Gen.facts) (hPre_in_domain := hPre) := by
  intro m p m' p' hpre hargs
  refine ⟨fun c => Cert.LnIdeal.Run.codesR m c, fun c => Cert.LnIdeal.Run.scalesR m c, fun c => Cert.LnIdeal.Run.gainR m c,
    fun c => Cert.LnIdeal.Run.shiftR m c,
    (θ_run (Cert.LnIdeal.defs (F := Ideal)) _ _).mono (fun r h c => ⟨(h c).1.1, (h c).1.2.1, (h c).1.2.2.1, (h c).1.2.2.2, (h c).2⟩)
      (Cert.LnIdeal.Run.run m p), ?_⟩
  refine (θ_run (Cert.LnReferenceIdeal.defs (F := Ideal)) _ _).mono (fun r h c => ?_) (Cert.LnReferenceIdeal.Ref.run m' p')
  obtain ⟨e0, e1, e2, e3, e4⟩ := hargs c
  have D := Cert.LnPre.dom_of (x m c) (ga m c) (be m c) (ln m c) (g m c) (hpre c)
  obtain ⟨⟨h0, h1, h2, h3⟩, hk⟩ := h c
  have f0 : Cert.LnReferenceIdeal.Ref.a0 m' c = x m c := e0
  have f1 : Cert.LnReferenceIdeal.Ref.a1 m' c = ga m c := e1
  have f2 : Cert.LnReferenceIdeal.Ref.a2 m' c = be m c := e2
  have f3 : Cert.LnReferenceIdeal.Ref.a3 m' c = ln m c := e3
  have f4 : Cert.LnReferenceIdeal.Ref.a4 m' c = g m c := e4
  rw [f0, f1, f2, f3, f4] at h0 h1 h2 h3
  exact ⟨h0.trans (codes m c D), h1.trans (scales m c D), h2.trans (gain m c D), h3.trans (shift m c D), hk⟩

end Cert.Proof.LnClaim

end
-- ==== Proof.WholeIdealLnBody.lean ====
/-
  What the whole kernel's first call leaves, through its body, in its four output blocks at a grid point, as the payloads of the printed body
  composed: the codes and scales of the sentence, and the two running sums over sentences.
-/
module

public import proofs.«01_k».proof.Proof.WholeIdealBody0
public import Idealize.ShloMosaic.Lib.Pipeline.Value
public import Idealize.ShloMosaic.Lib.Tactic
public import Idealize.ShloMosaic.Lib.Pointwise

@[expose] public section

set_option maxRecDepth 16384

noncomputable section

namespace Cert.WholeIdeal.LnBody

open Cert.WholeIdeal Cert.WholeIdeal.Gen Cert.WholeIdeal.R0 Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the normalised activations, one row shared by every token of the sentence. -/
abbrev dy (v : Elt F .i32) (x : Vec F S1x256x2048 .bf16) (ga be : Vec F S1x2048 .f32) (g : Vec F S1x1x2048 .f32) : FVec F S1x2048 .f32 :=
  k0_pay12 (k0_pay6 v) (k0_pay10 v x ga be) (k0_pay11 v x ga be) g
/-- The row times the gain, less its mean. -/
abbrev cent (v : Elt F .i32) (x : Vec F S1x256x2048 .bf16) (ga be : Vec F S1x2048 .f32) (g : Vec F S1x1x2048 .f32) : FVec F S1x2048 .f32 :=
  k0_pay17 (k0_pay6 v) (k0_pay8 ga) (k0_pay10 v x ga be) (k0_pay11 v x ga be) g
/-- Its product with every token's centred activations, summed along the token. -/
abbrev corr (v : Elt F .i32) (x : Vec F S1x256x2048 .bf16) (ga be : Vec F S1x2048 .f32) (g : Vec F S1x1x2048 .f32) : FVec F S256x1 .f32 :=
  k0_pay18 (k0_pay3 x) (k0_pay6 v) (k0_pay8 ga) (k0_pay10 v x ga be) (k0_pay11 v x ga be) g
/-- The block of codes. -/
abbrev codesB (v : Elt F .i32) (x : Vec F S1x256x2048 .bf16) (ga be : Vec F S1x2048 .f32) (g : Vec F S1x1x2048 .f32) : FVec F S1x256x2048 .fp8e5m2 :=
  k0_pay1 (k0_pay22 (k0_pay3 x) (k0_pay4 x) (k0_pay5 v) (cent v x ga be g) (corr v x ga be g)) (Scalar.ofBits .f32 0xC7600000#32) (Scalar.ofBits .f32 0x47600000#32)
/-- The block of scales. -/
abbrev scalesB (v : Elt F .i32) (x : Vec F S1x256x2048 .bf16) (ga be : Vec F S1x2048 .f32) (g : Vec F S1x1x2048 .f32) : FVec F S1x256x1 .f32 :=
  k0_pay2 (k0_pay21 (k0_pay3 x) (k0_pay4 x) (k0_pay5 v) (cent v x ga be g) (corr v x ga be g))
/-- The running sum for the gain, one sentence on. -/
abbrev gainB (v : Elt F .i32) (x : Vec F S1x256x2048 .bf16) (ga be : Vec F S1x2048 .f32) (g : Vec F S1x1x2048 .f32) (acc : Vec F S1x2048 .f32) : FVec F S1x2048 .f32 :=
  k0_pay15 (k0_pay6 v) (k0_pay9 v x) (k0_pay10 v x ga be) (k0_pay11 v x ga be) g acc
/-- The running sum for the shift, one sentence on. -/
abbrev shiftB (v : Elt F .i32) (x : Vec F S1x256x2048 .bf16) (ga be : Vec F S1x2048 .f32) (g : Vec F S1x1x2048 .f32) (acc : Vec F S1x2048 .f32) : FVec F S1x2048 .f32 :=
  k0_pay16 (k0_pay6 v) (k0_pay7 v) (k0_pay10 v x ga be) (k0_pay11 v x ga be) g acc

/-- The length the body loads from the table: the sentence's. -/
theorem len_read (c : Dev nD) (i : grid0.Coords) (xt : TbBuf0 (F := F) c tbM0_0) (q) :
    View.ld (View.read (Elt F) (View.whole main_arg3) xt)
      (Rect.unit (s := S7) (k0_off1 i) S1.size (k0_off1_inb i)) (Shape.Idx.first q) = xt (ix1 (i 0)) := by
  show xt _ = xt _
  refine congrArg xt (funext fun a => Fin.ext ?_)
  have h : ∀ n : Fin 7, BitVec.toNat (Scalar.indexCast (BitVec.ofNat 32 n.val)) = n.val := by decide
  match a with
  | ⟨0, _⟩ => show BitVec.toNat (Scalar.indexCast (BitVec.ofNat 32 (i 0).val)) + 1 * 0 = (i 0).val; rw [h (i 0)]; rfl

theorem out_A_4 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_4 c i a2 h2 a3 h3 a4 h4 a5 h5 a6 h6 a7 h7 a8 h8 a9 h9 hc x0 x1 x2 x3 xt = codesB (xt (ix1 (i 0))) x0 x1 x2 x3 := by
  unfold out0_A_4
  rw [View.read_writes_eq_canon _ _ _ (fun y => cover0_A_4 _ _ _ _ _ _ _ _ _ _ _ _ _ _ _ _ _ _ _ _ _ _ _ _ y)]
  unfold kernelRun0_A
  dsimp only
  sl_unfold_words
  rw [View.canon_unit_zero (S := S1x256x2048) hz3]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => codesB v x0 x1 x2 x3) (len_read c i xt _)

theorem out_A_5 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_5 c i a2 h2 a3 h3 a4 h4 a5 h5 a6 h6 a7 h7 a8 h8 a9 h9 hc x0 x1 x2 x3 xt = scalesB (xt (ix1 (i 0))) x0 x1 x2 x3 := by
  unfold out0_A_5
  rw [View.read_writes_eq_canon _ _ _ (fun y => cover0_A_5 _ _ _ _ _ _ _ _ _ _ _ _ _ _ _ _ _ _ _ _ _ _ _ _ y)]
  unfold kernelRun0_A
  dsimp only
  sl_unfold_words
  rw [View.canon_unit_zero (S := S1x256x1) hz3]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => scalesB v x0 x1 x2 x3) (len_read c i xt _)

theorem out_A_6 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_6 c i a2 h2 a3 h3 a4 h4 a5 h5 a6 h6 a7 h7 a8 h8 a9 h9 hc x0 x1 x2 x3 xt = gainB (xt (ix1 (i 0))) x0 x1 x2 x3 (k0_pay13 (F := F)) := by
  unfold out0_A_6
  rw [View.read_writes_eq_canon _ _ _ (fun y => cover0_A_6 _ _ _ _ _ _ _ _ _ _ _ _ _ _ _ _ _ _ _ _ _ _ _ _ y)]
  unfold kernelRun0_A
  dsimp only
  sl_unfold_words
  rw [View.canon_cons_unit_zero (S := S1x2048) hz2, View.readCov_unit_zero (S := S1x2048) _ hz2]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => gainB v x0 x1 x2 x3 (k0_pay13 (F := F))) (len_read c i xt _)

theorem out_A_7 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (hc : cond0_0 i) :
    out0_A_7 c i a2 h2 a3 h3 a4 h4 a5 h5 a6 h6 a7 h7 a8 h8 a9 h9 hc x0 x1 x2 x3 xt = shiftB (xt (ix1 (i 0))) x0 x1 x2 x3 (k0_pay14 (F := F)) := by
  unfold out0_A_7
  rw [View.read_writes_eq_canon _ _ _ (fun y => cover0_A_7 _ _ _ _ _ _ _ _ _ _ _ _ _ _ _ _ _ _ _ _ _ _ _ _ y)]
  unfold kernelRun0_A
  dsimp only
  sl_unfold_words
  rw [View.canon_cons_unit_zero (S := S1x2048) hz2, View.readCov_unit_zero (S := S1x2048) _ hz2]
  simp only [View.readAt_eq_ld, h2.read_unread, h3.read_unread, h4.read_unread, h5.read_unread, View.ld_unit_zero (S := S1x2048) hz2, View.ld_unit_zero (S := S1x256x2048) hz3, View.ld_unit_zero (S := S1x1x2048) hz3]
  exact congrArg (fun v => shiftB v x0 x1 x2 x3 (k0_pay14 (F := F))) (len_read c i xt _)

theorem out_B_4 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_4 c i a2 h2 a3 h3 a4 h4 a5 h5 a6 h6 a7 h7 a8 h8 a9 h9 hc x0 x1 x2 x3 xt o6 o7 = codesB (xt (ix1 (i 0))) x0 x1 x2 x3 := by
  unfold out0_B_4
  rw [View.read_writes_eq_canon _ _ _ (fun y => cover0_B_4 _ _ _ _ _ _ _ _ _ _ _ _ _ _ _ _ _ _ _ _ _ _ _ _ _ _ y)]
  unfold kernelRun0_B
  dsimp only
  sl_unfold_words
  rw [View.canon_unit_zero (S := S1x256x2048) hz3]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => codesB v x0 x1 x2 x3) (len_read c i xt _)

theorem out_B_5 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_5 c i a2 h2 a3 h3 a4 h4 a5 h5 a6 h6 a7 h7 a8 h8 a9 h9 hc x0 x1 x2 x3 xt o6 o7 = scalesB (xt (ix1 (i 0))) x0 x1 x2 x3 := by
  unfold out0_B_5
  rw [View.read_writes_eq_canon _ _ _ (fun y => cover0_B_5 _ _ _ _ _ _ _ _ _ _ _ _ _ _ _ _ _ _ _ _ _ _ _ _ _ _ y)]
  unfold kernelRun0_B
  dsimp only
  sl_unfold_words
  rw [View.canon_unit_zero (S := S1x256x1) hz3]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => scalesB v x0 x1 x2 x3) (len_read c i xt _)

theorem out_B_6 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_6 c i a2 h2 a3 h3 a4 h4 a5 h5 a6 h6 a7 h7 a8 h8 a9 h9 hc x0 x1 x2 x3 xt o6 o7 = gainB (xt (ix1 (i 0))) x0 x1 x2 x3 o6 := by
  unfold out0_B_6
  rw [View.read_writes_eq_canon _ _ _ (fun y => cover0_B_6 _ _ _ _ _ _ _ _ _ _ _ _ _ _ _ _ _ _ _ _ _ _ _ _ _ _ y)]
  unfold kernelRun0_B
  dsimp only
  sl_unfold_words
  rw [View.canon_unit_zero (S := S1x2048) hz2]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => gainB v x0 x1 x2 x3 o6) (len_read c i xt _)

theorem out_B_7 (c : Dev nD) (i : grid0.Coords) (a2 : Memref sig .tc .vmem S1x256x2048 .bf16) (h2 : a2.IsWhole) (a3 : Memref sig .tc .vmem S1x2048 .f32) (h3 : a3.IsWhole)
    (a4 : Memref sig .tc .vmem S1x2048 .f32) (h4 : a4.IsWhole) (a5 : Memref sig .tc .vmem S1x1x2048 .f32) (h5 : a5.IsWhole) (a6 : Memref sig .tc .vmem S1x256x2048 .fp8e5m2) (h6 : a6.IsWhole)
    (a7 : Memref sig .tc .vmem S1x256x1 .f32) (h7 : a7.IsWhole) (a8 : Memref sig .tc .vmem S1x2048 .f32) (h8 : a8.IsWhole) (a9 : Memref sig .tc .vmem S1x2048 .f32) (h9 : a9.IsWhole)
    (x0 : Vec F S1x256x2048 .bf16) (x1 : Vec F S1x2048 .f32) (x2 : Vec F S1x2048 .f32) (x3 : Vec F S1x1x2048 .f32) (xt : TbBuf0 (F := F) c tbM0_0) (o6 o7 : Vec F S1x2048 .f32) (hc : ¬cond0_0 i) :
    out0_B_7 c i a2 h2 a3 h3 a4 h4 a5 h5 a6 h6 a7 h7 a8 h8 a9 h9 hc x0 x1 x2 x3 xt o6 o7 = shiftB (xt (ix1 (i 0))) x0 x1 x2 x3 o7 := by
  unfold out0_B_7
  rw [View.read_writes_eq_canon _ _ _ (fun y => cover0_B_7 _ _ _ _ _ _ _ _ _ _ _ _ _ _ _ _ _ _ _ _ _ _ _ _ _ _ y)]
  unfold kernelRun0_B
  dsimp only
  sl_unfold_words
  rw [View.canon_unit_zero (S := S1x2048) hz2]
  simp only [View.readAt_eq_ld, h2.read_unread, h3.read_unread, h4.read_unread, h5.read_unread, h8.read_unread, h9.read_unread, View.ld_unit_zero (S := S1x2048) hz2, View.ld_unit_zero (S := S1x256x2048) hz3, View.ld_unit_zero (S := S1x1x2048) hz3]
  exact congrArg (fun v => shiftB v x0 x1 x2 x3 o7) (len_read c i xt _)

end Cert.WholeIdeal.LnBody

end
-- ==== Proof.WholeIdealLn.lean ====
/-
  The whole kernel's first call: its four result arrays, sentence by sentence, as the body's payloads of the arguments.
-/
module

public import proofs.«01_k».proof.Defs
public import proofs.«01_k».proof.Proof.WholeIdealLnBody
public import Idealize.ShloMosaic.Lib.StableHlo.ReadAt

@[expose] public section

set_option maxRecDepth 16384

noncomputable section

namespace Cert.WholeIdeal.LnV

open Cert.WholeIdeal Cert.WholeIdeal.Gen Cert.WholeIdeal.R0 Cert.WholeIdeal.LnBody Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A sentence's block of the activations, and of the incoming gradient. -/
def xB (x : Vec F S7x256x2048 .bf16) (b : Fin 7) : Vec F S1x256x2048 .bf16 := fun j => x (ix3 b (j 1) (j 2))
def gB (g : Vec F S7x1x2048 .f32) (b : Fin 7) : Vec F S1x1x2048 .f32 := fun j => g (ix3 b (j 1) (j 2))

variable (x : Vec F S7x256x2048 .bf16) (ga be : Vec F S1x2048 .f32) (ln : Vec F S7 .i32) (g : Vec F S7x1x2048 .f32)

/-- The codes, the scales, and the two running sums after sentence `n`. -/
def codesA : Vec F S7x256x2048 .fp8e5m2 := fun i => codesB (ln (ix1 (i 0))) (xB x (i 0)) ga be (gB g (i 0)) (ix3 0 (i 1) (i 2))
def scalesA : Vec F S7x256x1 .f32 := fun i => scalesB (ln (ix1 (i 0))) (xB x (i 0)) ga be (gB g (i 0)) (ix3 0 (i 1) (i 2))
def gainA : ℕ → Vec F S1x2048 .f32
  | 0 => gainB (ln (ix1 0)) (xB x 0) ga be (gB g 0) k0_pay13
  | n + 1 => gainB (ln (ix1 (Fin.ofNat 7 (n + 1)))) (xB x (Fin.ofNat 7 (n + 1))) ga be (gB g (Fin.ofNat 7 (n + 1))) (gainA n)
def shiftA : ℕ → Vec F S1x2048 .f32
  | 0 => shiftB (ln (ix1 0)) (xB x 0) ga be (gB g 0) k0_pay14
  | n + 1 => shiftB (ln (ix1 (Fin.ofNat 7 (n + 1)))) (xB x (Fin.ofNat 7 (n + 1))) ga be (gB g (Fin.ofNat 7 (n + 1))) (shiftA n)

/-- The arrays the region finds. -/
abbrev xV (c : Dev nD) : Vec F S7x256x2048 .bf16 := V m c main_arg0
abbrev gaV (c : Dev nD) : Vec F S1x2048 .f32 := V m c main_v0
abbrev beV (c : Dev nD) : Vec F S1x2048 .f32 := V m c main_v1
abbrev lnV (c : Dev nD) : Vec F S7 .i32 := V m c main_arg3
abbrev gV (c : Dev nD) : Vec F S7x1x2048 .f32 := V m c main_v2

theorem ok : Ok m := trivial

/-- Where each window's block lies at a grid point: the sentence's own, or the whole row. -/
theorem idx_facts : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 2) = 0 ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 3) = t.val ∧ cc0_transform_3 (grid0.coords t) (1 : Fin 3) = 0 ∧ cc0_transform_3 (grid0.coords t) (2 : Fin 3) = 0
    ∧ cc0_transform_4 (grid0.coords t) (0 : Fin 3) = t.val ∧ cc0_transform_4 (grid0.coords t) (1 : Fin 3) = 0 ∧ cc0_transform_4 (grid0.coords t) (2 : Fin 3) = 0
    ∧ cc0_transform_5 (grid0.coords t) (0 : Fin 3) = t.val ∧ cc0_transform_5 (grid0.coords t) (1 : Fin 3) = 0 ∧ cc0_transform_5 (grid0.coords t) (2 : Fin 3) = 0
    ∧ cc0_transform_6 (grid0.coords t) (0 : Fin 2) = 0 ∧ cc0_transform_6 (grid0.coords t) (1 : Fin 2) = 0
    ∧ cc0_transform_7 (grid0.coords t) (0 : Fin 2) = 0 ∧ cc0_transform_7 (grid0.coords t) (1 : Fin 2) = 0 := by
  decide +kernel

/-- The sentence of a grid point. -/
def pt (t : Fin (cfgM m (ok m)).N) : Fin 7 := ⟨t.val, lt_of_lt_of_eq t.isLt (show (cfgM m (ok m)).N = 7 from N_0)⟩

theorem coords_val : ∀ t : Fin grid0.N, (grid0.coords t 0).val = t.val := by
  decide +kernel

theorem coords_pt (t : Fin (cfgM m (ok m)).N) : (grid0.coords t 0 : Fin 7) = pt m t := Fin.ext (coords_val t)

theorem tbl_eq (c : Dev nD) : (tbl m 0 : Vec F S7 .i32) = lnV m c := by
  obtain rfl : c = 0 := Subsingleton.elim _ _
  rfl

/-- The blocks the body is handed. -/
theorem iblk_x (c : Dev nD) (t : Fin (cfgM m (ok m)).N) : (iblk m (ok m) c 0 t : Vec F S1x256x2048 .bf16) = xB (xV m c) (pt m t) := by
  obtain ⟨e0, e1, e2, -⟩ := idx_facts t
  funext (j : S1x256x2048.Idx)
  show V m c main_arg0 ((((cfgM m (ok m)).win 0).blk t).view.emb j) = V m c main_arg0 _
  refine congrArg _ (funext fun a => Fin.ext ?_)
  have h0 : (j 0).val = 0 := Nat.lt_one_iff.mp (j 0).isLt
  match a with
  | ⟨0, _⟩ => show cc0_transform_0 (grid0.coords t) 0 * 1 + 1 * (j 0).val = t.val; omega
  | ⟨1, _⟩ => show cc0_transform_0 (grid0.coords t) 1 * 256 + 1 * (j 1).val = (j 1).val; omega
  | ⟨2, _⟩ => show cc0_transform_0 (grid0.coords t) 2 * 2048 + 1 * (j 2).val = (j 2).val; omega
theorem iblk_ga (c : Dev nD) (t : Fin (cfgM m (ok m)).N) : (iblk m (ok m) c 1 t : Vec F S1x2048 .f32) = gaV m c := by
  obtain ⟨-, -, -, e0, e1, -⟩ := idx_facts t
  funext (j : S1x2048.Idx)
  show V m c main_v0 ((((cfgM m (ok m)).win 1).blk t).view.emb j) = V m c main_v0 _
  refine congrArg _ (funext fun a => Fin.ext ?_)
  match a with
  | ⟨0, _⟩ => show cc0_transform_1 (grid0.coords t) 0 * 1 + 1 * (j 0).val = (j 0).val; omega
  | ⟨1, _⟩ => show cc0_transform_1 (grid0.coords t) 1 * 2048 + 1 * (j 1).val = (j 1).val; omega
theorem iblk_be (c : Dev nD) (t : Fin (cfgM m (ok m)).N) : (iblk m (ok m) c 2 t : Vec F S1x2048 .f32) = beV m c := by
  obtain ⟨-, -, -, -, -, e0, e1, -⟩ := idx_facts t
  funext (j : S1x2048.Idx)
  show V m c main_v1 ((((cfgM m (ok m)).win 2).blk t).view.emb j) = V m c main_v1 _
  refine congrArg _ (funext fun a => Fin.ext ?_)
  match a with
  | ⟨0, _⟩ => show cc0_transform_2 (grid0.coords t) 0 * 1 + 1 * (j 0).val = (j 0).val; omega
  | ⟨1, _⟩ => show cc0_transform_2 (grid0.coords t) 1 * 2048 + 1 * (j 1).val = (j 1).val; omega
theorem iblk_g (c : Dev nD) (t : Fin (cfgM m (ok m)).N) : (iblk m (ok m) c 3 t : Vec F S1x1x2048 .f32) = gB (gV m c) (pt m t) := by
  obtain ⟨-, -, -, -, -, -, -, e0, e1, e2, -⟩ := idx_facts t
  funext (j : S1x1x2048.Idx)
  show V m c main_v2 ((((cfgM m (ok m)).win 3).blk t).view.emb j) = V m c main_v2 _
  refine congrArg _ (funext fun a => Fin.ext ?_)
  have h0 : (j 0).val = 0 := Nat.lt_one_iff.mp (j 0).isLt
  match a with
  | ⟨0, _⟩ => show cc0_transform_3 (grid0.coords t) 0 * 1 + 1 * (j 0).val = t.val; omega
  | ⟨1, _⟩ => show cc0_transform_3 (grid0.coords t) 1 * 1 + 1 * (j 1).val = (j 1).val; omega
  | ⟨2, _⟩ => show cc0_transform_3 (grid0.coords t) 2 * 2048 + 1 * (j 2).val = (j 2).val; omega

/-- Anything computed of the sentence's length and the four blocks is computed of the arrays' parts. -/
theorem blk_congr {α : Type} (f : Elt F .i32 → Vec F S1x256x2048 .bf16 → Vec F S1x2048 .f32 → Vec F S1x2048 .f32 → Vec F S1x1x2048 .f32 → α) (c : Dev nD)
    (t : Fin (cfgM m (ok m)).N) :
    f ((tbl m 0 : Vec F S7 .i32) (ix1 (grid0.coords t 0))) (iblk m (ok m) c 0 t) (iblk m (ok m) c 1 t) (iblk m (ok m) c 2 t) (iblk m (ok m) c 3 t)
      = f (lnV m c (ix1 (pt m t))) (xB (xV m c) (pt m t)) (gaV m c) (beV m c) (gB (gV m c) (pt m t)) := by
  have e0 : (tbl m 0 : Vec F S7 .i32) (ix1 (grid0.coords t 0)) = lnV m c (ix1 (pt m t)) :=
    (congrFun (tbl_eq m c) _).trans (congrArg (fun b : Fin 7 => lnV m c (ix1 b)) (coords_pt m t))
  exact (congrArg (fun v => f v _ _ _ _) e0).trans <| (congrArg (fun v => f _ v _ _ _) (iblk_x m c t)).trans <|
    (congrArg (fun v => f _ _ v _ _) (iblk_ga m c t)).trans <| (congrArg (fun v => f _ _ _ v _) (iblk_be m c t)).trans <|
    congrArg (fun v => f _ _ _ _ v) (iblk_g m c t)

/-- What the body leaves at a point: the sentence's codes and scales, -/
theorem outs_codes (c : Dev nD) (t : Fin (cfgM m (ok m)).N) : (outsAt0 m (ok m) c t.val t.isLt).1
    = codesB (lnV m c (ix1 (pt m t))) (xB (xV m c) (pt m t)) (gaV m c) (beV m c) (gB (gV m c) (pt m t)) := by
  by_cases h : t.val % 7 = 0
  · have e := (out_A_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m codesB c t)
    have e' := outsAt0_A m (ok m) c t h
    generalize outsAt0 m (ok m) c t.val t.isLt = P at e' ⊢
    subst e'
    dsimp only
    exact e
  · have e := (out_B_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) (outsAt0 m (ok m) c (t.val - 1) (Nat.lt_of_le_of_lt (Nat.sub_le _ _) t.isLt)).2.2.1 (outsAt0 m (ok m) c (t.val - 1) (Nat.lt_of_le_of_lt (Nat.sub_le _ _) t.isLt)).2.2.2 (fun h' => h ((hcond0_0 t).mp h'))).trans (blk_congr m codesB c t)
    have e' := outsAt0_B m (ok m) c t h
    generalize outsAt0 m (ok m) c t.val t.isLt = P at e' ⊢
    subst e'
    dsimp only
    exact e
theorem outs_scales (c : Dev nD) (t : Fin (cfgM m (ok m)).N) : (outsAt0 m (ok m) c t.val t.isLt).2.1
    = scalesB (lnV m c (ix1 (pt m t))) (xB (xV m c) (pt m t)) (gaV m c) (beV m c) (gB (gV m c) (pt m t)) := by
  by_cases h : t.val % 7 = 0
  · have e := (out_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m scalesB c t)
    have e' := outsAt0_A m (ok m) c t h
    generalize outsAt0 m (ok m) c t.val t.isLt = P at e' ⊢
    subst e'
    dsimp only
    exact e
  · have e := (out_B_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) (outsAt0 m (ok m) c (t.val - 1) (Nat.lt_of_le_of_lt (Nat.sub_le _ _) t.isLt)).2.2.1 (outsAt0 m (ok m) c (t.val - 1) (Nat.lt_of_le_of_lt (Nat.sub_le _ _) t.isLt)).2.2.2 (fun h' => h ((hcond0_0 t).mp h'))).trans (blk_congr m scalesB c t)
    have e' := outsAt0_B m (ok m) c t h
    generalize outsAt0 m (ok m) c t.val t.isLt = P at e' ⊢
    subst e'
    dsimp only
    exact e

/-- and the running sums. -/
theorem outs_gain_first (c : Dev nD) (t : Fin (cfgM m (ok m)).N) (h : t.val % 7 = 0) : (outsAt0 m (ok m) c t.val t.isLt).2.2.1
    = gainB (lnV m c (ix1 (pt m t))) (xB (xV m c) (pt m t)) (gaV m c) (beV m c) (gB (gV m c) (pt m t)) k0_pay13 := by
  have e := (out_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m (fun v x ga be g => gainB v x ga be g k0_pay13) c t)
  have e' := outsAt0_A m (ok m) c t h
  generalize outsAt0 m (ok m) c t.val t.isLt = P at e' ⊢
  subst e'
  dsimp only
  exact e
theorem outs_gain_next (c : Dev nD) (t : Fin (cfgM m (ok m)).N) (h : ¬t.val % 7 = 0) : (outsAt0 m (ok m) c t.val t.isLt).2.2.1
    = gainB (lnV m c (ix1 (pt m t))) (xB (xV m c) (pt m t)) (gaV m c) (beV m c) (gB (gV m c) (pt m t)) (outsAt0 m (ok m) c (t.val - 1) (Nat.lt_of_le_of_lt (Nat.sub_le _ _) t.isLt)).2.2.1 := by
  have e' := outsAt0_B m (ok m) c t h
  generalize (outsAt0 m (ok m) c (t.val - 1) (Nat.lt_of_le_of_lt (Nat.sub_le _ _) t.isLt)) = Q at e' ⊢
  have e := (out_B_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) Q.2.2.1 Q.2.2.2 (fun h' => h ((hcond0_0 t).mp h'))).trans
    (blk_congr m (fun v x ga be g => gainB v x ga be g Q.2.2.1) c t)
  generalize outsAt0 m (ok m) c t.val t.isLt = P at e' ⊢
  subst e'
  dsimp only
  exact e
theorem outs_gain (c : Dev nD) (n : ℕ) : ∀ h : n < (cfgM m (ok m)).N, (outsAt0 m (ok m) c n h).2.2.1
    = gainA (xV m c) (gaV m c) (beV m c) (lnV m c) (gV m c) n := by
  have hN : (cfgM m (ok m)).N = 7 := N_0
  induction n with
  | zero => exact fun h => outs_gain_first m c ⟨0, h⟩ rfl
  | succ n ih =>
    intro h
    have hp : pt m ⟨n + 1, h⟩ = Fin.ofNat 7 (n + 1) := Fin.ext (Nat.mod_eq_of_lt (by omega)).symm
    refine (outs_gain_next m c ⟨n + 1, h⟩ (by show ¬(n + 1) % 7 = 0; omega)).trans ?_
    refine (congrArg (fun b => gainB (lnV m c (ix1 b)) (xB (xV m c) b) (gaV m c) (beV m c) (gB (gV m c) b) _) hp).trans ?_
    exact congrArg (gainB (lnV m c (ix1 (Fin.ofNat 7 (n + 1)))) (xB (xV m c) (Fin.ofNat 7 (n + 1))) (gaV m c) (beV m c) (gB (gV m c) (Fin.ofNat 7 (n + 1)))) (ih _)
theorem outs_shift_first (c : Dev nD) (t : Fin (cfgM m (ok m)).N) (h : t.val % 7 = 0) : (outsAt0 m (ok m) c t.val t.isLt).2.2.2
    = shiftB (lnV m c (ix1 (pt m t))) (xB (xV m c) (pt m t)) (gaV m c) (beV m c) (gB (gV m c) (pt m t)) k0_pay14 := by
  have e := (out_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) ((hcond0_0 t).mpr h)).trans (blk_congr m (fun v x ga be g => shiftB v x ga be g k0_pay14) c t)
  have e' := outsAt0_A m (ok m) c t h
  generalize outsAt0 m (ok m) c t.val t.isLt = P at e' ⊢
  subst e'
  dsimp only
  exact e
theorem outs_shift_next (c : Dev nD) (t : Fin (cfgM m (ok m)).N) (h : ¬t.val % 7 = 0) : (outsAt0 m (ok m) c t.val t.isLt).2.2.2
    = shiftB (lnV m c (ix1 (pt m t))) (xB (xV m c) (pt m t)) (gaV m c) (beV m c) (gB (gV m c) (pt m t)) (outsAt0 m (ok m) c (t.val - 1) (Nat.lt_of_le_of_lt (Nat.sub_le _ _) t.isLt)).2.2.2 := by
  have e' := outsAt0_B m (ok m) c t h
  generalize (outsAt0 m (ok m) c (t.val - 1) (Nat.lt_of_le_of_lt (Nat.sub_le _ _) t.isLt)) = Q at e' ⊢
  have e := (out_B_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (tbl m 0) Q.2.2.1 Q.2.2.2 (fun h' => h ((hcond0_0 t).mp h'))).trans
    (blk_congr m (fun v x ga be g => shiftB v x ga be g Q.2.2.2) c t)
  generalize outsAt0 m (ok m) c t.val t.isLt = P at e' ⊢
  subst e'
  dsimp only
  exact e
theorem outs_shift (c : Dev nD) (n : ℕ) : ∀ h : n < (cfgM m (ok m)).N, (outsAt0 m (ok m) c n h).2.2.2
    = shiftA (xV m c) (gaV m c) (beV m c) (lnV m c) (gV m c) n := by
  have hN : (cfgM m (ok m)).N = 7 := N_0
  induction n with
  | zero => exact fun h => outs_shift_first m c ⟨0, h⟩ rfl
  | succ n ih =>
    intro h
    have hp : pt m ⟨n + 1, h⟩ = Fin.ofNat 7 (n + 1) := Fin.ext (Nat.mod_eq_of_lt (by omega)).symm
    refine (outs_shift_next m c ⟨n + 1, h⟩ (by show ¬(n + 1) % 7 = 0; omega)).trans ?_
    refine (congrArg (fun b => shiftB (lnV m c (ix1 b)) (xB (xV m c) b) (gaV m c) (beV m c) (gB (gV m c) b) _) hp).trans ?_
    exact congrArg (shiftB (lnV m c (ix1 (Fin.ofNat 7 (n + 1)))) (xB (xV m c) (Fin.ofNat 7 (n + 1))) (gaV m c) (beV m c) (gB (gV m c) (Fin.ofNat 7 (n + 1)))) (ih _)

/-- The four result arrays. -/
abbrev codesR (c : Dev nD) : Buf (Elt F) ((c : Thread nD τ).loc main_v3_0) := codesA (xV m c) (gaV m c) (beV m c) (lnV m c) (gV m c)
abbrev scalesR (c : Dev nD) : Buf (Elt F) ((c : Thread nD τ).loc main_v3_1) := scalesA (xV m c) (gaV m c) (beV m c) (lnV m c) (gV m c)
abbrev gainR (c : Dev nD) : Buf (Elt F) ((c : Thread nD τ).loc main_v3_2) := gainA (xV m c) (gaV m c) (beV m c) (lnV m c) (gV m c) 6
abbrev shiftR (c : Dev nD) : Buf (Elt F) ((c : Thread nD τ).loc main_v3_3) := shiftA (xV m c) (gaV m c) (beV m c) (lnV m c) (gV m c) 6

/-- Window 4's block at a point lies at its sentence. -/
theorem emb_codes (t : Fin (cfgM m (ok m)).N) (j : S1x256x2048.Idx) :
    ((((cfgM m (ok m)).win 4).blk t).view.emb j : S7x256x2048.Idx) = ix3 (pt m t) (j 1) (j 2) := by
  obtain ⟨-, -, -, -, -, -, -, -, -, -, e0, e1, e2, -⟩ := idx_facts t
  have h0 : (j 0).val = 0 := Nat.lt_one_iff.mp (j 0).isLt
  refine funext fun a => Fin.ext ?_
  match a with
  | ⟨0, _⟩ => show cc0_transform_4 (grid0.coords t) 0 * 1 + 1 * (j 0).val = t.val; omega
  | ⟨1, _⟩ => show cc0_transform_4 (grid0.coords t) 1 * 256 + 1 * (j 1).val = (j 1).val; omega
  | ⟨2, _⟩ => show cc0_transform_4 (grid0.coords t) 2 * 2048 + 1 * (j 2).val = (j 2).val; omega

theorem cover_codes (i : S7x256x2048.Idx) :
    ∃ t : Fin (cfgM m (ok m)).N, ((cfgM m (ok m)).win 4).flush t = true ∧ i ∈ (((cfgM m (ok m)).win 4).blk t).view.set := by
  have ht : (i 0 : Nat) < (cfgM m (ok m)).N := lt_of_lt_of_eq (i 0).isLt (show 7 = (cfgM m (ok m)).N from N_0.symm)
  refine ⟨⟨(i 0 : Nat), ht⟩, flush0_4 (adm m (ok m)) _, ?_⟩
  have e : ((((cfgM m (ok m)).win 4).blk ⟨(i 0 : Nat), ht⟩).view.emb (ix3 0 (i 1) (i 2) : S1x256x2048.Idx) : S7x256x2048.Idx) = i :=
    (emb_codes m ⟨(i 0 : Nat), ht⟩ _).trans (funext fun a => by
      match a with
      | ⟨0, _⟩ => rfl
      | ⟨1, _⟩ => rfl
      | ⟨2, _⟩ => rfl)
  exact Eq.subst (motive := fun y : S7x256x2048.Idx => y ∈ (((cfgM m (ok m)).win 4).blk ⟨(i 0 : Nat), ht⟩).view.set) e (View.emb_mem_set _ _)

theorem final_codes (c : Dev nD) : (dats m (ok m) 0 c).arrAt 4 (cfgM m (ok m)).N = codesR m c := by
  refine (dats m (ok m) 0 c).arrAt_eq_of_cover 4 (codesR m c) (fun t _ => ?_) (cover_codes m)
  refine (congrArg (((cfgM m (ok m)).win 4).cut (grid0.coords t)) ((after0_4 m (ok m) c t).trans (outs_codes m c t))).trans (funext fun (j : S1x256x2048.Idx) => ?_)
  show codesB (lnV m c (ix1 (pt m t))) (xB (xV m c) (pt m t)) (gaV m c) (beV m c) (gB (gV m c) (pt m t)) j
    = codesA (xV m c) (gaV m c) (beV m c) (lnV m c) (gV m c) ((((cfgM m (ok m)).win 4).blk t).view.emb j)
  refine Eq.trans (congrArg (codesB (lnV m c (ix1 (pt m t))) (xB (xV m c) (pt m t)) (gaV m c) (beV m c) (gB (gV m c) (pt m t))) ?_)
    (congrArg (codesA (xV m c) (gaV m c) (beV m c) (lnV m c) (gV m c)) (emb_codes m t j)).symm
  refine funext fun a => ?_
  match a with
  | ⟨0, _⟩ => exact Fin.ext (Nat.lt_one_iff.mp (j 0).isLt)
  | ⟨1, _⟩ => rfl
  | ⟨2, _⟩ => rfl

/-- Window 5's block at a point lies at its sentence. -/
theorem emb_scales (t : Fin (cfgM m (ok m)).N) (j : S1x256x1.Idx) :
    ((((cfgM m (ok m)).win 5).blk t).view.emb j : S7x256x1.Idx) = ix3 (pt m t) (j 1) (j 2) := by
  obtain ⟨-, -, -, -, -, -, -, -, -, -, -, -, -, e0, e1, e2, -⟩ := idx_facts t
  have h0 : (j 0).val = 0 := Nat.lt_one_iff.mp (j 0).isLt
  refine funext fun a => Fin.ext ?_
  match a with
  | ⟨0, _⟩ => show cc0_transform_5 (grid0.coords t) 0 * 1 + 1 * (j 0).val = t.val; omega
  | ⟨1, _⟩ => show cc0_transform_5 (grid0.coords t) 1 * 256 + 1 * (j 1).val = (j 1).val; omega
  | ⟨2, _⟩ => show cc0_transform_5 (grid0.coords t) 2 * 1 + 1 * (j 2).val = (j 2).val; omega

theorem cover_scales (i : S7x256x1.Idx) :
    ∃ t : Fin (cfgM m (ok m)).N, ((cfgM m (ok m)).win 5).flush t = true ∧ i ∈ (((cfgM m (ok m)).win 5).blk t).view.set := by
  have ht : (i 0 : Nat) < (cfgM m (ok m)).N := lt_of_lt_of_eq (i 0).isLt (show 7 = (cfgM m (ok m)).N from N_0.symm)
  refine ⟨⟨(i 0 : Nat), ht⟩, flush0_5 (adm m (ok m)) _, ?_⟩
  have e : ((((cfgM m (ok m)).win 5).blk ⟨(i 0 : Nat), ht⟩).view.emb (ix3 0 (i 1) (i 2) : S1x256x1.Idx) : S7x256x1.Idx) = i :=
    (emb_scales m ⟨(i 0 : Nat), ht⟩ _).trans (funext fun a => by
      match a with
      | ⟨0, _⟩ => rfl
      | ⟨1, _⟩ => rfl
      | ⟨2, _⟩ => rfl)
  exact Eq.subst (motive := fun y : S7x256x1.Idx => y ∈ (((cfgM m (ok m)).win 5).blk ⟨(i 0 : Nat), ht⟩).view.set) e (View.emb_mem_set _ _)

theorem final_scales (c : Dev nD) : (dats m (ok m) 0 c).arrAt 5 (cfgM m (ok m)).N = scalesR m c := by
  refine (dats m (ok m) 0 c).arrAt_eq_of_cover 5 (scalesR m c) (fun t _ => ?_) (cover_scales m)
  refine (congrArg (((cfgM m (ok m)).win 5).cut (grid0.coords t)) ((after0_5 m (ok m) c t).trans (outs_scales m c t))).trans (funext fun (j : S1x256x1.Idx) => ?_)
  show scalesB (lnV m c (ix1 (pt m t))) (xB (xV m c) (pt m t)) (gaV m c) (beV m c) (gB (gV m c) (pt m t)) j
    = scalesA (xV m c) (gaV m c) (beV m c) (lnV m c) (gV m c) ((((cfgM m (ok m)).win 5).blk t).view.emb j)
  refine Eq.trans (congrArg (scalesB (lnV m c (ix1 (pt m t))) (xB (xV m c) (pt m t)) (gaV m c) (beV m c) (gB (gV m c) (pt m t))) ?_)
    (congrArg (scalesA (xV m c) (gaV m c) (beV m c) (lnV m c) (gV m c)) (emb_scales m t j)).symm
  refine funext fun a => ?_
  match a with
  | ⟨0, _⟩ => exact Fin.ext (Nat.lt_one_iff.mp (j 0).isLt)
  | ⟨1, _⟩ => rfl
  | ⟨2, _⟩ => rfl

/-- Window 6's block is its whole row. -/
theorem emb_gain (t : Fin (cfgM m (ok m)).N) (j : S1x2048.Idx) : ((((cfgM m (ok m)).win 6).blk t).view.emb j : S1x2048.Idx) = j := by
  obtain ⟨-, -, -, -, -, -, -, -, -, -, -, -, -, -, -, -, e0, e1, -⟩ := idx_facts t
  refine funext fun a => Fin.ext ?_
  match a with
  | ⟨0, _⟩ => show cc0_transform_6 (grid0.coords t) 0 * 1 + 1 * (j 0).val = (j 0).val; omega
  | ⟨1, _⟩ => show cc0_transform_6 (grid0.coords t) 1 * 2048 + 1 * (j 1).val = (j 1).val; omega

theorem final_gain (c : Dev nD) : (dats m (ok m) 0 c).arrAt 6 (cfgM m (ok m)).N = gainR m c := by
  have ht : 6 < (cfgM m (ok m)).N := lt_of_lt_of_eq (by decide : 6 < 7) (show 7 = (cfgM m (ok m)).N from N_0.symm)
  refine (dats m (ok m) 0 c).arrAt_eq_of_cover 6 (gainR m c) (fun t hf => ?_) (fun (i : S1x2048.Idx) => ⟨⟨6, ht⟩, (flush0_6 (adm m (ok m)) _).mpr rfl, ?_⟩)
  · have h6 : t.val = 6 := by have := (flush0_6 (adm m (ok m)) t).mp hf; have := (pt m t).isLt; have h : (pt m t).val = t.val := rfl; omega
    have h := (after0_6 m (ok m) c t).trans (outs_gain m c t.val t.isLt)
    refine (congrArg (((cfgM m (ok m)).win 6).cut (grid0.coords t)) h).trans (funext fun (j : S1x2048.Idx) => ?_)
    show gainA (xV m c) (gaV m c) (beV m c) (lnV m c) (gV m c) t.val j
      = gainA (xV m c) (gaV m c) (beV m c) (lnV m c) (gV m c) 6 ((((cfgM m (ok m)).win 6).blk t).view.emb j)
    rw [h6]
    exact (congrArg (gainA (xV m c) (gaV m c) (beV m c) (lnV m c) (gV m c) 6) (emb_gain m t j)).symm
  · exact Eq.subst (motive := fun y : S1x2048.Idx => y ∈ (((cfgM m (ok m)).win 6).blk ⟨6, ht⟩).view.set) (emb_gain m ⟨6, ht⟩ i) (View.emb_mem_set _ _)

/-- Window 7's block is its whole row. -/
theorem emb_shift (t : Fin (cfgM m (ok m)).N) (j : S1x2048.Idx) : ((((cfgM m (ok m)).win 7).blk t).view.emb j : S1x2048.Idx) = j := by
  obtain ⟨-, -, -, -, -, -, -, -, -, -, -, -, -, -, -, -, -, -, e0, e1⟩ := idx_facts t
  refine funext fun a => Fin.ext ?_
  match a with
  | ⟨0, _⟩ => show cc0_transform_7 (grid0.coords t) 0 * 1 + 1 * (j 0).val = (j 0).val; omega
  | ⟨1, _⟩ => show cc0_transform_7 (grid0.coords t) 1 * 2048 + 1 * (j 1).val = (j 1).val; omega

theorem final_shift (c : Dev nD) : (dats m (ok m) 0 c).arrAt 7 (cfgM m (ok m)).N = shiftR m c := by
  have ht : 6 < (cfgM m (ok m)).N := lt_of_lt_of_eq (by decide : 6 < 7) (show 7 = (cfgM m (ok m)).N from N_0.symm)
  refine (dats m (ok m) 0 c).arrAt_eq_of_cover 7 (shiftR m c) (fun t hf => ?_) (fun (i : S1x2048.Idx) => ⟨⟨6, ht⟩, (flush0_7 (adm m (ok m)) _).mpr rfl, ?_⟩)
  · have h6 : t.val = 6 := by have := (flush0_7 (adm m (ok m)) t).mp hf; have := (pt m t).isLt; have h : (pt m t).val = t.val := rfl; omega
    have h := (after0_7 m (ok m) c t).trans (outs_shift m c t.val t.isLt)
    refine (congrArg (((cfgM m (ok m)).win 7).cut (grid0.coords t)) h).trans (funext fun (j : S1x2048.Idx) => ?_)
    show shiftA (xV m c) (gaV m c) (beV m c) (lnV m c) (gV m c) t.val j
      = shiftA (xV m c) (gaV m c) (beV m c) (lnV m c) (gV m c) 6 ((((cfgM m (ok m)).win 7).blk t).view.emb j)
    rw [h6]
    exact (congrArg (shiftA (xV m c) (gaV m c) (beV m c) (lnV m c) (gV m c) 6) (emb_shift m t j)).symm
  · exact Eq.subst (motive := fun y : S1x2048.Idx => y ∈ (((cfgM m (ok m)).win 7).blk ⟨6, ht⟩).view.set) (emb_shift m ⟨6, ht⟩ i) (View.emb_mem_set _ _)

/-- The rows the region finds, of the arguments. -/
theorem gaV_apply (c : Dev nD) (k : Fin 2048) : gaV m c (ix2 0 k) = m ((c : Thread nD τ).loc main_arg1) (ix1 k) := by
  unfold gaV V
  after_reads_at
theorem beV_apply (c : Dev nD) (k : Fin 2048) : beV m c (ix2 0 k) = m ((c : Thread nD τ).loc main_arg2) (ix1 k) := by
  unfold beV V
  after_reads_at
theorem gV_apply (c : Dev nD) (b : Fin 7) (k : Fin 2048) : gV m c (ix3 b 0 k) = m ((c : Thread nD τ).loc main_arg4) (ix2 b k) := by
  unfold gV V
  after_reads_at

end Cert.WholeIdeal.LnV

end
-- ==== Proof.WholeBridge.lean ====
/-
  The first call of the whole kernel computes from its blocks what the layer norm's kernel alone computes, and the two
  preconditions are one: each pair is the same term.
-/
module

public import proofs.«01_k».proof.Proof.WholeIdealLn
public import proofs.«01_k».proof.Proof.LnKernel
public import proofs.«01_k».proof.Proof.LnPreFacts
public import proofs.«01_k».proof.Pre_whole_in_domain

@[expose] public section

set_option maxRecDepth 16384

noncomputable section

namespace Cert.WholeBridge

open Idealize.ShloMosaic

theorem facts : Cert.Pre_whole_in_domain.Facts := by
  constructor <;> decide

variable (x : Vec Ideal Cert.LnIdeal.S7x256x2048 .bf16) (ka kb : Vec Ideal Cert.LnIdeal.S1x2048 .f32) (ln : Vec Ideal Cert.LnIdeal.S7 .i32)
  (kg : Vec Ideal Cert.LnIdeal.S7x1x2048 .f32)

theorem codes : Cert.WholeIdeal.LnV.codesA x ka kb ln kg = Cert.LnIdeal.Run.codesA x ka kb ln kg := rfl
theorem scales : Cert.WholeIdeal.LnV.scalesA x ka kb ln kg = Cert.LnIdeal.Run.scalesA x ka kb ln kg := rfl
theorem gain : ∀ n, Cert.WholeIdeal.LnV.gainA x ka kb ln kg n = Cert.LnIdeal.Run.gainA x ka kb ln kg n
  | 0 => rfl
  | n + 1 => by
    show Cert.WholeIdeal.LnBody.gainB _ _ _ _ _ (Cert.WholeIdeal.LnV.gainA x ka kb ln kg n) = _
    rw [gain n]
    rfl
theorem shift : ∀ n, Cert.WholeIdeal.LnV.shiftA x ka kb ln kg n = Cert.LnIdeal.Run.shiftA x ka kb ln kg n
  | 0 => rfl
  | n + 1 => by
    show Cert.WholeIdeal.LnBody.shiftB _ _ _ _ _ (Cert.WholeIdeal.LnV.shiftA x ka kb ln kg n) = _
    rw [shift n]
    rfl

theorem pre [h : Cert.Pre_whole_in_domain.Facts] [h' : Cert.Pre_in_domain.Facts] (ga be : FVec Ideal Cert.LnIdeal.S2048 .f32)
    (g : FVec Ideal Cert.Pre_in_domain.S7x2048 .f32)
    (w : FVec Ideal Cert.Pre_whole_in_domain.S5632x2048 .fp8e4m3) (ws : FVec Ideal Cert.Pre_whole_in_domain.S5632 .f32) :
    Cert.Pre_whole_in_domain.fn (F := Ideal) x ga be ln g w ws = Cert.Pre_in_domain.fn (F := Ideal) x ga be ln g := rfl

end Cert.WholeBridge

end
-- ==== Proof.WholeIdealMm.lean ====
/-
  The fp8 product as the whole kernel's second call leaves it, at the ideal instance: one entry of a point's block, and the
  blocks put together into the array.
-/
module

public import proofs.«01_k».proof.Defs
public import proofs.«01_k».proof.Proof.WholeIdealBody1
public import Idealize.ShloMosaic.Lib.Pointwise
public import Idealize.ShloMosaic.Lib.Pipeline.Value
public import Idealize.ShloMosaic.Lib.StableHlo.ReadAt

@[expose] public section

set_option maxRecDepth 16384

noncomputable section

namespace Cert.WholeIdeal.Prod

open Cert.WholeIdeal Cert.WholeIdeal.Gen Cert.WholeIdeal.R1 Idealize.ShloMosaic Idealize.ShloMosaic.TcCoe Idealize.SL.Sem
open Idealize.ShloMosaic.Pipeline (Dat)

variable (m : Dev nD → Valuation τ sig (Elt Ideal))

theorem hz : (![0, 0] : Fin 2 → Nat) = fun _ => 0 := funext fun a => by fin_cases a <;> rfl

/-- One entry of the block a grid point stores: the row of codes times the column's weight codes, times the two scales. -/
theorem pay_apply (a : Vec Ideal S1792x2048 .fp8e5m2) (w : Vec Ideal S512x2048 .fp8e4m3) (s : Vec Ideal S1792x1 .f32)
    (ws : Vec Ideal S1x512 .f32) (j : S1792x512.Idx) :
    k1_pay1 a w s ws j = (∑ k : Fin 2048, a (ix2 (j 0) k) * w (ix2 (j 1) k)) * (s (ix2 (j 0) 0) * ws (ix2 0 (j 1))) := by
  idx_vars j
  pointwise [k1_pay1]

/-- The product as one array: entry `(r, n)` is row `r` of the codes times row `n` of the weight codes, times the scales. -/
def prod (a : Vec Ideal S1792x2048 .fp8e5m2) (w : Vec Ideal S5632x2048 .fp8e4m3) (s : Vec Ideal S1792x1 .f32)
    (ws : Vec Ideal S1x5632 .f32) : Vec Ideal S1792x5632 .bf16 := fun i =>
  (∑ k : Fin 2048, a (ix2 (i 0) k) * w (ix2 (i 1) k)) * (s (ix2 (i 0) 0) * ws (ix2 0 (i 1)))

/-- Where each window's block lies at a grid point: the codes and their scales whole, the weights, their scales and the
    result at tile `t`. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- The arrays the region finds. -/
abbrev codes (c : Dev nD) : Vec Ideal S1792x2048 .fp8e5m2 := V m c main_v4
abbrev weights (c : Dev nD) : Vec Ideal S5632x2048 .fp8e4m3 := V m c main_arg5
abbrev scales (c : Dev nD) : Vec Ideal S1792x1 .f32 := V m c main_v5
abbrev wscales (c : Dev nD) : Vec Ideal S1x5632 .f32 := V m c main_v6

/-- The result array. -/
abbrev result (c : Dev nD) : Buf (Elt Ideal) ((c : Thread nD τ).loc main_v7) :=
  prod (codes m c) (weights m c) (scales m c) (wscales m c)

/-- What a point writes back is its block of the product. -/
theorem flushed_eq (c : Dev nD) (t : Fin cfg1.N) :
    (dats m 0 c).flushed 4 t = ((cfg1.win 4).blk t).view.read (Elt Ideal) (result m c) := by
  obtain ⟨e00, e01, e10, e11, e20, e21, e30, e31, e40, e41⟩ := idx_facts t
  show (cfg1.win 4).cut (grid1.coords t) ((dats m 0 c).after 4 t) = _
  rw [after0_4]
  unfold out0_4
  rw [View.canon_unit_zero hz, View.ld_unit_zero hz, View.ld_unit_zero hz, View.ld_unit_zero hz, View.ld_unit_zero hz]
  funext j
  rw [View.read_apply]
  show k1_pay1 _ _ _ _ j = _
  rw [pay_apply]
  have h0 : ∀ k : Fin 2048, (iblk m c 0 t : Vec Ideal S1792x2048 .fp8e5m2) (ix2 (j 0) k)
      = codes m c (ix2 ((((cfg1.win 4).blk t).view.emb j) 0) k) := fun k => by
    show V m c main_v4 (((cfg1.win 0).blk t).view.emb _) = _
    refine congrArg _ (funext fun a => Fin.ext ?_)
    match a with
    | ⟨0, _⟩ => show win1_0.index t 0 * 1792 + 1 * (j 0).val = win1_4.index t 0 * 1792 + 1 * (j 0).val; rw [e00, e40]
    | ⟨1, _⟩ => show win1_0.index t 1 * 2048 + 1 * k.val = k.val; rw [e01]; omega
  have h1 : ∀ k : Fin 2048, (iblk m c 1 t : Vec Ideal S512x2048 .fp8e4m3) (ix2 (j 1) k)
      = weights m c (ix2 ((((cfg1.win 4).blk t).view.emb j) 1) k) := fun k => by
    show V m c main_arg5 (((cfg1.win 1).blk t).view.emb _) = _
    refine congrArg _ (funext fun a => Fin.ext ?_)
    match a with
    | ⟨0, _⟩ => show win1_1.index t 0 * 512 + 1 * (j 1).val = win1_4.index t 1 * 512 + 1 * (j 1).val; rw [e10, e41]
    | ⟨1, _⟩ => show win1_1.index t 1 * 2048 + 1 * k.val = k.val; rw [e11]; omega
  have h2 : (iblk m c 2 t : Vec Ideal S1792x1 .f32) (ix2 (j 0) 0)
      = scales m c (ix2 ((((cfg1.win 4).blk t).view.emb j) 0) 0) := by
    show V m c main_v5 (((cfg1.win 2).blk t).view.emb _) = _
    refine congrArg _ (funext fun a => Fin.ext ?_)
    match a with
    | ⟨0, _⟩ => show win1_2.index t 0 * 1792 + 1 * (j 0).val = win1_4.index t 0 * 1792 + 1 * (j 0).val; rw [e20, e40]
    | ⟨1, _⟩ => show win1_2.index t 1 * 1 + 1 * 0 = 0; rw [e21]
  have h3 : (iblk m c 3 t : Vec Ideal S1x512 .f32) (ix2 0 (j 1))
      = wscales m c (ix2 0 ((((cfg1.win 4).blk t).view.emb j) 1)) := by
    show V m c main_v6 (((cfg1.win 3).blk t).view.emb _) = _
    refine congrArg _ (funext fun a => Fin.ext ?_)
    match a with
    | ⟨0, _⟩ => show win1_3.index t 0 * 1 + 1 * 0 = 0; rw [e30]
    | ⟨1, _⟩ => show win1_3.index t 1 * 512 + 1 * (j 1).val = win1_4.index t 1 * 512 + 1 * (j 1).val; rw [e31, e41]
  exact congrArg₂ (fun x y : EReal => x * y)
    (Finset.sum_congr rfl fun k _ => congrArg₂ (fun x y : EReal => x * y) (h0 k) (h1 k))
    (congrArg₂ (fun x y : EReal => x * y) h2 h3)

/-- Every entry of the result lies in the block of its tile of 512 columns. -/
theorem cover (i : S1792x5632.Idx) :
    ∃ t : Fin cfg1.N, (cfg1.win 4).flush t = true ∧ i ∈ ((cfg1.win 4).blk t).view.set := by
  have h0 : (i 0 : Nat) < 1792 := (i 0).isLt
  have h1 : (i 1 : Nat) < 5632 := (i 1).isLt
  have hN : cfg1.N = 11 := N_1
  have ht : (i 1 : Nat) / 512 < cfg1.N := by omega
  obtain ⟨-, -, -, -, -, -, -, -, e40, e41⟩ := idx_facts ⟨(i 1 : Nat) / 512, ht⟩
  refine ⟨⟨(i 1 : Nat) / 512, ht⟩, flush1_4 _, ?_⟩
  show i ∈ ((View.whole main_v7).slice (win1_4.rect ⟨(i 1 : Nat) / 512, ht⟩)).set
  rw [View.set_slice_whole, Rect.mem_set_unit]
  intro a
  match a with
  | ⟨0, _⟩ =>
    show win1_4.index _ 0 * 1792 ≤ (i 0 : Nat) ∧ (i 0 : Nat) < win1_4.index _ 0 * 1792 + 1792
    rw [e40]; omega
  | ⟨1, _⟩ =>
    show win1_4.index _ 1 * 512 ≤ (i 1 : Nat) ∧ (i 1 : Nat) < win1_4.index _ 1 * 512 + 512
    rw [e41]; dsimp only; omega

/-- So the result array ends as the product. -/
theorem final (c : Dev nD) : (dats m 0 c).arrAt 4 cfg1.N = result m c :=
  (dats m 0 c).arrAt_eq_of_cover 4 (result m c) (fun t _ => flushed_eq m c t) cover

end Cert.WholeIdeal.Prod

end
-- ==== Proof.WholeRefRun.lean ====
/-
  The whole kernel's reference: what its host part hands the last call, as the named functions of the arguments.
-/
module

public import proofs.«01_k».proof.Proof.LnRefFn
public import proofs.«01_k».proof.Proof.Gen.WholeReferenceIdeal.Frame
public import Idealize.ShloMosaic.Lib.StableHlo.ReadAt
public import Idealize.ShloMosaic.Lib.Pointwise

@[expose] public section

set_option maxRecDepth 16384

noncomputable section

namespace Cert.WholeReferenceIdeal.Ref

open Cert.WholeReferenceIdeal Cert.WholeReferenceIdeal.Gen Cert.LnReferenceIdeal.Ref Idealize.ShloMosaic Idealize.ShloMosaic.TcCoe Idealize.SL.Sem

variable {F : FTy → Type} [FloatOps F]
variable (m : (ℓ : Loc nD τ sig) → Buf (Elt F) ℓ) (ρ : Dev nD → PrngReg)

abbrev b0 (c : Dev nD) : FVec F S7x256x2048 .bf16 := m ((c : Thread nD τ).loc main_arg0)
abbrev b1 (c : Dev nD) : FVec F S2048 .f32 := m ((c : Thread nD τ).loc main_arg1)
abbrev b2 (c : Dev nD) : FVec F S2048 .f32 := m ((c : Thread nD τ).loc main_arg2)
abbrev b3 (c : Dev nD) : IVec S7 32 := m ((c : Thread nD τ).loc main_arg3)
abbrev b4 (c : Dev nD) : FVec F S7x2048 .f32 := m ((c : Thread nD τ).loc main_arg4)
abbrev b5 (c : Dev nD) : FVec F S5632x2048 .fp8e4m3 := m ((c : Thread nD τ).loc main_arg5)
abbrev b6 (c : Dev nD) : FVec F S5632 .f32 := m ((c : Thread nD τ).loc main_arg6)

theorem V_gain (c : Dev nD) : (V m c main_v77 : FVec F S1x2048 .f32) = dgA (b0 m c) (b1 m c) (b2 m c) (b3 m c) (b4 m c) := by
  unfold V
  after_reads_simp
  rfl
theorem V_shift (c : Dev nD) : (V m c main_v79 : FVec F S1x2048 .f32) = dbA (b0 m c) (b1 m c) (b2 m c) (b3 m c) (b4 m c) := by
  unfold V
  after_reads_simp
  rfl
theorem V_scale (c : Dev nD) : (V m c main_v102 : FVec F S7x256x1 .f32) = scA (b0 m c) (b1 m c) (b2 m c) (b3 m c) (b4 m c) := by
  unfold V
  after_reads_simp
  simp -implicitDefEqProofs only [StableHlo.TRef.toBuf, StableHlo.TRef.ofBuf, cast_cast, cast_eq, id]
  rfl
/-- The rows the last call casts, the scales as rows, and the weights' scales as one row. -/
theorem V_rows (c : Dev nD) : (V m c main_v106 : FVec F S1792x2048 .f32)
    = shapeCast S1792x2048 (vvA (b0 m c) (b1 m c) (b2 m c) (b3 m c) (b4 m c)) shapeCasts_S7x256x2048_S1792x2048 := by
  unfold V
  after_reads_simp
  simp -implicitDefEqProofs only [StableHlo.TRef.toBuf, StableHlo.TRef.ofBuf, cast_cast, cast_eq, id]
  rfl
theorem V_srows (c : Dev nD) : (V m c main_v107 : FVec F S1792x1 .f32)
    = shapeCast S1792x1 (scA (b0 m c) (b1 m c) (b2 m c) (b3 m c) (b4 m c)) shapeCasts_S7x256x1_S1792x1 := by
  unfold V
  after_reads_simp
  simp -implicitDefEqProofs only [StableHlo.TRef.toBuf, StableHlo.TRef.ofBuf, cast_cast, cast_eq, id]
  rfl
theorem V_wrow (c : Dev nD) : (V m c main_v108 : FVec F S1x5632 .f32) = broadcastInDim S1x5632 ![1] bcast_S5632_S1x5632_1 (b6 m c) := by
  unfold V
  after_reads_simp

end Cert.WholeReferenceIdeal.Ref

end
-- ==== Proof.WholeRefEnd.lean ====
/-
  The whole kernel's reference: its run ends with its five results, each as a function of the arguments.
-/
module

public import proofs.«01_k».proof.Proof.WholeRefRun
public import Idealize.ShloMosaic.Lib.Pipeline.Value

@[expose] public section

set_option maxRecDepth 16384

noncomputable section

namespace Cert.WholeReferenceIdeal.Ref

open Cert.WholeReferenceIdeal Cert.WholeReferenceIdeal.Gen Cert.LnReferenceIdeal.Ref Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

theorem eq2 {a b : ℕ} (i : (⟨2, ![a, b]⟩ : Shape).Idx) : i = ix2 (i 0) (i 1) := by
  funext k
  match k with
  | ⟨0, _⟩ => rfl
  | ⟨1, _⟩ => rfl
theorem eq3 {a b d : ℕ} (i : (⟨3, ![a, b, d]⟩ : Shape).Idx) : i = ix3 (i 0) (i 1) (i 2) := by
  funext k
  match k with
  | ⟨0, _⟩ => rfl
  | ⟨1, _⟩ => rfl
  | ⟨2, _⟩ => rfl

/-! ## The last call's blocks are its arrays -/

theorem idx_zero : ∀ t : Fin cfg0.N, ∀ a : Fin 2, win0_0.index t a = 0 ∧ win0_1.index t a = 0 ∧ win0_2.index t a = 0 ∧ win0_3.index t a = 0
    ∧ win0_4.index t a = 0 ∧ win0_5.index t a = 0 :=
  (by decide +kernel : ∀ t : Fin grid0.N, _)

theorem emb0 (t : Fin cfg0.N) (j : S1792x2048.Idx) : (((cfg0.win 0).blk t).view.emb j : S1792x2048.Idx) = j := by
  refine funext fun a => Fin.ext ?_
  show win0_0.index t a * S1792x2048.size a + 1 * (j a).val = (j a).val
  rw [(idx_zero t a).1]; omega
theorem emb1 (t : Fin cfg0.N) (j : S5632x2048.Idx) : (((cfg0.win 1).blk t).view.emb j : S5632x2048.Idx) = j := by
  refine funext fun a => Fin.ext ?_
  show win0_1.index t a * S5632x2048.size a + 1 * (j a).val = (j a).val
  rw [(idx_zero t a).2.1]; omega
theorem emb2 (t : Fin cfg0.N) (j : S1792x1.Idx) : (((cfg0.win 2).blk t).view.emb j : S1792x1.Idx) = j := by
  refine funext fun a => Fin.ext ?_
  show win0_2.index t a * S1792x1.size a + 1 * (j a).val = (j a).val
  rw [(idx_zero t a).2.2.1]; omega
theorem emb3 (t : Fin cfg0.N) (j : S1x5632.Idx) : (((cfg0.win 3).blk t).view.emb j : S1x5632.Idx) = j := by
  refine funext fun a => Fin.ext ?_
  show win0_3.index t a * S1x5632.size a + 1 * (j a).val = (j a).val
  rw [(idx_zero t a).2.2.2.1]; omega
theorem emb4 (t : Fin cfg0.N) (j : S1792x2048.Idx) : (((cfg0.win 4).blk t).view.emb j : S1792x2048.Idx) = j := by
  refine funext fun a => Fin.ext ?_
  show win0_4.index t a * S1792x2048.size a + 1 * (j a).val = (j a).val
  rw [(idx_zero t a).2.2.2.2.1]; omega
theorem emb5 (t : Fin cfg0.N) (j : S1792x5632.Idx) : (((cfg0.win 5).blk t).view.emb j : S1792x5632.Idx) = j := by
  refine funext fun a => Fin.ext ?_
  show win0_5.index t a * S1792x5632.size a + 1 * (j a).val = (j a).val
  rw [(idx_zero t a).2.2.2.2.2]; omega

/-- The arrays the last call finds. -/
def rowsR (c : Dev nD) : Vec Ideal S1792x2048 .f32 := V m c main_v106
def weightsR (c : Dev nD) : Vec Ideal S5632x2048 .fp8e4m3 := V m c main_arg5
def srowsR (c : Dev nD) : Vec Ideal S1792x1 .f32 := V m c main_v107
def wrowR (c : Dev nD) : Vec Ideal S1x5632 .f32 := V m c main_v108

section
variable (c : Dev nD) (W : (b : Ref sig .tc) → Buf (Elt Ideal) ((c : Thread nD τ).loc b)) (t : Fin cfg0.N)

theorem blk0 : (((cfg0.win 0).blk t).view.read (Elt Ideal) (W (Pipeline.arrRef spec0 0)) : Vec Ideal S1792x2048 .f32) = W main_v106 := by
  funext j
  show W main_v106 (((cfg0.win 0).blk t).view.emb j) = _
  exact congrArg (W main_v106) (emb0 t j)
theorem blk1 : (((cfg0.win 1).blk t).view.read (Elt Ideal) (W (Pipeline.arrRef spec0 1)) : Vec Ideal S5632x2048 .fp8e4m3) = W main_arg5 := by
  funext j
  show W main_arg5 (((cfg0.win 1).blk t).view.emb j) = _
  exact congrArg (W main_arg5) (emb1 t j)
theorem blk2 : (((cfg0.win 2).blk t).view.read (Elt Ideal) (W (Pipeline.arrRef spec0 2)) : Vec Ideal S1792x1 .f32) = W main_v107 := by
  funext j
  show W main_v107 (((cfg0.win 2).blk t).view.emb j) = _
  exact congrArg (W main_v107) (emb2 t j)
theorem blk3 : (((cfg0.win 3).blk t).view.read (Elt Ideal) (W (Pipeline.arrRef spec0 3)) : Vec Ideal S1x5632 .f32) = W main_v108 := by
  funext j
  show W main_v108 (((cfg0.win 3).blk t).view.emb j) = _
  exact congrArg (W main_v108) (emb3 t j)

theorem iblk0 : (iblk m c 0 t : Vec Ideal S1792x2048 .f32) = rowsR m c := by
  unfold iblk rowsR
  exact blk0 c (V m c) t
theorem iblk1 : (iblk m c 1 t : Vec Ideal S5632x2048 .fp8e4m3) = weightsR m c := by
  unfold iblk weightsR
  exact blk1 c (V m c) t
theorem iblk2 : (iblk m c 2 t : Vec Ideal S1792x1 .f32) = srowsR m c := by
  unfold iblk srowsR
  exact blk2 c (V m c) t
theorem iblk3 : (iblk m c 3 t : Vec Ideal S1x5632 .f32) = wrowR m c := by
  unfold iblk wrowR
  exact blk3 c (V m c) t

theorem read4 (G : FVec Ideal S1792x2048 .fp8e5m2) (j : S1792x2048.Idx) :
    (((cfg0.win 4).blk t).view.read (Elt Ideal) (G : Buf (Elt Ideal) ((c : Thread nD τ).loc main_v109_0))) j = G j := by
  rw [View.read_apply]
  exact congrArg G (emb4 t j)
theorem read5 (G : FVec Ideal S1792x5632 .bf16) (j : S1792x5632.Idx) :
    (((cfg0.win 5).blk t).view.read (Elt Ideal) (G : Buf (Elt Ideal) ((c : Thread nD τ).loc main_v109_1))) j = G j := by
  rw [View.read_apply]
  exact congrArg G (emb5 t j)
end

/-! ## What the last call leaves -/

/-- The product as one array: entry `(r, n)` is row `r` of the codes times row `n` of the weight codes, times the scales. -/
def prod (a : Vec Ideal S1792x2048 .f32) (w : Vec Ideal S5632x2048 .fp8e4m3) (s : Vec Ideal S1792x1 .f32)
    (ws : Vec Ideal S1x5632 .f32) : Vec Ideal S1792x5632 .bf16 := fun i =>
  (∑ k : Fin 2048, a (ix2 (i 0) k) * w (ix2 (i 1) k)) * (s (ix2 (i 0) 0) * ws (ix2 0 (i 1)))

theorem pay1_apply (a : Vec Ideal S1792x2048 .f32) (j : S1792x2048.Idx) : k0_pay1 a j = a j := by
  idx_vars j
  pointwise [k0_pay1]
theorem pay2_apply (a : Vec Ideal S1792x2048 .f32) (w : Vec Ideal S5632x2048 .fp8e4m3) (s : Vec Ideal S1792x1 .f32)
    (ws : Vec Ideal S1x5632 .f32) (j : S1792x5632.Idx) : k0_pay2 a w s ws j = prod a w s ws j := by
  unfold prod
  idx_vars j
  pointwise [k0_pay2, k0_pay1]

theorem out4 (a : Vec Ideal S1792x2048 .f32) (w : Vec Ideal S5632x2048 .fp8e4m3) (s : Vec Ideal S1792x1 .f32) (ws : Vec Ideal S1x5632 .f32)
    (j : S1792x2048.Idx) : out0_4 a w s ws j = a j := by
  unfold out0_4
  rw [View.canon_unit_zero hz2, View.ld_unit_zero hz2]
  exact pay1_apply a j
theorem out5 (a : Vec Ideal S1792x2048 .f32) (w : Vec Ideal S5632x2048 .fp8e4m3) (s : Vec Ideal S1792x1 .f32) (ws : Vec Ideal S1x5632 .f32)
    (j : S1792x5632.Idx) : out0_5 a w s ws j = prod a w s ws j := by
  unfold out0_5
  rw [View.canon_unit_zero hz2, View.ld_unit_zero hz2, View.ld_unit_zero hz2, View.ld_unit_zero hz2, View.ld_unit_zero hz2]
  exact pay2_apply a w s ws j

/-- The codes: ideally the rows themselves. -/
def cutR (c : Dev nD) : Buf (Elt Ideal) ((c : Thread nD τ).loc main_v109_0) := rowsR m c
/-- The product. -/
def prodR (c : Dev nD) : Buf (Elt Ideal) ((c : Thread nD τ).loc main_v109_1) := prod (rowsR m c) (weightsR m c) (srowsR m c) (wrowR m c)

theorem flushed4 (c : Dev nD) (t : Fin cfg0.N) : (dats m 0 c).flushed 4 t = ((cfg0.win 4).blk t).view.read (Elt Ideal) (cutR m c) := by
  show (cfg0.win 4).cut (grid0.coords t) ((dats m 0 c).after 4 t) = _
  rw [after0_4]
  unfold cutR
  rw [iblk0 m c t, iblk1 m c t, iblk2 m c t, iblk3 m c t]
  generalize rowsR m c = A
  generalize weightsR m c = B
  generalize srowsR m c = C
  generalize wrowR m c = D
  funext j
  exact (out4 A B C D j).trans (read4 t A j).symm
theorem flushed5 (c : Dev nD) (t : Fin cfg0.N) : (dats m 0 c).flushed 5 t = ((cfg0.win 5).blk t).view.read (Elt Ideal) (prodR m c) := by
  show (cfg0.win 5).cut (grid0.coords t) ((dats m 0 c).after 5 t) = _
  rw [after0_5]
  unfold prodR
  rw [iblk0 m c t, iblk1 m c t, iblk2 m c t, iblk3 m c t]
  generalize rowsR m c = A
  generalize weightsR m c = B
  generalize srowsR m c = C
  generalize wrowR m c = D
  funext j
  exact (out5 A B C D j).trans (read5 t (prod A B C D) j).symm

theorem cover4 (i : S1792x2048.Idx) : ∃ t : Fin cfg0.N, (cfg0.win 4).flush t = true ∧ i ∈ ((cfg0.win 4).blk t).view.set := by
  have hN : cfg0.N = 1 := N_0
  have ht : 0 < cfg0.N := by omega
  refine ⟨⟨0, ht⟩, flush0_4 _, ?_⟩
  exact Eq.subst (motive := fun y : S1792x2048.Idx => y ∈ ((cfg0.win 4).blk ⟨0, ht⟩).view.set) (emb4 ⟨0, ht⟩ i) (View.emb_mem_set _ _)
theorem cover5 (i : S1792x5632.Idx) : ∃ t : Fin cfg0.N, (cfg0.win 5).flush t = true ∧ i ∈ ((cfg0.win 5).blk t).view.set := by
  have hN : cfg0.N = 1 := N_0
  have ht : 0 < cfg0.N := by omega
  refine ⟨⟨0, ht⟩, flush0_5 _, ?_⟩
  exact Eq.subst (motive := fun y : S1792x5632.Idx => y ∈ ((cfg0.win 5).blk ⟨0, ht⟩).view.set) (emb5 ⟨0, ht⟩ i) (View.emb_mem_set _ _)

theorem final4 (c : Dev nD) : (dats m 0 c).arrAt 4 cfg0.N = cutR m c :=
  (dats m 0 c).arrAt_eq_of_cover 4 (cutR m c) (fun t _ => flushed4 m c t) cover4
theorem final5 (c : Dev nD) : (dats m 0 c).arrAt 5 cfg0.N = prodR m c :=
  (dats m 0 c).arrAt_eq_of_cover 5 (prodR m c) (fun t _ => flushed5 m c t) cover5

/-! ## The results, of the arguments -/

/-- Rows back to sentences and tokens. -/
theorem back (v : FVec Ideal S7x256x2048 .f32) (h : S7x256x2048.ShapeCasts S1792x2048) (h' : S1792x2048.ShapeCasts S7x256x2048) :
    shapeCast S7x256x2048 (shapeCast S1792x2048 v h) h' = v := by
  funext i
  obtain ⟨b, s, l, rfl⟩ : ∃ (b : Fin 7) (s : Fin 256) (l : Fin 2048), i = ix3 b s l := ⟨i 0, i 1, i 2, eq3 i⟩
  pointwise

theorem row_at (v : FVec Ideal S7x256x2048 .f32) (h : S7x256x2048.ShapeCasts S1792x2048) (r : Fin 1792) (k : Fin 2048) :
    shapeCast S1792x2048 v h (ix2 r k) = v (ix3 ⟨r.val / 256, by omega⟩ ⟨r.val % 256, by omega⟩ k) := by
  pointwise
theorem srow_at (v : FVec Ideal S7x256x1 .f32) (h : S7x256x1.ShapeCasts S1792x1) (r : Fin 1792) :
    shapeCast S1792x1 v h (ix2 r 0) = v (ix3 ⟨r.val / 256, by omega⟩ ⟨r.val % 256, by omega⟩ 0) := by
  pointwise
theorem wrow_at (v : FVec Ideal S5632 .f32) (h : S5632.BroadcastsInDim S1x5632 ![1]) (n : Fin 5632) :
    broadcastInDim S1x5632 ![1] h v (ix2 0 n) = v (ix1 n) := by
  pointwise

/-- The product of the quantised rows with the weights, of the values cut, their scales, the weight codes and the weights' scales. -/
def daA (v : FVec Ideal S7x256x2048 .f32) (s : FVec Ideal S7x256x1 .f32) (w : FVec Ideal S5632x2048 .fp8e4m3) (ws : FVec Ideal S5632 .f32) :
    FVec Ideal S1792x5632 .bf16 := fun i =>
  (∑ k : Fin 2048, v (ix3 ⟨(i 0 : Nat) / 256, by have h : (i 0 : Nat) < 1792 := (i 0).isLt; omega⟩ ⟨(i 0 : Nat) % 256, by omega⟩ k) * w (ix2 (i 1) k))
    * (s (ix3 ⟨(i 0 : Nat) / 256, by have h : (i 0 : Nat) < 1792 := (i 0).isLt; omega⟩ ⟨(i 0 : Nat) % 256, by omega⟩ 0) * ws (ix1 (i 1)))

theorem prod_eq (v : FVec Ideal S7x256x2048 .f32) (s : FVec Ideal S7x256x1 .f32) (w : FVec Ideal S5632x2048 .fp8e4m3) (ws : FVec Ideal S5632 .f32)
    (h : S7x256x2048.ShapeCasts S1792x2048) (h' : S7x256x1.ShapeCasts S1792x1) (h'' : S5632.BroadcastsInDim S1x5632 ![1]) :
    prod (shapeCast S1792x2048 v h) w (shapeCast S1792x1 s h') (broadcastInDim S1x5632 ![1] h'' ws) = daA v s w ws := by
  funext i
  obtain ⟨r, n, rfl⟩ : ∃ (r : Fin 1792) (n : Fin 5632), i = ix2 r n := ⟨i 0, i 1, eq2 i⟩
  exact congrArg₂ (fun x y : EReal => x * y)
    (Finset.sum_congr rfl fun k _ => congrArg (fun x : EReal => x * w (ix2 n k)) (row_at v h r k))
    (congrArg₂ (fun x y : EReal => x * y) (srow_at s h' r) (wrow_at ws h'' n))

theorem da_eq (c : Dev nD) : prodR m c = daA (vvA (b0 m c) (b1 m c) (b2 m c) (b3 m c) (b4 m c)) (scA (b0 m c) (b1 m c) (b2 m c) (b3 m c) (b4 m c)) (b5 m c) (b6 m c) := by
  unfold prodR rowsR weightsR srowsR wrowR
  rw [V_rows, V_srows, V_wrow, V_main_arg5]
  exact prod_eq _ _ _ _ _ _ _

/-- The buffers after the last reshape: what no line after the call writes is as the call left it. -/
theorem W_keep (b : Ref sig .tc) (c : Dev nD) (hb : b ≠ main_v110) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-- The codes' reshape. -/
theorem W_codes (c : Dev nD) : (Pipeline.afterTail₀ cfgs (dats m) 0 (V0 m) [hostOps1] c main_v110 : FVec Ideal S7x256x2048 .fp8e5m2)
    = vvA (b0 m c) (b1 m c) (b2 m c) (b3 m c) (b4 m c) := by
  unfold Pipeline.afterTail₀
  generalize hX : Pipeline.withArrays (cfgs 0).spec c (V0 m c) (fun w => (dats m 0 c).arrAt w (cfgs 0).N) = X
  have h4 : X (Proc.devRef .tc main_v109_0) = cutR m c := by
    rw [← hX]
    exact (Pipeline.withArrays_arr spec0 launch0.win.arr_inj c (V0 m c) _ 4).trans (final4 m c)
  have e : (StableHlo.after (List.flatten [hostOps1]) X (Proc.devRef .tc main_v110) : FVec Ideal S7x256x2048 .fp8e5m2)
      = shapeCast S7x256x2048 (X (Proc.devRef .tc main_v109_0) : FVec Ideal S1792x2048 .fp8e5m2) shapeCasts_S1792x2048_S7x256x2048 := by
    after_reads_simp
    rfl
  refine e.trans ?_
  rw [h4]
  unfold cutR rowsR
  rw [V_rows]
  exact back _ _ _

/-- The run: the five results, the arguments unchanged. -/
theorem run : θ_run defs (onTc (τ := τ) (main (F := Ideal))) ⟨m, fun _ => 0, ρ⟩ fun r => ∀ c : Dev nD,
      (r.2.mem ((c : Thread nD τ).loc main_v109_1) = daA (vvA (b0 m c) (b1 m c) (b2 m c) (b3 m c) (b4 m c)) (scA (b0 m c) (b1 m c) (b2 m c) (b3 m c) (b4 m c)) (b5 m c) (b6 m c)
      ∧ r.2.mem ((c : Thread nD τ).loc main_v110) = (vvA (b0 m c) (b1 m c) (b2 m c) (b3 m c) (b4 m c) : FVec Ideal S7x256x2048 .f32)
      ∧ r.2.mem ((c : Thread nD τ).loc main_v102) = (scA (b0 m c) (b1 m c) (b2 m c) (b3 m c) (b4 m c) : FVec Ideal S7x256x1 .f32)
      ∧ r.2.mem ((c : Thread nD τ).loc main_v77) = (dgA (b0 m c) (b1 m c) (b2 m c) (b3 m c) (b4 m c) : FVec Ideal S1x2048 .f32)
      ∧ r.2.mem ((c : Thread nD τ).loc main_v79) = (dbA (b0 m c) (b1 m c) (b2 m c) (b3 m c) (b4 m c) : FVec Ideal S1x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨⟨((h.1 c).1 5).trans ((final5 m c).trans (da_eq m c)),
      ((h.1 c).2 main_v110 (Pipeline.mem_restRefs_of main_v110 (by decide) (by decide))).trans (W_codes m c),
      ((h.1 c).2 main_v102 (Pipeline.mem_restRefs_of main_v102 (by decide) (by decide))).trans ((W_keep m main_v102 c (by decide) (by decide)).trans (V_scale m c)),
      ((h.1 c).2 main_v77 (Pipeline.mem_restRefs_of main_v77 (by decide) (by decide))).trans ((W_keep m main_v77 c (by decide) (by decide)).trans (V_gain m c)),
      ((h.1 c).2 main_v79 (Pipeline.mem_restRefs_of main_v79 (by decide) (by decide))).trans ((W_keep m main_v79 c (by decide) (by decide)).trans (V_shift m c))⟩,
      h.2 c⟩)
    (θ_run_and (run_main m ρ) (unchanged m ρ))

end Cert.WholeReferenceIdeal.Ref

end
-- ==== Proof.WholeIdealEnd.lean ====
/-
  The whole kernel's run ends with its five results: the first call's four, and the product of the first two with the weights.
-/
module

public import proofs.«01_k».proof.Proof.WholeIdealRun
public import proofs.«01_k».proof.Proof.WholeIdealLn
public import proofs.«01_k».proof.Proof.WholeIdealMm
public import proofs.«01_k».proof.Proof.WholeRefEnd

@[expose] public section

set_option maxRecDepth 16384

noncomputable section

namespace Cert.WholeIdeal.End

open Cert.WholeIdeal Cert.WholeIdeal.Gen Cert.WholeIdeal.Run Idealize.ShloMosaic Idealize.ShloMosaic.TcCoe Idealize.SL.Sem

variable (m : (ℓ : Loc nD τ sig) → Buf (Elt Ideal) ℓ) (ρ : Dev nD → PrngReg)

/-- What the first call leaves. -/
theorem X2_codes (c : Dev nD) : X2 m c main_v3_0 = LnV.codesR m c :=
  (Pipeline.afterRegion_arr (R0.dats m (ok m) 0 c) (X1 m c) winFacts0.arr_inj 4).trans (LnV.final_codes m c)
theorem X2_scales (c : Dev nD) : X2 m c main_v3_1 = LnV.scalesR m c :=
  (Pipeline.afterRegion_arr (R0.dats m (ok m) 0 c) (X1 m c) winFacts0.arr_inj 5).trans (LnV.final_scales m c)
theorem X2_gain (c : Dev nD) : X2 m c main_v3_2 = LnV.gainR m c :=
  (Pipeline.afterRegion_arr (R0.dats m (ok m) 0 c) (X1 m c) winFacts0.arr_inj 6).trans (LnV.final_gain m c)
theorem X2_shift (c : Dev nD) : X2 m c main_v3_3 = LnV.shiftR m c :=
  (Pipeline.afterRegion_arr (R0.dats m (ok m) 0 c) (X1 m c) winFacts0.arr_inj 7).trans (LnV.final_shift m c)

/-- It stays to the end. -/
theorem X4_codes (c : Dev nD) : X4 m c main_v3_0 = LnV.codesR m c :=
  (X4_of m c main_v3_0 (by decide)).trans ((X3_of m c main_v3_0 (by decide)).trans (X2_codes m c))
theorem X4_scales (c : Dev nD) : X4 m c main_v3_1 = LnV.scalesR m c :=
  (X4_of m c main_v3_1 (by decide)).trans ((X3_of m c main_v3_1 (by decide)).trans (X2_scales m c))
theorem X4_gain (c : Dev nD) : X4 m c main_v3_2 = LnV.gainR m c :=
  (X4_of m c main_v3_2 (by decide)).trans ((X3_of m c main_v3_2 (by decide)).trans (X2_gain m c))
theorem X4_shift (c : Dev nD) : X4 m c main_v3_3 = LnV.shiftR m c :=
  (X4_of m c main_v3_3 (by decide)).trans ((X3_of m c main_v3_3 (by decide)).trans (X2_shift m c))

/-- What the second call finds: the codes and the scales as rows, the weights' codes, and their scales as one row. -/
theorem rows_at (v : FVec Ideal S7x256x2048 .fp8e5m2) (h : S7x256x2048.ShapeCasts S1792x2048) (r : Fin 1792) (k : Fin 2048) :
    shapeCast S1792x2048 v h (ix2 r k) = v (ix3 ⟨r.val / 256, by omega⟩ ⟨r.val % 256, by omega⟩ k) := by
  pointwise
theorem srows_at (v : FVec Ideal S7x256x1 .f32) (h : S7x256x1.ShapeCasts S1792x1) (r : Fin 1792) :
    shapeCast S1792x1 v h (ix2 r 0) = v (ix3 ⟨r.val / 256, by omega⟩ ⟨r.val % 256, by omega⟩ 0) := by
  pointwise

theorem X3_rows (c : Dev nD) (r : Fin 1792) (k : Fin 2048) : (X3 m c main_v4 : FVec Ideal S1792x2048 .fp8e5m2) (ix2 r k)
    = (LnV.codesR m c : FVec Ideal S7x256x2048 .fp8e5m2) (ix3 ⟨r.val / 256, by omega⟩ ⟨r.val % 256, by omega⟩ k) := by
  rw [← X2_codes]
  unfold X3
  generalize X2 m c = X
  after_reads_at
theorem X3_srows (c : Dev nD) (r : Fin 1792) : (X3 m c main_v5 : FVec Ideal S1792x1 .f32) (ix2 r 0)
    = (LnV.scalesR m c : FVec Ideal S7x256x1 .f32) (ix3 ⟨r.val / 256, by omega⟩ ⟨r.val % 256, by omega⟩ 0) := by
  rw [← X2_scales]
  unfold X3
  generalize X2 m c = X
  after_reads_at
theorem X2_arg6 (c : Dev nD) : X2 m c main_arg6 = m ((c : Thread nD τ).loc main_arg6) :=
  (X2_of m c main_arg6 (by decide)).trans (X1_of m c main_arg6 (by decide))
theorem X3_wrow (c : Dev nD) (n : Fin 5632) : (X3 m c main_v6 : FVec Ideal S1x5632 .f32) (ix2 0 n)
    = m ((c : Thread nD τ).loc main_arg6) (ix1 n) := by
  refine Eq.trans ?_ (congrFun (X2_arg6 m c) (ix1 n))
  unfold X3
  generalize X2 m c = X
  after_reads_at
theorem X3_weights (c : Dev nD) : X3 m c main_arg5 = m ((c : Thread nD τ).loc main_arg5) :=
  (X3_of m c main_arg5 (by decide)).trans ((X2_of m c main_arg5 (by decide)).trans (X1_of m c main_arg5 (by decide)))

/-- The product, of the codes, their scales, the weight codes and the weights' scales. -/
def daR (c : Dev nD) : Buf (Elt Ideal) ((c : Thread nD τ).loc main_v7) :=
  Cert.WholeReferenceIdeal.Ref.daA (LnV.codesR m c) (LnV.scalesR m c) (m ((c : Thread nD τ).loc main_arg5)) (m ((c : Thread nD τ).loc main_arg6))

theorem X4_da (c : Dev nD) : X4 m c main_v7 = daR m c := by
  refine (Pipeline.afterRegion_arr (R1.dats (X3 m) 0 c) (X3 m c) winFacts1.arr_inj 4).trans ((Prod.final (X3 m) c).trans ?_)
  unfold daR
  funext i
  obtain ⟨r, n, rfl⟩ : ∃ (r : Fin 1792) (n : Fin 5632), i = ix2 r n := ⟨i 0, i 1, Cert.WholeReferenceIdeal.Ref.eq2 i⟩
  exact congrArg₂ (fun x y : EReal => x * y)
    (Finset.sum_congr rfl fun k _ => congrArg₂ (fun x y : EReal => x * y) (X3_rows m c r k) (congrFun (X3_weights m c) (ix2 n k)))
    (congrArg₂ (fun x y : EReal => x * y) (X3_srows m c r) (X3_wrow m c n))

/-- The run: the five results, the arguments unchanged. -/
theorem run : θ_run defs (onTc (τ := τ) (main (F := Ideal))) ⟨m, fun _ => 0, ρ⟩ fun r => ∀ c : Dev nD,
      (r.2.mem ((c : Thread nD τ).loc main_v7) = daR m c
      ∧ r.2.mem ((c : Thread nD τ).loc main_v3_0) = LnV.codesR m c
      ∧ r.2.mem ((c : Thread nD τ).loc main_v3_1) = LnV.scalesR m c
      ∧ r.2.mem ((c : Thread nD τ).loc main_v3_2) = LnV.gainR m c
      ∧ r.2.mem ((c : Thread nD τ).loc main_v3_3) = LnV.shiftR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨⟨(h.1.1 c _ (mem_uc main_v7 rfl)).trans (X4_da m c),
      (h.1.1 c _ (mem_uc main_v3_0 rfl)).trans (X4_codes m c),
      (h.1.1 c _ (mem_uc main_v3_1 rfl)).trans (X4_scales m c),
      (h.1.1 c _ (mem_uc main_v3_2 rfl)).trans (X4_gain m c),
      (h.1.1 c _ (mem_uc main_v3_3 rfl)).trans (X4_shift m c)⟩, h.2.1 c⟩)
    (θ_run_and (Run.run m ρ) (Run.frame m ρ))

end Cert.WholeIdeal.End

end
-- ==== Proof.WholeClaim.lean ====
/-
  The whole kernel and its reference end with equal results, from equal arguments in the precondition's domain.
-/
module

public import proofs.«01_k».proof.Defs
public import proofs.«01_k».proof.Proof.LnEnds
public import proofs.«01_k».proof.Proof.WholeBridge
public import proofs.«01_k».proof.Proof.WholeIdealEnd

@[expose] public section

set_option maxRecDepth 16384

noncomputable section

namespace Cert.Proof.WholeClaim

open Idealize.ShloMosaic Idealize.ShloMosaic.TcCoe Idealize.SL.Sem

section
variable (m : (ℓ : Loc Cert.WholeIdeal.nD Cert.WholeIdeal.τ Cert.WholeIdeal.sig) → Buf (Elt Ideal) ℓ) (c : Dev Cert.WholeIdeal.nD)

/-- The kernel's arguments. -/
abbrev x : FVec Ideal Cert.LnReferenceIdeal.S7x256x2048 .bf16 := m ((c.tc : Thread Cert.WholeIdeal.nD Cert.WholeIdeal.τ).loc Cert.WholeIdeal.main_arg0)
abbrev ga : FVec Ideal Cert.LnReferenceIdeal.S2048 .f32 := m ((c.tc : Thread Cert.WholeIdeal.nD Cert.WholeIdeal.τ).loc Cert.WholeIdeal.main_arg1)
abbrev be : FVec Ideal Cert.LnReferenceIdeal.S2048 .f32 := m ((c.tc : Thread Cert.WholeIdeal.nD Cert.WholeIdeal.τ).loc Cert.WholeIdeal.main_arg2)
abbrev ln : IVec Cert.LnReferenceIdeal.S7 32 := m ((c.tc : Thread Cert.WholeIdeal.nD Cert.WholeIdeal.τ).loc Cert.WholeIdeal.main_arg3)
abbrev g : FVec Ideal Cert.LnReferenceIdeal.S7x2048 .f32 := m ((c.tc : Thread Cert.WholeIdeal.nD Cert.WholeIdeal.τ).loc Cert.WholeIdeal.main_arg4)
abbrev w : FVec Ideal Cert.WholeReferenceIdeal.S5632x2048 .fp8e4m3 := m ((c.tc : Thread Cert.WholeIdeal.nD Cert.WholeIdeal.τ).loc Cert.WholeIdeal.main_arg5)
abbrev ws : FVec Ideal Cert.WholeReferenceIdeal.S5632 .f32 := m ((c.tc : Thread Cert.WholeIdeal.nD Cert.WholeIdeal.τ).loc Cert.WholeIdeal.main_arg6)

theorem args : Cert.LnEnds.Args (ga m c) (be m c) (g m c) (Cert.WholeIdeal.LnV.gaV m c) (Cert.WholeIdeal.LnV.beV m c) (Cert.WholeIdeal.LnV.gV m c) :=
  ⟨Cert.WholeIdeal.LnV.gaV_apply m c, Cert.WholeIdeal.LnV.beV_apply m c, Cert.WholeIdeal.LnV.gV_apply m c⟩

theorem x_eq : Cert.WholeIdeal.LnV.xV m c = x m c := Cert.WholeIdeal.Run.X1_of m c Cert.WholeIdeal.main_arg0 (by decide)
theorem ln_eq : Cert.WholeIdeal.LnV.lnV m c = ln m c := Cert.WholeIdeal.Run.X1_of m c Cert.WholeIdeal.main_arg3 (by decide)

variable [Cert.Pre_in_domain.Facts] (D : Cert.LnPre.Dom (x m c) (ga m c) (be m c) (ln m c) (g m c))
include D

theorem codes : Cert.LnReferenceIdeal.Ref.vvA (x m c) (ga m c) (be m c) (ln m c) (g m c) = Cert.WholeIdeal.LnV.codesR m c := by
  refine (Cert.LnEnds.codes_eq _ _ _ _ _ _ _ _ D (args m c)).symm.trans ((Cert.WholeBridge.codes _ _ _ _ _).symm.trans ?_)
  rw [← x_eq, ← ln_eq]
theorem scales : Cert.LnReferenceIdeal.Ref.scA (x m c) (ga m c) (be m c) (ln m c) (g m c) = Cert.WholeIdeal.LnV.scalesR m c := by
  refine (Cert.LnEnds.scales_eq _ _ _ _ _ _ _ _ D (args m c)).symm.trans ((Cert.WholeBridge.scales _ _ _ _ _).symm.trans ?_)
  rw [← x_eq, ← ln_eq]
theorem gain : Cert.LnReferenceIdeal.Ref.dgA (x m c) (ga m c) (be m c) (ln m c) (g m c) = Cert.WholeIdeal.LnV.gainR m c := by
  refine (Cert.LnEnds.gains_eq _ _ _ _ _ _ _ _ D (args m c)).symm.trans ((Cert.WholeBridge.gain _ _ _ _ _ 6).symm.trans ?_)
  rw [← x_eq, ← ln_eq]
theorem shift : Cert.LnReferenceIdeal.Ref.dbA (x m c) (ga m c) (be m c) (ln m c) (g m c) = Cert.WholeIdeal.LnV.shiftR m c := by
  refine (Cert.LnEnds.shifts_eq _ _ _ _ _ _ _ _ D (args m c)).symm.trans ((Cert.WholeBridge.shift _ _ _ _ _ 6).symm.trans ?_)
  rw [← x_eq, ← ln_eq]
theorem da : Cert.WholeReferenceIdeal.Ref.daA (Cert.LnReferenceIdeal.Ref.vvA (x m c) (ga m c) (be m c) (ln m c) (g m c))
    (Cert.LnReferenceIdeal.Ref.scA (x m c) (ga m c) (be m c) (ln m c) (g m c)) (w m c) (ws m c) = Cert.WholeIdeal.End.daR m c := by
  rw [codes m c D, scales m c D]
  rfl

end

/-- From equal arguments both programs end with the same product, codes, scales and gradients. -/
theorem algebraic [hPre : Cert.Pre_in_domain.Facts] [hPreW : Cert.Pre_whole_in_domain.Facts] :
    Cert.algebraic_WholeIdeal_WholeReferenceIdeal_pre_whole_in_domain (hWholeIdeal := Cert.WholeIdeal.Gen.facts)
    (hWholeReferenceIdeal := Cert.WholeReferenceIdeal.Gen.facts) (hPre_whole_in_domain := hPreW) := by
  intro m p m' p' hpre hargs
  refine ⟨fun c => Cert.WholeIdeal.End.daR m c, fun c => Cert.WholeIdeal.LnV.codesR m c, fun c => Cert.WholeIdeal.LnV.scalesR m c,
    fun c => Cert.WholeIdeal.LnV.gainR m c, fun c => Cert.WholeIdeal.LnV.shiftR m c,
    (θ_run (Cert.WholeIdeal.defs (F := Ideal)) _ _).mono
      (fun r h c => ⟨(h c).1.1, (h c).1.2.1, (h c).1.2.2.1, (h c).1.2.2.2.1, (h c).1.2.2.2.2, (h c).2⟩)
      (Cert.WholeIdeal.End.run m p), ?_⟩
  refine (θ_run (Cert.WholeReferenceIdeal.defs (F := Ideal)) _ _).mono (fun r h c => ?_) (Cert.WholeReferenceIdeal.Ref.run m' p')
  obtain ⟨e0, e1, e2, e3, e4, e5, e6⟩ := hargs c
  have D := Cert.LnPre.dom_of (x m c) (ga m c) (be m c) (ln m c) (g m c)
    ((Cert.WholeBridge.pre (x m c) (ln m c) (ga m c) (be m c) (g m c) (w m c) (ws m c)).symm.trans (hpre c))
  obtain ⟨⟨h0, h1, h2, h3, h4⟩, hk⟩ := h c
  have f0 : Cert.WholeReferenceIdeal.Ref.b0 m' c = x m c := e0
  have f1 : Cert.WholeReferenceIdeal.Ref.b1 m' c = ga m c := e1
  have f2 : Cert.WholeReferenceIdeal.Ref.b2 m' c = be m c := e2
  have f3 : Cert.WholeReferenceIdeal.Ref.b3 m' c = ln m c := e3
  have f4 : Cert.WholeReferenceIdeal.Ref.b4 m' c = g m c := e4
  have f5 : Cert.WholeReferenceIdeal.Ref.b5 m' c = w m c := e5
  have f6 : Cert.WholeReferenceIdeal.Ref.b6 m' c = ws m c := e6
  rw [f0, f1, f2, f3, f4] at h1 h2 h3 h4
  rw [f0, f1, f2, f3, f4, f5, f6] at h0
  exact ⟨h0.trans (da m c D), h1.trans (codes m c D), h2.trans (scales m c D), h3.trans (gain m c D), h4.trans (shift m c D), hk⟩

end Cert.Proof.WholeClaim

end
-- ==== Proof.lean ====
/- The claims: the runs of the two calls, of the whole kernel and of the references, and the results of each equal to its reference's. -/
module

public import proofs.«01_k».proof.Defs
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmIdeal.Value
public import proofs.«01_k».proof.Proof.Gen.MmReferenceIdeal
public import proofs.«01_k».proof.Proof.Gen.MmReferenceIdeal.Skeleton
public import proofs.«01_k».proof.Proof.Gen.MmReferenceIdeal.Launch
public import proofs.«01_k».proof.Proof.Gen.MmReferenceIdeal.Points
public import proofs.«01_k».proof.Proof.Gen.MmReferenceIdeal.Frame
public import proofs.«01_k».proof.Proof.Gen.MmReferenceIdeal.Value
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnReferenceIdeal
public import proofs.«01_k».proof.Proof.Gen.LnReferenceIdeal.Skeleton
public import proofs.«01_k».proof.Proof.Gen.LnReferenceIdeal.Launch
public import proofs.«01_k».proof.Proof.Gen.LnReferenceIdeal.Points
public import proofs.«01_k».proof.Proof.Gen.LnReferenceIdeal.Frame
public import proofs.«01_k».proof.Proof.Gen.LnReferenceIdeal.Value
public import proofs.«01_k».proof.Proof.Gen.Whole
public import proofs.«01_k».proof.Proof.Gen.WholeIdeal
public import proofs.«01_k».proof.Proof.WholeRun
public import proofs.«01_k».proof.Proof.WholeIdealRun
public import proofs.«01_k».proof.Proof.Gen.WholeReferenceIdeal
public import proofs.«01_k».proof.Proof.Gen.WholeReferenceIdeal.Skeleton
public import proofs.«01_k».proof.Proof.Gen.WholeReferenceIdeal.Launch
public import proofs.«01_k».proof.Proof.Gen.WholeReferenceIdeal.Points
public import proofs.«01_k».proof.Proof.Gen.WholeReferenceIdeal.Frame
public import proofs.«01_k».proof.Proof.MmClaim
public import proofs.«01_k».proof.Proof.LnPreFacts
public import proofs.«01_k».proof.Proof.LnClaim
public import proofs.«01_k».proof.Proof.WholeClaim
public import Idealize.ShloMosaic.Adequacy
public import Idealize.ShloMosaic.Init

@[expose] public section

noncomputable section

namespace Cert.Proof

open Idealize.ShloMosaic Idealize.SL.Sem Cert.Mm

theorem claim : Cert.Claim := ⟨Cert.Mm.Gen.facts, Cert.MmIdeal.Gen.facts, Cert.MmReferenceIdeal.Gen.facts, Cert.Ln.Gen.facts, Cert.LnIdeal.Gen.facts, Cert.LnReferenceIdeal.Gen.facts,
  Cert.Whole.Gen.facts, Cert.WholeIdeal.Gen.facts, Cert.WholeReferenceIdeal.Gen.facts, Cert.LnPreFacts.facts, Cert.WholeBridge.facts,
  fun m ρ _ => Cert.Mm.Gen.frame m ρ, fun m ρ _ => Cert.MmIdeal.Gen.frame m ρ,
  fun m ρ _ => Cert.MmReferenceIdeal.Gen.frame m ρ, fun m ρ _ => Cert.Ln.Gen.frame m ρ trivial,
  fun m ρ _ => Cert.LnIdeal.Gen.frame m ρ trivial, fun m ρ _ => Cert.LnIdeal.Gen.frame m ρ trivial,
  fun m ρ _ => Cert.LnReferenceIdeal.Gen.frame m ρ, fun m ρ _ => Cert.LnReferenceIdeal.Gen.frame m ρ,
  fun m ρ _ => Cert.Whole.Run.frame m ρ,
  fun m ρ _ => Cert.WholeIdeal.Run.frame m ρ, fun m ρ _ => Cert.WholeIdeal.Run.frame m ρ,
  fun m ρ _ => Cert.WholeReferenceIdeal.Gen.frame m ρ, fun m ρ _ => Cert.WholeReferenceIdeal.Gen.frame m ρ,
  trivial, MmClaim.algebraic, trivial, LnClaim.algebraic (hPre := Cert.LnPreFacts.facts),
  trivial, WholeClaim.algebraic (hPre := Cert.LnPreFacts.facts) (hPreW := Cert.WholeBridge.facts)⟩

end Cert.Proof

end
